-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v25_2)) (v3 : (c : Dev Cert.Kernel3Ideal.nD) → Buf (Elt Ideal) ((c.tc : Thread Cert.Kernel3Ideal.nD Cert.Kernel3Ideal.τ).loc Cert.Kernel3Ideal.main_v25_3)) (v4 : (c : Dev Cert.Kernel3Ideal.nD) → Buf (Elt Ideal) ((c.tc : Thread Cert.Kernel3Ideal.nD Cert.Kernel3Ideal.τ).loc Cert.Kernel3Ideal.main_v25_4)) (v5 : (c : Dev Cert.Kernel3Ideal.nD) → Buf (Elt Ideal) ((c.tc : Thread Cert.Kernel3Ideal.nD Cert.Kernel3Ideal.τ).loc Cert.Kernel3Ideal.main_v25_5)) (v6 : (c : Dev Cert.Kernel3Ideal.nD) → Buf (Elt Ideal) ((c.tc : Thread Cert.Kernel3Ideal.nD Cert.Kernel3Ideal.τ).loc Cert.Kernel3Ideal.main_v25_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v25_2) = v2 c
          ∧ r.2.mem ((c.tc : Thread Cert.Kernel3Ideal.nD Cert.Kernel3Ideal.τ).loc Cert.Kernel3Ideal.main_v25_3) = v3 c
          ∧ r.2.mem ((c.tc : Thread Cert.Kernel3Ideal.nD Cert.Kernel3Ideal.τ).loc Cert.Kernel3Ideal.main_v25_4) = v4 c
          ∧ r.2.mem ((c.tc : Thread Cert.Kernel3Ideal.nD Cert.Kernel3Ideal.τ).loc Cert.Kernel3Ideal.main_v25_5) = v5 c
          ∧ r.2.mem ((c.tc : Thread Cert.Kernel3Ideal.nD Cert.Kernel3Ideal.τ).loc Cert.Kernel3Ideal.main_v25_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_v78) = v1 c
          ∧ r.2.mem ((c.tc : Thread Cert.Reference3Ideal.nD Cert.Reference3Ideal.τ).loc Cert.Reference3Ideal.main_v79) = v2 c
          ∧ r.2.mem ((c.tc : Thread Cert.Reference3Ideal.nD Cert.Reference3Ideal.τ).loc Cert.Reference3Ideal.main_v4) = v3 c
          ∧ r.2.mem ((c.tc : Thread Cert.Reference3Ideal.nD Cert.Reference3Ideal.τ).loc Cert.Reference3Ideal.main_v80) = v4 c
          ∧ r.2.mem ((c.tc : Thread Cert.Reference3Ideal.nD Cert.Reference3Ideal.τ).loc Cert.Reference3Ideal.main_v81) = v5 c
          ∧ r.2.mem ((c.tc : Thread Cert.Reference3Ideal.nD Cert.Reference3Ideal.τ).loc Cert.Reference3Ideal.main_v84) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x16384x512 : Shape := ⟨3, ![2, 16384, 512]⟩
abbrev S64 : Shape := ⟨1, ![64]⟩
abbrev S512 : Shape := ⟨1, ![512]⟩
abbrev S_ : Shape := ⟨0, ![]⟩
abbrev S2x32x512x4x128 : Shape := ⟨5, ![2, 32, 512, 4, 128]⟩
abbrev S2x4x32x128x512 : Shape := ⟨5, ![2, 4, 32, 128, 512]⟩
abbrev S1x64 : Shape := ⟨2, ![1, 64]⟩
abbrev S1x512 : Shape := ⟨2, ![1, 512]⟩
abbrev S1x512x128 : Shape := ⟨3, ![1, 512, 128]⟩
abbrev S1x16384x128 : Shape := ⟨3, ![1, 16384, 128]⟩
abbrev S1x1x32x128x512 : Shape := ⟨5, ![1, 1, 32, 128, 512]⟩
abbrev S1x128 : Shape := ⟨2, ![1, 128]⟩
abbrev S128x1024 : Shape := ⟨2, ![128, 1024]⟩
abbrev S16x128 : Shape := ⟨2, ![16, 128]⟩
abbrev S512x1024 : Shape := ⟨2, ![512, 1024]⟩
abbrev S144x1024 : Shape := ⟨2, ![144, 1024]⟩
abbrev S1x1024 : Shape := ⟨2, ![1, 1024]⟩
abbrev S512x128 : Shape := ⟨2, ![512, 128]⟩
abbrev S16x512 : Shape := ⟨2, ![16, 512]⟩
abbrev S16384x128 : Shape := ⟨2, ![16384, 128]⟩
abbrev S128 : Shape := ⟨1, ![128]⟩
abbrev S128x512 : Shape := ⟨2, ![128, 512]⟩
abbrev S512x512 : Shape := ⟨2, ![512, 512]⟩
abbrev S1x1x1x128x512 : Shape := ⟨5, ![1, 1, 1, 128, 512]⟩
abbrev S144x512 : Shape := ⟨2, ![144, 512]⟩
abbrev S1 : Shape := ⟨1, ![1]⟩
abbrev S1x1 : Shape := ⟨2, ![1, 1]⟩
abbrev S1x1x1024 : Shape := ⟨3, ![1, 1, 1024]⟩
abbrev S1x1x1 : Shape := ⟨3, ![1, 1, 1]⟩
abbrev S1024 : Shape := ⟨1, ![1024]⟩

abbrev nBuf : Space → Nat
  | .hbm => 22
  | .vmem => 26
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S512, .f32⟩
  | .hbm, ⟨8, _⟩ => ⟨S_, .f32⟩
  | .hbm, ⟨9, _⟩ => ⟨S2x16384x512, .f32⟩
  | .hbm, ⟨10, _⟩ => ⟨S2x16384x512, .f32⟩
  | .hbm, ⟨11, _⟩ => ⟨S2x16384x512, .bf16⟩
  | .hbm, ⟨12, _⟩ => ⟨S2x16384x512, .bf16⟩
  | .hbm, ⟨13, _⟩ => ⟨S2x16384x512, .bf16⟩
  | .hbm, ⟨14, _⟩ => ⟨S2x32x512x4x128, .bf16⟩
  | .hbm, ⟨15, _⟩ => ⟨S2x4x32x128x512, .bf16⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x512, .f32⟩
  | .hbm, ⟨21, _⟩ => ⟨S2x16384x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x16384x128, .bf16⟩
  | .local _ .vmem, ⟨9, _⟩ => ⟨S1x16384x128, .bf16⟩
  | .local _ .vmem, ⟨10, _⟩ => ⟨S1x1x32x128x512, .bf16⟩
  | .local _ .vmem, ⟨11, _⟩ => ⟨S1x1x32x128x512, .bf16⟩
  | .local _ .vmem, ⟨12, _⟩ => ⟨S1x128, .f32⟩
  | .local _ .vmem, ⟨13, _⟩ => ⟨S1x128, .f32⟩
  | .local _ .vmem, ⟨14, _⟩ => ⟨S1x512x128, .bf16⟩
  | .local _ .vmem, ⟨15, _⟩ => ⟨S1x512x128, .bf16⟩
  | .local _ .vmem, ⟨16, _⟩ => ⟨S128x1024, .bf16⟩
  | .local _ .vmem, ⟨17, _⟩ => ⟨S16x128, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S144x1024, .f32⟩
  | .local _ .vmem, ⟨22, _⟩ => ⟨S128x1024, .bf16⟩
  | .local _ .vmem, ⟨23, _⟩ => ⟨S512x1024, .f32⟩
  | .local _ .vmem, ⟨24, _⟩ => ⟨S1x1024, .f32⟩
  | .local _ .vmem, ⟨25, _⟩ => ⟨S144x1024, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![2, 4, 32], ![false, false, false]⟩

def k0_cond2 (i : grid0.Coords) : BitVec 1 :=
  let arg2 : BitVec 32 := BitVec.ofNat 32 (i 2).val
  let c0_i32_5 : BitVec 32 := 0#32
  let v15 : BitVec 1 := Scalar.cmpi .eq arg2 c0_i32_5
  let v16 : BitVec 32 := Scalar.extui v15
  let c0_i32_6 : BitVec 32 := 0#32
  let v17 : BitVec 1 := Scalar.cmpi .ne v16 c0_i32_6
  v17

def k0_mult1 : BitVec 32 :=
  let c0_i32_58 : BitVec 32 := 0#32
  c0_i32_58
def k0_mult2 : BitVec 32 :=
  let c0_i32_119 : BitVec 32 := 0#32
  c0_i32_119
def k0_cond3 (i : grid0.Coords) : BitVec 1 :=
  let arg2 : BitVec 32 := BitVec.ofNat 32 (i 2).val
  let c1_i32 : BitVec 32 := 1#32
  let v18 : BitVec 1 := Scalar.cmpi .eq arg2 c1_i32
  let v19 : BitVec 32 := Scalar.extui v18
  let c0_i32_7 : BitVec 32 := 0#32
  let v20 : BitVec 1 := Scalar.cmpi .ne v19 c0_i32_7
  v20

def k0_mult3 : BitVec 32 :=
  let c512_i32 : BitVec 32 := 512#32
  c512_i32
def k0_mult4 : BitVec 32 :=
  let c0_i32_96 : BitVec 32 := 0#32
  c0_i32_96
def k0_cond4 (i : grid0.Coords) : BitVec 1 :=
  let arg2 : BitVec 32 := BitVec.ofNat 32 (i 2).val
  let c2_i32 : BitVec 32 := 2#32
  let v21 : BitVec 1 := Scalar.cmpi .sge arg2 c2_i32
  let v22 : BitVec 32 := Scalar.extui v21
  let c0_i32_8 : BitVec 32 := 0#32
  let v23 : BitVec 1 := Scalar.cmpi .ne v22 c0_i32_8
  v23

def k0_mult5 : BitVec 32 :=
  let c512_i32 : BitVec 32 := 512#32
  c512_i32
@[reducible] def k0_t1_loop (i : grid0.Coords) : Scf.Loop 32 :=
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_77 : BitVec 32 := 1#32
  ⟨c0_i32_75, v150, c1_i32_77⟩
def k0_mult6 (i : grid0.Coords) (k0_t1 : Fin (k0_t1_loop i).trips) : BitVec 32 :=
  let c1_i32_127 : BitVec 32 := 1#32
  let c8_i32_126 : BitVec 32 := 8#32
  let c0_i32_75 : BitVec 32 := 0#32
  let c1_i32_77 : BitVec 32 := 1#32
  let arg23 : BitVec 32 := Scf.iv c0_i32_75 c1_i32_77 k0_t1
  let v235 : BitVec 32 := Scalar.muli c8_i32_126 arg23
  let v236 : BitVec 32 := Scalar.addi c1_i32_127 v235
  let c0_i32_128 : BitVec 32 := 0#32
  let v237 : BitVec 32 := Scalar.addi v236 c0_i32_128
  let c1_i32_129 : BitVec 32 := 1#32
  let v238 : BitVec 32 := Scalar.addi v237 c1_i32_129
  let c512_i32_130 : BitVec 32 := 512#32
  let v239 : BitVec 32 := Scalar.muli v238 c512_i32_130
  v239
def k0_off1 (i : grid0.Coords) (k0_t1 : Fin (k0_t1_loop i).trips) (c0_i32_128 : BitVec 32) : Fin 3 → Nat :=
  let c0_131 : Index := 0#32
  let c1_i32_127 : BitVec 32 := 1#32
  let c8_i32_126 : BitVec 32 := 8#32
  let c0_i32_75 : BitVec 32 := 0#32
  let c1_i32_77 : BitVec 32 := 1#32
  let arg23 : BitVec 32 := Scf.iv c0_i32_75 c1_i32_77 k0_t1
  let v235 : BitVec 32 := Scalar.muli c8_i32_126 arg23
  let v236 : BitVec 32 := Scalar.addi c1_i32_127 v235
  let v237 : BitVec 32 := Scalar.addi v236 c0_i32_128
  let c1_i32_129 : BitVec 32 := 1#32
  let v238 : BitVec 32 := Scalar.addi v237 c1_i32_129
  let c512_i32_130 : BitVec 32 := 512#32
  let v239 : BitVec 32 := Scalar.muli v238 c512_i32_130
  let v240 : BitVec 32 := v239
  let v241 : Index := Scalar.indexCast v240
  let c0_132 : Index := 0#32
  ![0, v241.toNat, 0]
def k0_off2 (i : grid0.Coords) (k0_t1 : Fin (k0_t1_loop i).trips) (c0_i32_151 : BitVec 32) : Fin 5 → Nat :=
  let c0_152 : Index := 0#32
  let c0_153 : Index := 0#32
  let c1_i32_127 : BitVec 32 := 1#32
  let c8_i32_126 : BitVec 32 := 8#32
  let c0_i32_75 : BitVec 32 := 0#32
  let c1_i32_77 : BitVec 32 := 1#32
  let arg23 : BitVec 32 := Scf.iv c0_i32_75 c1_i32_77 k0_t1
  let v235 : BitVec 32 := Scalar.muli c8_i32_126 arg23
  let v236 : BitVec 32 := Scalar.addi c1_i32_127 v235
  let v276 : BitVec 32 := Scalar.addi v236 c0_i32_151
  let v277 : Index := Scalar.indexCast v276
  let c0_154 : Index := 0#32
  let c0_155 : Index := 0#32
  ![0, 0, v277.toNat, 0, 0]
def k0_mult7 (i : grid0.Coords) (k0_t1 : Fin (k0_t1_loop i).trips) : BitVec 32 :=
  let c1_i32_127 : BitVec 32 := 1#32
  let c8_i32_126 : BitVec 32 := 8#32
  let c0_i32_75 : BitVec 32 := 0#32
  let c1_i32_77 : BitVec 32 := 1#32
  let arg23 : BitVec 32 := Scf.iv c0_i32_75 c1_i32_77 k0_t1
  let v235 : BitVec 32 := Scalar.muli c8_i32_126 arg23
  let v236 : BitVec 32 := Scalar.addi c1_i32_127 v235
  let c1_i32_163 : BitVec 32 := 1#32
  let v288 : BitVec 32 := Scalar.addi v236 c1_i32_163
  let c1_i32_164 : BitVec 32 := 1#32
  let v289 : BitVec 32 := Scalar.addi v288 c1_i32_164
  let c512_i32_165 : BitVec 32 := 512#32
  let v290 : BitVec 32 := Scalar.muli v289 c512_i32_165
  v290
def k0_mult8 (i : grid0.Coords) (k0_t1 : Fin (k0_t1_loop i).trips) : BitVec 32 :=
  let c1_i32_127 : BitVec 32 := 1#32
  let c8_i32_126 : BitVec 32 := 8#32
  let c0_i32_75 : BitVec 32 := 0#32
  let c1_i32_77 : BitVec 32 := 1#32
  let arg23 : BitVec 32 := Scf.iv c0_i32_75 c1_i32_77 k0_t1
  let v235 : BitVec 32 := Scalar.muli c8_i32_126 arg23
  let v236 : BitVec 32 := Scalar.addi c1_i32_127 v235
  let c2_i32_198 : BitVec 32 := 2#32
  let v339 : BitVec 32 := Scalar.addi v236 c2_i32_198
  let c1_i32_199 : BitVec 32 := 1#32
  let v340 : BitVec 32 := Scalar.addi v339 c1_i32_199
  let c512_i32_200 : BitVec 32 := 512#32
  let v341 : BitVec 32 := Scalar.muli v340 c512_i32_200
  v341
def k0_mult9 (i : grid0.Coords) (k0_t1 : Fin (k0_t1_loop i).trips) : BitVec 32 :=
  let c1_i32_127 : BitVec 32 := 1#32
  let c8_i32_126 : BitVec 32 := 8#32
  let c0_i32_75 : BitVec 32 := 0#32
  let c1_i32_77 : BitVec 32 := 1#32
  let arg23 : BitVec 32 := Scf.iv c0_i32_75 c1_i32_77 k0_t1
  let v235 : BitVec 32 := Scalar.muli c8_i32_126 arg23
  let v236 : BitVec 32 := Scalar.addi c1_i32_127 v235
  let c3_i32_233 : BitVec 32 := 3#32
  let v390 : BitVec 32 := Scalar.addi v236 c3_i32_233
  let c1_i32_234 : BitVec 32 := 1#32
  let v391 : BitVec 32 := Scalar.addi v390 c1_i32_234
  let c512_i32_235 : BitVec 32 := 512#32
  let v392 : BitVec 32 := Scalar.muli v391 c512_i32_235
  v392
def k0_mult10 (i : grid0.Coords) (k0_t1 : Fin (k0_t1_loop i).trips) : BitVec 32 :=
  let c1_i32_127 : BitVec 32 := 1#32
  let c8_i32_126 : BitVec 32 := 8#32
  let c0_i32_75 : BitVec 32 := 0#32
  let c1_i32_77 : BitVec 32 := 1#32
  let arg23 : BitVec 32 := Scf.iv c0_i32_75 c1_i32_77 k0_t1
  let v235 : BitVec 32 := Scalar.muli c8_i32_126 arg23
  let v236 : BitVec 32 := Scalar.addi c1_i32_127 v235
  let c4_i32_268 : BitVec 32 := 4#32
  let v441 : BitVec 32 := Scalar.addi v236 c4_i32_268
  let c1_i32_269 : BitVec 32 := 1#32
  let v442 : BitVec 32 := Scalar.addi v441 c1_i32_269
  let c512_i32_270 : BitVec 32 := 512#32
  let v443 : BitVec 32 := Scalar.muli v442 c512_i32_270
  v443
def k0_mult11 (i : grid0.Coords) (k0_t1 : Fin (k0_t1_loop i).trips) : BitVec 32 :=
  let c1_i32_127 : BitVec 32 := 1#32
  let c8_i32_126 : BitVec 32 := 8#32
  let c0_i32_75 : BitVec 32 := 0#32
  let c1_i32_77 : BitVec 32 := 1#32
  let arg23 : BitVec 32 := Scf.iv c0_i32_75 c1_i32_77 k0_t1
  let v235 : BitVec 32 := Scalar.muli c8_i32_126 arg23
  let v236 : BitVec 32 := Scalar.addi c1_i32_127 v235
  let c5_i32 : BitVec 32 := 5#32
  let v492 : BitVec 32 := Scalar.addi v236 c5_i32
  let c1_i32_303 : BitVec 32 := 1#32
  let v493 : BitVec 32 := Scalar.addi v492 c1_i32_303
  let c512_i32_304 : BitVec 32 := 512#32
  let v494 : BitVec 32 := Scalar.muli v493 c512_i32_304
  v494
def k0_mult12 (i : grid0.Coords) (k0_t1 : Fin (k0_t1_loop i).trips) : BitVec 32 :=
  let c1_i32_127 : BitVec 32 := 1#32
  let c8_i32_126 : BitVec 32 := 8#32
  let c0_i32_75 : BitVec 32 := 0#32
  let c1_i32_77 : BitVec 32 := 1#32
  let arg23 : BitVec 32 := Scf.iv c0_i32_75 c1_i32_77 k0_t1
  let v235 : BitVec 32 := Scalar.muli c8_i32_126 arg23
  let v236 : BitVec 32 := Scalar.addi c1_i32_127 v235
  let c6_i32 : BitVec 32 := 6#32
  let v543 : BitVec 32 := Scalar.addi v236 c6_i32
  let c1_i32_337 : BitVec 32 := 1#32
  let v544 : BitVec 32 := Scalar.addi v543 c1_i32_337
  let c512_i32_338 : BitVec 32 := 512#32
  let v545 : BitVec 32 := Scalar.muli v544 c512_i32_338
  v545
def k0_mult13 (i : grid0.Coords) (k0_t1 : Fin (k0_t1_loop i).trips) : BitVec 32 :=
  let c1_i32_127 : BitVec 32 := 1#32
  let c8_i32_126 : BitVec 32 := 8#32
  let c0_i32_75 : BitVec 32 := 0#32
  let c1_i32_77 : BitVec 32 := 1#32
  let arg23 : BitVec 32 := Scf.iv c0_i32_75 c1_i32_77 k0_t1
  let v235 : BitVec 32 := Scalar.muli c8_i32_126 arg23
  let v236 : BitVec 32 := Scalar.addi c1_i32_127 v235
  let c7_i32 : BitVec 32 := 7#32
  let v594 : BitVec 32 := Scalar.addi v236 c7_i32
  let c1_i32_371 : BitVec 32 := 1#32
  let v595 : BitVec 32 := Scalar.addi v594 c1_i32_371
  let c512_i32_372 : BitVec 32 := 512#32
  let v596 : BitVec 32 := Scalar.muli v595 c512_i32_372
  v596
@[reducible] def k0_t2_loop (i : grid0.Coords) : Scf.Loop 32 :=
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let v147 : BitVec 32 := Scalar.addi c0_i32_75 v146
  let c1_i32_78 : BitVec 32 := 1#32
  ⟨v150, v147, c1_i32_78⟩
def k0_mult14 (i : grid0.Coords) (k0_t2 : Fin (k0_t2_loop i).trips) : BitVec 32 :=
  let c1_i32_127 : BitVec 32 := 1#32
  let c8_i32_126 : BitVec 32 := 8#32
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_78 : BitVec 32 := 1#32
  let arg23 : BitVec 32 := Scf.iv v150 c1_i32_78 k0_t2
  let v235 : BitVec 32 := Scalar.muli c8_i32_126 arg23
  let v236 : BitVec 32 := Scalar.addi c1_i32_127 v235
  let c0_i32_128 : BitVec 32 := 0#32
  let v237 : BitVec 32 := Scalar.addi v236 c0_i32_128
  let c1_i32_129 : BitVec 32 := 1#32
  let v238 : BitVec 32 := Scalar.addi v237 c1_i32_129
  let c512_i32_130 : BitVec 32 := 512#32
  let v239 : BitVec 32 := Scalar.muli v238 c512_i32_130
  v239
def k0_off3 (i : grid0.Coords) (k0_t2 : Fin (k0_t2_loop i).trips) (c0_i32_128 : BitVec 32) : Fin 3 → Nat :=
  let c0_131 : Index := 0#32
  let c1_i32_127 : BitVec 32 := 1#32
  let c8_i32_126 : BitVec 32 := 8#32
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_78 : BitVec 32 := 1#32
  let arg23 : BitVec 32 := Scf.iv v150 c1_i32_78 k0_t2
  let v235 : BitVec 32 := Scalar.muli c8_i32_126 arg23
  let v236 : BitVec 32 := Scalar.addi c1_i32_127 v235
  let v237 : BitVec 32 := Scalar.addi v236 c0_i32_128
  let c1_i32_129 : BitVec 32 := 1#32
  let v238 : BitVec 32 := Scalar.addi v237 c1_i32_129
  let c512_i32_130 : BitVec 32 := 512#32
  let v239 : BitVec 32 := Scalar.muli v238 c512_i32_130
  let v240 : BitVec 32 := v239
  let v241 : Index := Scalar.indexCast v240
  let c0_132 : Index := 0#32
  ![0, v241.toNat, 0]
def k0_off4 (i : grid0.Coords) (k0_t2 : Fin (k0_t2_loop i).trips) (c0_i32_151 : BitVec 32) : Fin 5 → Nat :=
  let c0_152 : Index := 0#32
  let c0_153 : Index := 0#32
  let c1_i32_127 : BitVec 32 := 1#32
  let c8_i32_126 : BitVec 32 := 8#32
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_78 : BitVec 32 := 1#32
  let arg23 : BitVec 32 := Scf.iv v150 c1_i32_78 k0_t2
  let v235 : BitVec 32 := Scalar.muli c8_i32_126 arg23
  let v236 : BitVec 32 := Scalar.addi c1_i32_127 v235
  let v276 : BitVec 32 := Scalar.addi v236 c0_i32_151
  let v277 : Index := Scalar.indexCast v276
  let c0_154 : Index := 0#32
  let c0_155 : Index := 0#32
  ![0, 0, v277.toNat, 0, 0]
def k0_mult15 (i : grid0.Coords) (k0_t2 : Fin (k0_t2_loop i).trips) : BitVec 32 :=
  let c1_i32_127 : BitVec 32 := 1#32
  let c8_i32_126 : BitVec 32 := 8#32
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_78 : BitVec 32 := 1#32
  let arg23 : BitVec 32 := Scf.iv v150 c1_i32_78 k0_t2
  let v235 : BitVec 32 := Scalar.muli c8_i32_126 arg23
  let v236 : BitVec 32 := Scalar.addi c1_i32_127 v235
  let c1_i32_163 : BitVec 32 := 1#32
  let v288 : BitVec 32 := Scalar.addi v236 c1_i32_163
  let c1_i32_164 : BitVec 32 := 1#32
  let v289 : BitVec 32 := Scalar.addi v288 c1_i32_164
  let c512_i32_165 : BitVec 32 := 512#32
  let v290 : BitVec 32 := Scalar.muli v289 c512_i32_165
  v290
def k0_mult16 (i : grid0.Coords) (k0_t2 : Fin (k0_t2_loop i).trips) : BitVec 32 :=
  let c1_i32_127 : BitVec 32 := 1#32
  let c8_i32_126 : BitVec 32 := 8#32
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_78 : BitVec 32 := 1#32
  let arg23 : BitVec 32 := Scf.iv v150 c1_i32_78 k0_t2
  let v235 : BitVec 32 := Scalar.muli c8_i32_126 arg23
  let v236 : BitVec 32 := Scalar.addi c1_i32_127 v235
  let c2_i32_198 : BitVec 32 := 2#32
  let v339 : BitVec 32 := Scalar.addi v236 c2_i32_198
  let c1_i32_199 : BitVec 32 := 1#32
  let v340 : BitVec 32 := Scalar.addi v339 c1_i32_199
  let c512_i32_200 : BitVec 32 := 512#32
  let v341 : BitVec 32 := Scalar.muli v340 c512_i32_200
  v341
def k0_mult17 (i : grid0.Coords) (k0_t2 : Fin (k0_t2_loop i).trips) : BitVec 32 :=
  let c1_i32_127 : BitVec 32 := 1#32
  let c8_i32_126 : BitVec 32 := 8#32
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_78 : BitVec 32 := 1#32
  let arg23 : BitVec 32 := Scf.iv v150 c1_i32_78 k0_t2
  let v235 : BitVec 32 := Scalar.muli c8_i32_126 arg23
  let v236 : BitVec 32 := Scalar.addi c1_i32_127 v235
  let c3_i32_233 : BitVec 32 := 3#32
  let v390 : BitVec 32 := Scalar.addi v236 c3_i32_233
  let c1_i32_234 : BitVec 32 := 1#32
  let v391 : BitVec 32 := Scalar.addi v390 c1_i32_234
  let c512_i32_235 : BitVec 32 := 512#32
  let v392 : BitVec 32 := Scalar.muli v391 c512_i32_235
  v392
def k0_mult18 (i : grid0.Coords) (k0_t2 : Fin (k0_t2_loop i).trips) : BitVec 32 :=
  let c1_i32_127 : BitVec 32 := 1#32
  let c8_i32_126 : BitVec 32 := 8#32
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_78 : BitVec 32 := 1#32
  let arg23 : BitVec 32 := Scf.iv v150 c1_i32_78 k0_t2
  let v235 : BitVec 32 := Scalar.muli c8_i32_126 arg23
  let v236 : BitVec 32 := Scalar.addi c1_i32_127 v235
  let c4_i32_268 : BitVec 32 := 4#32
  let v441 : BitVec 32 := Scalar.addi v236 c4_i32_268
  let c1_i32_269 : BitVec 32 := 1#32
  let v442 : BitVec 32 := Scalar.addi v441 c1_i32_269
  let c512_i32_270 : BitVec 32 := 512#32
  let v443 : BitVec 32 := Scalar.muli v442 c512_i32_270
  v443
def k0_mult19 (i : grid0.Coords) (k0_t2 : Fin (k0_t2_loop i).trips) : BitVec 32 :=
  let c1_i32_127 : BitVec 32 := 1#32
  let c8_i32_126 : BitVec 32 := 8#32
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_78 : BitVec 32 := 1#32
  let arg23 : BitVec 32 := Scf.iv v150 c1_i32_78 k0_t2
  let v235 : BitVec 32 := Scalar.muli c8_i32_126 arg23
  let v236 : BitVec 32 := Scalar.addi c1_i32_127 v235
  let c5_i32 : BitVec 32 := 5#32
  let v492 : BitVec 32 := Scalar.addi v236 c5_i32
  let c1_i32_303 : BitVec 32 := 1#32
  let v493 : BitVec 32 := Scalar.addi v492 c1_i32_303
  let c512_i32_304 : BitVec 32 := 512#32
  let v494 : BitVec 32 := Scalar.muli v493 c512_i32_304
  v494
def k0_mult20 (i : grid0.Coords) (k0_t2 : Fin (k0_t2_loop i).trips) : BitVec 32 :=
  let c1_i32_127 : BitVec 32 := 1#32
  let c8_i32_126 : BitVec 32 := 8#32
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_78 : BitVec 32 := 1#32
  let arg23 : BitVec 32 := Scf.iv v150 c1_i32_78 k0_t2
  let v235 : BitVec 32 := Scalar.muli c8_i32_126 arg23
  let v236 : BitVec 32 := Scalar.addi c1_i32_127 v235
  let c6_i32 : BitVec 32 := 6#32
  let v543 : BitVec 32 := Scalar.addi v236 c6_i32
  let c1_i32_337 : BitVec 32 := 1#32
  let v544 : BitVec 32 := Scalar.addi v543 c1_i32_337
  let c512_i32_338 : BitVec 32 := 512#32
  let v545 : BitVec 32 := Scalar.muli v544 c512_i32_338
  v545
def k0_mult21 (i : grid0.Coords) (k0_t2 : Fin (k0_t2_loop i).trips) : BitVec 32 :=
  let c1_i32_127 : BitVec 32 := 1#32
  let c8_i32_126 : BitVec 32 := 8#32
  let c0_i32_75 : BitVec 32 := 0#32
  let arg2 : BitVec 32 := BitVec.ofNat 32 (i 2).val
  let c2_i32_67 : BitVec 32 := 2#32
  let v128 : BitVec 32 := Scalar.subi arg2 c2_i32_67
  let c0_i32_68 : BitVec 32 := 0#32
  let v130 : BitVec 1 := Scalar.cmpi .sgt v128 c0_i32_68
  let v131 : BitVec 32 := Scalar.extui v130
  let c0_i32_69 : BitVec 32 := 0#32
  let v132 : BitVec 1 := Scalar.cmpi .slt v128 c0_i32_69
  let v133 : BitVec 32 := Scalar.extui v132
  let v134 : BitVec 32 := Scalar.subi v131 v133
  let c8_i32 : BitVec 32 := 8#32
  let c0_i32_70 : BitVec 32 := 0#32
  let v135 : BitVec 1 := Scalar.cmpi .sgt c8_i32 c0_i32_70
  let v136 : BitVec 32 := Scalar.extui v135
  let c0_i32_71 : BitVec 32 := 0#32
  let v137 : BitVec 1 := Scalar.cmpi .slt c8_i32 c0_i32_71
  let v138 : BitVec 32 := Scalar.extui v137
  let v139 : BitVec 32 := Scalar.subi v136 v138
  let v140 : BitVec 1 := Scalar.cmpi .ne v134 v139
  let v141 : BitVec 32 := Scalar.remsi v128 c8_i32
  let c0_i32_72 : BitVec 32 := 0#32
  let v142 : BitVec 1 := Scalar.cmpi .ne v141 c0_i32_72
  let v143 : BitVec 1 := Scalar.andi v140 v142
  let v129 : BitVec 32 := Scalar.divsi v128 c8_i32
  let c1_i32_73 : BitVec 32 := 1#32
  let v144 : BitVec 32 := Scalar.subi v129 c1_i32_73
  let v145 : BitVec 32 := Scalar.select v143 v144 v129
  let v146 : BitVec 32 := Scalar.subi v145 c0_i32_75
  let c1_i32_76 : BitVec 32 := 1#32
  let v148 : BitVec 32 := Scalar.divsi v146 c1_i32_76
  let v149 : BitVec 32 := Scalar.muli v148 c1_i32_76
  let v150 : BitVec 32 := Scalar.addi c0_i32_75 v149
  let c1_i32_78 : BitVec 32 := 1#32
  let arg23 : BitVec 32 := Scf.iv v150 c1_i32_78 k0_t2
  let v235 : BitVec 32 := Scalar.muli c8_i32_126 arg23
  let v236 : BitVec 32 := Scalar.addi c1_i32_127 v235
  let c7_i32 : BitVec 32 := 7#32
  let v594 : BitVec 32 := Scalar.addi v236 c7_i32
  let c1_i32_371 : BitVec 32 := 1#32
  let v595 : BitVec 32 := Scalar.addi v594 c1_i32_371
  let c512_i32_372 : BitVec 32 := 512#32
  let v596 : BitVec 32 := Scalar.muli v595 c512_i32_372
  v596
def k0_cond5 (i : grid0.Coords) : BitVec 1 :=
  let arg2 : BitVec 32 := BitVec.ofNat 32 (i 2).val
  let c2_i32_67 : BitVec 32 := 2#32
  let v128 : BitVec 32 := Scalar.subi arg2 c2_i32_67
  let c8_i32_79 : BitVec 32 := 8#32
  let c0_i32_80 : BitVec 32 := 0#32
  let v151 : BitVec 1 := Scalar.cmpi .eq c8_i32_79 c0_i32_80
  let c1_i32_81 : BitVec 32 := 1#32
  let v152 : BitVec 32 := Scalar.select v151 c1_i32_81 c8_i32_79
  let v153 : BitVec 32 := Scalar.remsi v128 v152
  let c0_i32_83 : BitVec 32 := 0#32
  let v155 : BitVec 1 := Scalar.cmpi .slt v153 c0_i32_83
  let c0_i32_84 : BitVec 32 := 0#32
  let v156 : BitVec 1 := Scalar.cmpi .slt v152 c0_i32_84
  let v157 : BitVec 1 := Scalar.xori v155 v156
  let c0_i32_82 : BitVec 32 := 0#32
  let v154 : BitVec 1 := Scalar.cmpi .ne v153 c0_i32_82
  let v158 : BitVec 1 := Scalar.andi v157 v154
  let v159 : BitVec 32 := Scalar.addi v153 v152
  let v160 : BitVec 32 := Scalar.select v158 v159 v153
  let c4_i32 : BitVec 32 := 4#32
  let v161 : BitVec 1 := Scalar.cmpi .sge v160 c4_i32
  let v162 : BitVec 32 := Scalar.extui v161
  let c0_i32_85 : BitVec 32 := 0#32
  let v163 : BitVec 1 := Scalar.cmpi .ne v162 c0_i32_85
  v163

def k0_mult22 (i : grid0.Coords) : BitVec 32 :=
  let c1_i32_134 : BitVec 32 := 1#32
  let c8_i32_133 : BitVec 32 := 8#32
  let arg2 : BitVec 32 := BitVec.ofNat 32 (i 2).val
  let c2_i32_67 : BitVec 32 := 2#32
  let v128 : BitVec 32 := Scalar.subi arg2 c2_i32_67
  let c0_i32_127 : BitVec 32 := 0#32
  let v236 : BitVec 1 := Scalar.cmpi .sgt v128 c0_i32_127
  let v237 : BitVec 32 := Scalar.extui v236
  let c0_i32_128 : BitVec 32 := 0#32
  let v238 : BitVec 1 := Scalar.cmpi .slt v128 c0_i32_128
  let v239 : BitVec 32 := Scalar.extui v238
  let v240 : BitVec 32 := Scalar.subi v237 v239
  let c8_i32_126 : BitVec 32 := 8#32
  let c0_i32_129 : BitVec 32 := 0#32
  let v241 : BitVec 1 := Scalar.cmpi .sgt c8_i32_126 c0_i32_129
  let v242 : BitVec 32 := Scalar.extui v241
  let c0_i32_130 : BitVec 32 := 0#32
  let v243 : BitVec 1 := Scalar.cmpi .slt c8_i32_126 c0_i32_130
  let v244 : BitVec 32 := Scalar.extui v243
  let v245 : BitVec 32 := Scalar.subi v242 v244
  let v246 : BitVec 1 := Scalar.cmpi .ne v240 v245
  let v247 : BitVec 32 := Scalar.remsi v128 c8_i32_126
  let c0_i32_131 : BitVec 32 := 0#32
  let v248 : BitVec 1 := Scalar.cmpi .ne v247 c0_i32_131
  let v249 : BitVec 1 := Scalar.andi v246 v248
  let v235 : BitVec 32 := Scalar.divsi v128 c8_i32_126
  let c1_i32_132 : BitVec 32 := 1#32
  let v250 : BitVec 32 := Scalar.subi v235 c1_i32_132
  let v251 : BitVec 32 := Scalar.select v249 v250 v235
  let v252 : BitVec 32 := Scalar.muli c8_i32_133 v251
  let v253 : BitVec 32 := Scalar.addi c1_i32_134 v252
  let c0_i32_135 : BitVec 32 := 0#32
  let v254 : BitVec 32 := Scalar.addi v253 c0_i32_135
  let c1_i32_136 : BitVec 32 := 1#32
  let v255 : BitVec 32 := Scalar.addi v254 c1_i32_136
  let c512_i32_137 : BitVec 32 := 512#32
  let v256 : BitVec 32 := Scalar.muli v255 c512_i32_137
  v256
def k0_off5 (i : grid0.Coords) (c0_i32_135 : BitVec 32) : Fin 3 → Nat :=
  let c0_138 : Index := 0#32
  let c1_i32_134 : BitVec 32 := 1#32
  let c8_i32_133 : BitVec 32 := 8#32
  let arg2 : BitVec 32 := BitVec.ofNat 32 (i 2).val
  let c2_i32_67 : BitVec 32 := 2#32
  let v128 : BitVec 32 := Scalar.subi arg2 c2_i32_67
  let c0_i32_127 : BitVec 32 := 0#32
  let v236 : BitVec 1 := Scalar.cmpi .sgt v128 c0_i32_127
  let v237 : BitVec 32 := Scalar.extui v236
  let c0_i32_128 : BitVec 32 := 0#32
  let v238 : BitVec 1 := Scalar.cmpi .slt v128 c0_i32_128
  let v239 : BitVec 32 := Scalar.extui v238
  let v240 : BitVec 32 := Scalar.subi v237 v239
  let c8_i32_126 : BitVec 32 := 8#32
  let c0_i32_129 : BitVec 32 := 0#32
  let v241 : BitVec 1 := Scalar.cmpi .sgt c8_i32_126 c0_i32_129
  let v242 : BitVec 32 := Scalar.extui v241
  let c0_i32_130 : BitVec 32 := 0#32
  let v243 : BitVec 1 := Scalar.cmpi .slt c8_i32_126 c0_i32_130
  let v244 : BitVec 32 := Scalar.extui v243
  let v245 : BitVec 32 := Scalar.subi v242 v244
  let v246 : BitVec 1 := Scalar.cmpi .ne v240 v245
  let v247 : BitVec 32 := Scalar.remsi v128 c8_i32_126
  let c0_i32_131 : BitVec 32 := 0#32
  let v248 : BitVec 1 := Scalar.cmpi .ne v247 c0_i32_131
  let v249 : BitVec 1 := Scalar.andi v246 v248
  let v235 : BitVec 32 := Scalar.divsi v128 c8_i32_126
  let c1_i32_132 : BitVec 32 := 1#32
  let v250 : BitVec 32 := Scalar.subi v235 c1_i32_132
  let v251 : BitVec 32 := Scalar.select v249 v250 v235
  let v252 : BitVec 32 := Scalar.muli c8_i32_133 v251
  let v253 : BitVec 32 := Scalar.addi c1_i32_134 v252
  let v254 : BitVec 32 := Scalar.addi v253 c0_i32_135
  let c1_i32_136 : BitVec 32 := 1#32
  let v255 : BitVec 32 := Scalar.addi v254 c1_i32_136
  let c512_i32_137 : BitVec 32 := 512#32
  let v256 : BitVec 32 := Scalar.muli v255 c512_i32_137
  let v257 : BitVec 32 := v256
  let v258 : Index := Scalar.indexCast v257
  let c0_139 : Index := 0#32
  ![0, v258.toNat, 0]
def k0_off6 (i : grid0.Coords) (c0_i32_158 : BitVec 32) : Fin 5 → Nat :=
  let c0_159 : Index := 0#32
  let c0_160 : Index := 0#32
  let c1_i32_134 : BitVec 32 := 1#32
  let c8_i32_133 : BitVec 32 := 8#32
  let arg2 : BitVec 32 := BitVec.ofNat 32 (i 2).val
  let c2_i32_67 : BitVec 32 := 2#32
  let v128 : BitVec 32 := Scalar.subi arg2 c2_i32_67
  let c0_i32_127 : BitVec 32 := 0#32
  let v236 : BitVec 1 := Scalar.cmpi .sgt v128 c0_i32_127
  let v237 : BitVec 32 := Scalar.extui v236
  let c0_i32_128 : BitVec 32 := 0#32
  let v238 : BitVec 1 := Scalar.cmpi .slt v128 c0_i32_128
  let v239 : BitVec 32 := Scalar.extui v238
  let v240 : BitVec 32 := Scalar.subi v237 v239
  let c8_i32_126 : BitVec 32 := 8#32
  let c0_i32_129 : BitVec 32 := 0#32
  let v241 : BitVec 1 := Scalar.cmpi .sgt c8_i32_126 c0_i32_129
  let v242 : BitVec 32 := Scalar.extui v241
  let c0_i32_130 : BitVec 32 := 0#32
  let v243 : BitVec 1 := Scalar.cmpi .slt c8_i32_126 c0_i32_130
  let v244 : BitVec 32 := Scalar.extui v243
  let v245 : BitVec 32 := Scalar.subi v242 v244
  let v246 : BitVec 1 := Scalar.cmpi .ne v240 v245
  let v247 : BitVec 32 := Scalar.remsi v128 c8_i32_126
  let c0_i32_131 : BitVec 32 := 0#32
  let v248 : BitVec 1 := Scalar.cmpi .ne v247 c0_i32_131
  let v249 : BitVec 1 := Scalar.andi v246 v248
  let v235 : BitVec 32 := Scalar.divsi v128 c8_i32_126
  let c1_i32_132 : BitVec 32 := 1#32
  let v250 : BitVec 32 := Scalar.subi v235 c1_i32_132
  let v251 : BitVec 32 := Scalar.select v249 v250 v235
  let v252 : BitVec 32 := Scalar.muli c8_i32_133 v251
  let v253 : BitVec 32 := Scalar.addi c1_i32_134 v252
  let v293 : BitVec 32 := Scalar.addi v253 c0_i32_158
  let v294 : Index := Scalar.indexCast v293
  let c0_161 : Index := 0#32
  let c0_162 : Index := 0#32
  ![0, 0, v294.toNat, 0, 0]
def k0_mult23 (i : grid0.Coords) : BitVec 32 :=
  let c1_i32_134 : BitVec 32 := 1#32
  let c8_i32_133 : BitVec 32 := 8#32
  let arg2 : BitVec 32 := BitVec.ofNat 32 (i 2).val
  let c2_i32_67 : BitVec 32 := 2#32
  let v128 : BitVec 32 := Scalar.subi arg2 c2_i32_67
  let c0_i32_127 : BitVec 32 := 0#32
  let v236 : BitVec 1 := Scalar.cmpi .sgt v128 c0_i32_127
  let v237 : BitVec 32 := Scalar.extui v236
  let c0_i32_128 : BitVec 32 := 0#32
  let v238 : BitVec 1 := Scalar.cmpi .slt v128 c0_i32_128
  let v239 : BitVec 32 := Scalar.extui v238
  let v240 : BitVec 32 := Scalar.subi v237 v239
  let c8_i32_126 : BitVec 32 := 8#32
  let c0_i32_129 : BitVec 32 := 0#32
  let v241 : BitVec 1 := Scalar.cmpi .sgt c8_i32_126 c0_i32_129
  let v242 : BitVec 32 := Scalar.extui v241
  let c0_i32_130 : BitVec 32 := 0#32
  let v243 : BitVec 1 := Scalar.cmpi .slt c8_i32_126 c0_i32_130
  let v244 : BitVec 32 := Scalar.extui v243
  let v245 : BitVec 32 := Scalar.subi v242 v244
  let v246 : BitVec 1 := Scalar.cmpi .ne v240 v245
  let v247 : BitVec 32 := Scalar.remsi v128 c8_i32_126
  let c0_i32_131 : BitVec 32 := 0#32
  let v248 : BitVec 1 := Scalar.cmpi .ne v247 c0_i32_131
  let v249 : BitVec 1 := Scalar.andi v246 v248
  let v235 : BitVec 32 := Scalar.divsi v128 c8_i32_126
  let c1_i32_132 : BitVec 32 := 1#32
  let v250 : BitVec 32 := Scalar.subi v235 c1_i32_132
  let v251 : BitVec 32 := Scalar.select v249 v250 v235
  let v252 : BitVec 32 := Scalar.muli c8_i32_133 v251
  let v253 : BitVec 32 := Scalar.addi c1_i32_134 v252
  let c1_i32_170 : BitVec 32 := 1#32
  let v305 : BitVec 32 := Scalar.addi v253 c1_i32_170
  let c1_i32_171 : BitVec 32 := 1#32
  let v306 : BitVec 32 := Scalar.addi v305 c1_i32_171
  let c512_i32_172 : BitVec 32 := 512#32
  let v307 : BitVec 32 := Scalar.muli v306 c512_i32_172
  v307
def k0_mult24 (i : grid0.Coords) : BitVec 32 :=
  let c1_i32_134 : BitVec 32 := 1#32
  let c8_i32_133 : BitVec 32 := 8#32
  let arg2 : BitVec 32 := BitVec.ofNat 32 (i 2).val
  let c2_i32_67 : BitVec 32 := 2#32
  let v128 : BitVec 32 := Scalar.subi arg2 c2_i32_67
  let c0_i32_127 : BitVec 32 := 0#32
  let v236 : BitVec 1 := Scalar.cmpi .sgt v128 c0_i32_127
  let v237 : BitVec 32 := Scalar.extui v236
  let c0_i32_128 : BitVec 32 := 0#32
  let v238 : BitVec 1 := Scalar.cmpi .slt v128 c0_i32_128
  let v239 : BitVec 32 := Scalar.extui v238
  let v240 : BitVec 32 := Scalar.subi v237 v239
  let c8_i32_126 : BitVec 32 := 8#32
  let c0_i32_129 : BitVec 32 := 0#32
  let v241 : BitVec 1 := Scalar.cmpi .sgt c8_i32_126 c0_i32_129
  let v242 : BitVec 32 := Scalar.extui v241
  let c0_i32_130 : BitVec 32 := 0#32
  let v243 : BitVec 1 := Scalar.cmpi .slt c8_i32_126 c0_i32_130
  let v244 : BitVec 32 := Scalar.extui v243
  let v245 : BitVec 32 := Scalar.subi v242 v244
  let v246 : BitVec 1 := Scalar.cmpi .ne v240 v245
  let v247 : BitVec 32 := Scalar.remsi v128 c8_i32_126
  let c0_i32_131 : BitVec 32 := 0#32
  let v248 : BitVec 1 := Scalar.cmpi .ne v247 c0_i32_131
  let v249 : BitVec 1 := Scalar.andi v246 v248
  let v235 : BitVec 32 := Scalar.divsi v128 c8_i32_126
  let c1_i32_132 : BitVec 32 := 1#32
  let v250 : BitVec 32 := Scalar.subi v235 c1_i32_132
  let v251 : BitVec 32 := Scalar.select v249 v250 v235
  let v252 : BitVec 32 := Scalar.muli c8_i32_133 v251
  let v253 : BitVec 32 := Scalar.addi c1_i32_134 v252
  let c2_i32_205 : BitVec 32 := 2#32
  let v356 : BitVec 32 := Scalar.addi v253 c2_i32_205
  let c1_i32_206 : BitVec 32 := 1#32
  let v357 : BitVec 32 := Scalar.addi v356 c1_i32_206
  let c512_i32_207 : BitVec 32 := 512#32
  let v358 : BitVec 32 := Scalar.muli v357 c512_i32_207
  v358
def k0_mult25 (i : grid0.Coords) : BitVec 32 :=
  let c1_i32_134 : BitVec 32 := 1#32
  let c8_i32_133 : BitVec 32 := 8#32
  let arg2 : BitVec 32 := BitVec.ofNat 32 (i 2).val
  let c2_i32_67 : BitVec 32 := 2#32
  let v128 : BitVec 32 := Scalar.subi arg2 c2_i32_67
  let c0_i32_127 : BitVec 32 := 0#32
  let v236 : BitVec 1 := Scalar.cmpi .sgt v128 c0_i32_127
  let v237 : BitVec 32 := Scalar.extui v236
  let c0_i32_128 : BitVec 32 := 0#32
  let v238 : BitVec 1 := Scalar.cmpi .slt v128 c0_i32_128
  let v239 : BitVec 32 := Scalar.extui v238
  let v240 : BitVec 32 := Scalar.subi v237 v239
  let c8_i32_126 : BitVec 32 := 8#32
  let c0_i32_129 : BitVec 32 := 0#32
  let v241 : BitVec 1 := Scalar.cmpi .sgt c8_i32_126 c0_i32_129
  let v242 : BitVec 32 := Scalar.extui v241
  let c0_i32_130 : BitVec 32 := 0#32
  let v243 : BitVec 1 := Scalar.cmpi .slt c8_i32_126 c0_i32_130
  let v244 : BitVec 32 := Scalar.extui v243
  let v245 : BitVec 32 := Scalar.subi v242 v244
  let v246 : BitVec 1 := Scalar.cmpi .ne v240 v245
  let v247 : BitVec 32 := Scalar.remsi v128 c8_i32_126
  let c0_i32_131 : BitVec 32 := 0#32
  let v248 : BitVec 1 := Scalar.cmpi .ne v247 c0_i32_131
  let v249 : BitVec 1 := Scalar.andi v246 v248
  let v235 : BitVec 32 := Scalar.divsi v128 c8_i32_126
  let c1_i32_132 : BitVec 32 := 1#32
  let v250 : BitVec 32 := Scalar.subi v235 c1_i32_132
  let v251 : BitVec 32 := Scalar.select v249 v250 v235
  let v252 : BitVec 32 := Scalar.muli c8_i32_133 v251
  let v253 : BitVec 32 := Scalar.addi c1_i32_134 v252
  let c3_i32_240 : BitVec 32 := 3#32
  let v407 : BitVec 32 := Scalar.addi v253 c3_i32_240
  let c1_i32_241 : BitVec 32 := 1#32
  let v408 : BitVec 32 := Scalar.addi v407 c1_i32_241
  let c512_i32_242 : BitVec 32 := 512#32
  let v409 : BitVec 32 := Scalar.muli v408 c512_i32_242
  v409
def k0_cond6 (i : grid0.Coords) : BitVec 1 :=
  let arg2 : BitVec 32 := BitVec.ofNat 32 (i 2).val
  let c2_i32_67 : BitVec 32 := 2#32
  let v128 : BitVec 32 := Scalar.subi arg2 c2_i32_67
  let c4_i32_95 : BitVec 32 := 4#32
  let c0_i32_96 : BitVec 32 := 0#32
  let v183 : BitVec 1 := Scalar.cmpi .eq c4_i32_95 c0_i32_96
  let c1_i32_97 : BitVec 32 := 1#32
  let v184 : BitVec 32 := Scalar.select v183 c1_i32_97 c4_i32_95
  let v185 : BitVec 32 := Scalar.remsi v128 v184
  let c0_i32_99 : BitVec 32 := 0#32
  let v187 : BitVec 1 := Scalar.cmpi .slt v185 c0_i32_99
  let c0_i32_100 : BitVec 32 := 0#32
  let v188 : BitVec 1 := Scalar.cmpi .slt v184 c0_i32_100
  let v189 : BitVec 1 := Scalar.xori v187 v188
  let c0_i32_98 : BitVec 32 := 0#32
  let v186 : BitVec 1 := Scalar.cmpi .ne v185 c0_i32_98
  let v190 : BitVec 1 := Scalar.andi v189 v186
  let v191 : BitVec 32 := Scalar.addi v185 v184
  let v192 : BitVec 32 := Scalar.select v190 v191 v185
  let c0_i32_101 : BitVec 32 := 0#32
  let v193 : BitVec 1 := Scalar.cmpi .eq v192 c0_i32_101
  let v194 : BitVec 32 := Scalar.extui v193
  let c0_i32_102 : BitVec 32 := 0#32
  let v195 : BitVec 1 := Scalar.cmpi .ne v194 c0_i32_102
  v195

def k0_mult26 (i : grid0.Coords) : BitVec 32 :=
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c0_i32_126 : BitVec 32 := 0#32
  let v235 : BitVec 32 := Scalar.addi v182 c0_i32_126
  let c1_i32_127 : BitVec 32 := 1#32
  let v236 : BitVec 32 := Scalar.addi v235 c1_i32_127
  let c512_i32_128 : BitVec 32 := 512#32
  let v237 : BitVec 32 := Scalar.muli v236 c512_i32_128
  v237
def k0_off7 (i : grid0.Coords) : Fin 3 → Nat :=
  let c0_129 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c0_i32_126 : BitVec 32 := 0#32
  let v235 : BitVec 32 := Scalar.addi v182 c0_i32_126
  let c1_i32_127 : BitVec 32 := 1#32
  let v236 : BitVec 32 := Scalar.addi v235 c1_i32_127
  let c512_i32_128 : BitVec 32 := 512#32
  let v237 : BitVec 32 := Scalar.muli v236 c512_i32_128
  let v238 : BitVec 32 := v237
  let v239 : Index := Scalar.indexCast v238
  let c0_130 : Index := 0#32
  ![0, v239.toNat, 0]
def k0_mult27 : BitVec 32 :=
  let c0_i32_178 : BitVec 32 := 0#32
  c0_i32_178
def k0_off8 (i : grid0.Coords) : Fin 5 → Nat :=
  let c0_200 : Index := 0#32
  let c0_201 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c0_i32_199 : BitVec 32 := 0#32
  let v387 : BitVec 32 := Scalar.addi v182 c0_i32_199
  let v388 : Index := Scalar.indexCast v387
  let c0_202 : Index := 0#32
  let c0_203 : Index := 0#32
  ![0, 0, v388.toNat, 0, 0]
def k0_off9 (i : grid0.Coords) : Fin 5 → Nat :=
  let c0_213 : Index := 0#32
  let c0_214 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c0_i32_211 : BitVec 32 := 0#32
  let v399 : BitVec 32 := Scalar.addi v182 c0_i32_211
  let c1_i32_212 : BitVec 32 := 1#32
  let v400 : BitVec 32 := Scalar.addi v399 c1_i32_212
  let v401 : Index := Scalar.indexCast v400
  let c0_215 : Index := 0#32
  let c0_216 : Index := 0#32
  ![0, 0, v401.toNat, 0, 0]
def k0_cond7 (i : grid0.Coords) : BitVec 1 :=
  let arg2 : BitVec 32 := BitVec.ofNat 32 (i 2).val
  let c2_i32_67 : BitVec 32 := 2#32
  let v128 : BitVec 32 := Scalar.subi arg2 c2_i32_67
  let c4_i32_103 : BitVec 32 := 4#32
  let c0_i32_104 : BitVec 32 := 0#32
  let v196 : BitVec 1 := Scalar.cmpi .eq c4_i32_103 c0_i32_104
  let c1_i32_105 : BitVec 32 := 1#32
  let v197 : BitVec 32 := Scalar.select v196 c1_i32_105 c4_i32_103
  let v198 : BitVec 32 := Scalar.remsi v128 v197
  let c0_i32_107 : BitVec 32 := 0#32
  let v200 : BitVec 1 := Scalar.cmpi .slt v198 c0_i32_107
  let c0_i32_108 : BitVec 32 := 0#32
  let v201 : BitVec 1 := Scalar.cmpi .slt v197 c0_i32_108
  let v202 : BitVec 1 := Scalar.xori v200 v201
  let c0_i32_106 : BitVec 32 := 0#32
  let v199 : BitVec 1 := Scalar.cmpi .ne v198 c0_i32_106
  let v203 : BitVec 1 := Scalar.andi v202 v199
  let v204 : BitVec 32 := Scalar.addi v198 v197
  let v205 : BitVec 32 := Scalar.select v203 v204 v198
  let c1_i32_109 : BitVec 32 := 1#32
  let v206 : BitVec 1 := Scalar.cmpi .eq v205 c1_i32_109
  let v207 : BitVec 32 := Scalar.extui v206
  let c0_i32_110 : BitVec 32 := 0#32
  let v208 : BitVec 1 := Scalar.cmpi .ne v207 c0_i32_110
  v208

def k0_mult28 (i : grid0.Coords) : BitVec 32 :=
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c0_i32_126 : BitVec 32 := 0#32
  let v235 : BitVec 32 := Scalar.addi v182 c0_i32_126
  let c1_i32_127 : BitVec 32 := 1#32
  let v236 : BitVec 32 := Scalar.addi v235 c1_i32_127
  let c512_i32_128 : BitVec 32 := 512#32
  let v237 : BitVec 32 := Scalar.muli v236 c512_i32_128
  v237
def k0_off10 (i : grid0.Coords) (c0_i32_126 : BitVec 32) : Fin 3 → Nat :=
  let c0_129 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let v235 : BitVec 32 := Scalar.addi v182 c0_i32_126
  let c1_i32_127 : BitVec 32 := 1#32
  let v236 : BitVec 32 := Scalar.addi v235 c1_i32_127
  let c512_i32_128 : BitVec 32 := 512#32
  let v237 : BitVec 32 := Scalar.muli v236 c512_i32_128
  let v238 : BitVec 32 := v237
  let v239 : Index := Scalar.indexCast v238
  let c0_130 : Index := 0#32
  ![0, v239.toNat, 0]
def k0_off11 (i : grid0.Coords) (c0_i32_149 : BitVec 32) : Fin 5 → Nat :=
  let c0_150 : Index := 0#32
  let c0_151 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let v274 : BitVec 32 := Scalar.addi v182 c0_i32_149
  let v275 : Index := Scalar.indexCast v274
  let c0_152 : Index := 0#32
  let c0_153 : Index := 0#32
  ![0, 0, v275.toNat, 0, 0]
def k0_mult29 (i : grid0.Coords) : BitVec 32 :=
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c1_i32_161 : BitVec 32 := 1#32
  let v286 : BitVec 32 := Scalar.addi v182 c1_i32_161
  let c1_i32_162 : BitVec 32 := 1#32
  let v287 : BitVec 32 := Scalar.addi v286 c1_i32_162
  let c512_i32_163 : BitVec 32 := 512#32
  let v288 : BitVec 32 := Scalar.muli v287 c512_i32_163
  v288
def k0_mult30 : BitVec 32 :=
  let c0_i32_213 : BitVec 32 := 0#32
  c0_i32_213
def k0_off12 (i : grid0.Coords) : Fin 5 → Nat :=
  let c0_248 : Index := 0#32
  let c0_249 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c1_i32_246 : BitVec 32 := 1#32
  let v450 : BitVec 32 := Scalar.addi v182 c1_i32_246
  let c1_i32_247 : BitVec 32 := 1#32
  let v451 : BitVec 32 := Scalar.addi v450 c1_i32_247
  let v452 : Index := Scalar.indexCast v451
  let c0_250 : Index := 0#32
  let c0_251 : Index := 0#32
  ![0, 0, v452.toNat, 0, 0]
def k0_cond8 (i : grid0.Coords) : BitVec 1 :=
  let arg2 : BitVec 32 := BitVec.ofNat 32 (i 2).val
  let c2_i32_67 : BitVec 32 := 2#32
  let v128 : BitVec 32 := Scalar.subi arg2 c2_i32_67
  let c4_i32_111 : BitVec 32 := 4#32
  let c0_i32_112 : BitVec 32 := 0#32
  let v209 : BitVec 1 := Scalar.cmpi .eq c4_i32_111 c0_i32_112
  let c1_i32_113 : BitVec 32 := 1#32
  let v210 : BitVec 32 := Scalar.select v209 c1_i32_113 c4_i32_111
  let v211 : BitVec 32 := Scalar.remsi v128 v210
  let c0_i32_115 : BitVec 32 := 0#32
  let v213 : BitVec 1 := Scalar.cmpi .slt v211 c0_i32_115
  let c0_i32_116 : BitVec 32 := 0#32
  let v214 : BitVec 1 := Scalar.cmpi .slt v210 c0_i32_116
  let v215 : BitVec 1 := Scalar.xori v213 v214
  let c0_i32_114 : BitVec 32 := 0#32
  let v212 : BitVec 1 := Scalar.cmpi .ne v211 c0_i32_114
  let v216 : BitVec 1 := Scalar.andi v215 v212
  let v217 : BitVec 32 := Scalar.addi v211 v210
  let v218 : BitVec 32 := Scalar.select v216 v217 v211
  let c2_i32_117 : BitVec 32 := 2#32
  let v219 : BitVec 1 := Scalar.cmpi .eq v218 c2_i32_117
  let v220 : BitVec 32 := Scalar.extui v219
  let c0_i32_118 : BitVec 32 := 0#32
  let v221 : BitVec 1 := Scalar.cmpi .ne v220 c0_i32_118
  v221

def k0_mult31 (i : grid0.Coords) : BitVec 32 :=
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c0_i32_126 : BitVec 32 := 0#32
  let v235 : BitVec 32 := Scalar.addi v182 c0_i32_126
  let c1_i32_127 : BitVec 32 := 1#32
  let v236 : BitVec 32 := Scalar.addi v235 c1_i32_127
  let c512_i32_128 : BitVec 32 := 512#32
  let v237 : BitVec 32 := Scalar.muli v236 c512_i32_128
  v237
def k0_off13 (i : grid0.Coords) (c0_i32_126 : BitVec 32) : Fin 3 → Nat :=
  let c0_129 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let v235 : BitVec 32 := Scalar.addi v182 c0_i32_126
  let c1_i32_127 : BitVec 32 := 1#32
  let v236 : BitVec 32 := Scalar.addi v235 c1_i32_127
  let c512_i32_128 : BitVec 32 := 512#32
  let v237 : BitVec 32 := Scalar.muli v236 c512_i32_128
  let v238 : BitVec 32 := v237
  let v239 : Index := Scalar.indexCast v238
  let c0_130 : Index := 0#32
  ![0, v239.toNat, 0]
def k0_off14 (i : grid0.Coords) (c0_i32_149 : BitVec 32) : Fin 5 → Nat :=
  let c0_150 : Index := 0#32
  let c0_151 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let v274 : BitVec 32 := Scalar.addi v182 c0_i32_149
  let v275 : Index := Scalar.indexCast v274
  let c0_152 : Index := 0#32
  let c0_153 : Index := 0#32
  ![0, 0, v275.toNat, 0, 0]
def k0_mult32 (i : grid0.Coords) : BitVec 32 :=
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c1_i32_161 : BitVec 32 := 1#32
  let v286 : BitVec 32 := Scalar.addi v182 c1_i32_161
  let c1_i32_162 : BitVec 32 := 1#32
  let v287 : BitVec 32 := Scalar.addi v286 c1_i32_162
  let c512_i32_163 : BitVec 32 := 512#32
  let v288 : BitVec 32 := Scalar.muli v287 c512_i32_163
  v288
def k0_mult33 (i : grid0.Coords) : BitVec 32 :=
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c2_i32_196 : BitVec 32 := 2#32
  let v337 : BitVec 32 := Scalar.addi v182 c2_i32_196
  let c1_i32_197 : BitVec 32 := 1#32
  let v338 : BitVec 32 := Scalar.addi v337 c1_i32_197
  let c512_i32_198 : BitVec 32 := 512#32
  let v339 : BitVec 32 := Scalar.muli v338 c512_i32_198
  v339
def k0_mult34 : BitVec 32 :=
  let c0_i32_248 : BitVec 32 := 0#32
  c0_i32_248
def k0_off15 (i : grid0.Coords) : Fin 5 → Nat :=
  let c0_283 : Index := 0#32
  let c0_284 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c2_i32_281 : BitVec 32 := 2#32
  let v501 : BitVec 32 := Scalar.addi v182 c2_i32_281
  let c1_i32_282 : BitVec 32 := 1#32
  let v502 : BitVec 32 := Scalar.addi v501 c1_i32_282
  let v503 : Index := Scalar.indexCast v502
  let c0_285 : Index := 0#32
  let c0_286 : Index := 0#32
  ![0, 0, v503.toNat, 0, 0]
def k0_cond9 (i : grid0.Coords) : BitVec 1 :=
  let arg2 : BitVec 32 := BitVec.ofNat 32 (i 2).val
  let c2_i32_67 : BitVec 32 := 2#32
  let v128 : BitVec 32 := Scalar.subi arg2 c2_i32_67
  let c4_i32_119 : BitVec 32 := 4#32
  let c0_i32_120 : BitVec 32 := 0#32
  let v222 : BitVec 1 := Scalar.cmpi .eq c4_i32_119 c0_i32_120
  let c1_i32_121 : BitVec 32 := 1#32
  let v223 : BitVec 32 := Scalar.select v222 c1_i32_121 c4_i32_119
  let v224 : BitVec 32 := Scalar.remsi v128 v223
  let c0_i32_123 : BitVec 32 := 0#32
  let v226 : BitVec 1 := Scalar.cmpi .slt v224 c0_i32_123
  let c0_i32_124 : BitVec 32 := 0#32
  let v227 : BitVec 1 := Scalar.cmpi .slt v223 c0_i32_124
  let v228 : BitVec 1 := Scalar.xori v226 v227
  let c0_i32_122 : BitVec 32 := 0#32
  let v225 : BitVec 1 := Scalar.cmpi .ne v224 c0_i32_122
  let v229 : BitVec 1 := Scalar.andi v228 v225
  let v230 : BitVec 32 := Scalar.addi v224 v223
  let v231 : BitVec 32 := Scalar.select v229 v230 v224
  let c3_i32 : BitVec 32 := 3#32
  let v232 : BitVec 1 := Scalar.cmpi .eq v231 c3_i32
  let v233 : BitVec 32 := Scalar.extui v232
  let c0_i32_125 : BitVec 32 := 0#32
  let v234 : BitVec 1 := Scalar.cmpi .ne v233 c0_i32_125
  v234

def k0_mult35 (i : grid0.Coords) : BitVec 32 :=
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c0_i32_126 : BitVec 32 := 0#32
  let v235 : BitVec 32 := Scalar.addi v182 c0_i32_126
  let c1_i32_127 : BitVec 32 := 1#32
  let v236 : BitVec 32 := Scalar.addi v235 c1_i32_127
  let c512_i32_128 : BitVec 32 := 512#32
  let v237 : BitVec 32 := Scalar.muli v236 c512_i32_128
  v237
def k0_off16 (i : grid0.Coords) (c0_i32_126 : BitVec 32) : Fin 3 → Nat :=
  let c0_129 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let v235 : BitVec 32 := Scalar.addi v182 c0_i32_126
  let c1_i32_127 : BitVec 32 := 1#32
  let v236 : BitVec 32 := Scalar.addi v235 c1_i32_127
  let c512_i32_128 : BitVec 32 := 512#32
  let v237 : BitVec 32 := Scalar.muli v236 c512_i32_128
  let v238 : BitVec 32 := v237
  let v239 : Index := Scalar.indexCast v238
  let c0_130 : Index := 0#32
  ![0, v239.toNat, 0]
def k0_off17 (i : grid0.Coords) (c0_i32_149 : BitVec 32) : Fin 5 → Nat :=
  let c0_150 : Index := 0#32
  let c0_151 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let v274 : BitVec 32 := Scalar.addi v182 c0_i32_149
  let v275 : Index := Scalar.indexCast v274
  let c0_152 : Index := 0#32
  let c0_153 : Index := 0#32
  ![0, 0, v275.toNat, 0, 0]
def k0_mult36 (i : grid0.Coords) : BitVec 32 :=
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c1_i32_161 : BitVec 32 := 1#32
  let v286 : BitVec 32 := Scalar.addi v182 c1_i32_161
  let c1_i32_162 : BitVec 32 := 1#32
  let v287 : BitVec 32 := Scalar.addi v286 c1_i32_162
  let c512_i32_163 : BitVec 32 := 512#32
  let v288 : BitVec 32 := Scalar.muli v287 c512_i32_163
  v288
def k0_mult37 (i : grid0.Coords) : BitVec 32 :=
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c2_i32_196 : BitVec 32 := 2#32
  let v337 : BitVec 32 := Scalar.addi v182 c2_i32_196
  let c1_i32_197 : BitVec 32 := 1#32
  let v338 : BitVec 32 := Scalar.addi v337 c1_i32_197
  let c512_i32_198 : BitVec 32 := 512#32
  let v339 : BitVec 32 := Scalar.muli v338 c512_i32_198
  v339
def k0_mult38 (i : grid0.Coords) : BitVec 32 :=
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c3_i32_231 : BitVec 32 := 3#32
  let v388 : BitVec 32 := Scalar.addi v182 c3_i32_231
  let c1_i32_232 : BitVec 32 := 1#32
  let v389 : BitVec 32 := Scalar.addi v388 c1_i32_232
  let c512_i32_233 : BitVec 32 := 512#32
  let v390 : BitVec 32 := Scalar.muli v389 c512_i32_233
  v390
def k0_mult39 : BitVec 32 :=
  let c0_i32_283 : BitVec 32 := 0#32
  c0_i32_283
def k0_off18 (i : grid0.Coords) : Fin 5 → Nat :=
  let c0_318 : Index := 0#32
  let c0_319 : Index := 0#32
  let c1_i32_94 : BitVec 32 := 1#32
  let c4_i32_93 : BitVec 32 := 4#32
  let arg2 : BitVec 32 := BitVec.ofNat 32 (i 2).val
  let c2_i32_67 : BitVec 32 := 2#32
  let v128 : BitVec 32 := Scalar.subi arg2 c2_i32_67
  let c0_i32_87 : BitVec 32 := 0#32
  let v165 : BitVec 1 := Scalar.cmpi .sgt v128 c0_i32_87
  let v166 : BitVec 32 := Scalar.extui v165
  let c0_i32_88 : BitVec 32 := 0#32
  let v167 : BitVec 1 := Scalar.cmpi .slt v128 c0_i32_88
  let v168 : BitVec 32 := Scalar.extui v167
  let v169 : BitVec 32 := Scalar.subi v166 v168
  let c4_i32_86 : BitVec 32 := 4#32
  let c0_i32_89 : BitVec 32 := 0#32
  let v170 : BitVec 1 := Scalar.cmpi .sgt c4_i32_86 c0_i32_89
  let v171 : BitVec 32 := Scalar.extui v170
  let c0_i32_90 : BitVec 32 := 0#32
  let v172 : BitVec 1 := Scalar.cmpi .slt c4_i32_86 c0_i32_90
  let v173 : BitVec 32 := Scalar.extui v172
  let v174 : BitVec 32 := Scalar.subi v171 v173
  let v175 : BitVec 1 := Scalar.cmpi .ne v169 v174
  let v176 : BitVec 32 := Scalar.remsi v128 c4_i32_86
  let c0_i32_91 : BitVec 32 := 0#32
  let v177 : BitVec 1 := Scalar.cmpi .ne v176 c0_i32_91
  let v178 : BitVec 1 := Scalar.andi v175 v177
  let v164 : BitVec 32 := Scalar.divsi v128 c4_i32_86
  let c1_i32_92 : BitVec 32 := 1#32
  let v179 : BitVec 32 := Scalar.subi v164 c1_i32_92
  let v180 : BitVec 32 := Scalar.select v178 v179 v164
  let v181 : BitVec 32 := Scalar.muli c4_i32_93 v180
  let v182 : BitVec 32 := Scalar.addi c1_i32_94 v181
  let c3_i32_316 : BitVec 32 := 3#32
  let v552 : BitVec 32 := Scalar.addi v182 c3_i32_316
  let c1_i32_317 : BitVec 32 := 1#32
  let v553 : BitVec 32 := Scalar.addi v552 c1_i32_317
  let v554 : Index := Scalar.indexCast v553
  let c0_320 : Index := 0#32
  let c0_321 : Index := 0#32
  ![0, 0, v554.toNat, 0, 0]
@[reducible] def k0_t3_loop (i : grid0.Coords) : Scf.Loop 32 :=
  let c0_i32_53 : BitVec 32 := 0#32
  let arg2 : BitVec 32 := BitVec.ofNat 32 (i 2).val
  let c1_i32_51 : BitVec 32 := 1#32
  let v109 : BitVec 32 := Scalar.addi arg2 c1_i32_51
  let v110 : BitVec 32 := Scalar.subi v109 c0_i32_53
  let c1_i32_54 : BitVec 32 := 1#32
  let v112 : BitVec 32 := Scalar.divsi v110 c1_i32_54
  let v113 : BitVec 32 := Scalar.muli v112 c1_i32_54
  let v114 : BitVec 32 := Scalar.addi c0_i32_53 v113
  let c1_i32_55 : BitVec 32 := 1#32
  ⟨c0_i32_53, v114, c1_i32_55⟩
def k0_mult40 (i : grid0.Coords) (k0_t3 : Fin (k0_t3_loop i).trips) : BitVec 32 :=
  let c0_i32_53 : BitVec 32 := 0#32
  let c1_i32_55 : BitVec 32 := 1#32
  let arg23 : BitVec 32 := Scf.iv c0_i32_53 c1_i32_55 k0_t3
  let c512_i32 : BitVec 32 := 512#32
  let v164 : BitVec 32 := Scalar.muli arg23 c512_i32
  v164
def k0_off19 (i : grid0.Coords) (k0_t3 : Fin (k0_t3_loop i).trips) : Fin 3 → Nat :=
  let c0_81 : Index := 0#32
  let c0_i32_53 : BitVec 32 := 0#32
  let c1_i32_55 : BitVec 32 := 1#32
  let arg23 : BitVec 32 := Scf.iv c0_i32_53 c1_i32_55 k0_t3
  let c512_i32 : BitVec 32 := 512#32
  let v164 : BitVec 32 := Scalar.muli arg23 c512_i32
  let v165 : BitVec 32 := v164
  let v166 : Index := Scalar.indexCast v165
  let c0_82 : Index := 0#32
  ![0, v166.toNat, 0]
def k0_off20 (i : grid0.Coords) (k0_t3 : Fin (k0_t3_loop i).trips) : Fin 5 → Nat :=
  let c0_98 : Index := 0#32
  let c0_99 : Index := 0#32
  let c0_i32_53 : BitVec 32 := 0#32
  let c1_i32_55 : BitVec 32 := 1#32
  let arg23 : BitVec 32 := Scf.iv c0_i32_53 c1_i32_55 k0_t3
  let v199 : Index := Scalar.indexCast arg23
  let c0_100 : Index := 0#32
  let c0_101 : Index := 0#32
  ![0, 0, v199.toNat, 0, 0]
@[reducible] def k0_t4_loop (i : grid0.Coords) : Scf.Loop 32 :=
  let c0_i32_53 : BitVec 32 := 0#32
  let arg2 : BitVec 32 := BitVec.ofNat 32 (i 2).val
  let c1_i32_51 : BitVec 32 := 1#32
  let v109 : BitVec 32 := Scalar.addi arg2 c1_i32_51
  let v110 : BitVec 32 := Scalar.subi v109 c0_i32_53
  let c1_i32_54 : BitVec 32 := 1#32
  let v112 : BitVec 32 := Scalar.divsi v110 c1_i32_54
  let v113 : BitVec 32 := Scalar.muli v112 c1_i32_54
  let v114 : BitVec 32 := Scalar.addi c0_i32_53 v113
  let v111 : BitVec 32 := Scalar.addi c0_i32_53 v110
  let c1_i32_56 : BitVec 32 := 1#32
  ⟨v114, v111, c1_i32_56⟩
def k0_mult41 (i : grid0.Coords) (k0_t4 : Fin (k0_t4_loop i).trips) : BitVec 32 :=
  let c0_i32_53 : BitVec 32 := 0#32
  let arg2 : BitVec 32 := BitVec.ofNat 32 (i 2).val
  let c1_i32_51 : BitVec 32 := 1#32
  let v109 : BitVec 32 := Scalar.addi arg2 c1_i32_51
  let v110 : BitVec 32 := Scalar.subi v109 c0_i32_53
  let c1_i32_54 : BitVec 32 := 1#32
  let v112 : BitVec 32 := Scalar.divsi v110 c1_i32_54
  let v113 : BitVec 32 := Scalar.muli v112 c1_i32_54
  let v114 : BitVec 32 := Scalar.addi c0_i32_53 v113
  let c1_i32_56 : BitVec 32 := 1#32
  let arg23 : BitVec 32 := Scf.iv v114 c1_i32_56 k0_t4
  let c512_i32 : BitVec 32 := 512#32
  let v164 : BitVec 32 := Scalar.muli arg23 c512_i32
  v164
def k0_off21 (i : grid0.Coords) (k0_t4 : Fin (k0_t4_loop i).trips) : Fin 3 → Nat :=
  let c0_81 : Index := 0#32
  let c0_i32_53 : BitVec 32 := 0#32
  let arg2 : BitVec 32 := BitVec.ofNat 32 (i 2).val
  let c1_i32_51 : BitVec 32 := 1#32
  let v109 : BitVec 32 := Scalar.addi arg2 c1_i32_51
  let v110 : BitVec 32 := Scalar.subi v109 c0_i32_53
  let c1_i32_54 : BitVec 32 := 1#32
  let v112 : BitVec 32 := Scalar.divsi v110 c1_i32_54
  let v113 : BitVec 32 := Scalar.muli v112 c1_i32_54
  let v114 : BitVec 32 := Scalar.addi c0_i32_53 v113
  let c1_i32_56 : BitVec 32 := 1#32
  let arg23 : BitVec 32 := Scf.iv v114 c1_i32_56 k0_t4
  let c512_i32 : BitVec 32 := 512#32
  let v164 : BitVec 32 := Scalar.muli arg23 c512_i32
  let v165 : BitVec 32 := v164
  let v166 : Index := Scalar.indexCast v165
  let c0_82 : Index := 0#32
  ![0, v166.toNat, 0]
def k0_off22 (i : grid0.Coords) (k0_t4 : Fin (k0_t4_loop i).trips) : Fin 5 → Nat :=
  let c0_98 : Index := 0#32
  let c0_99 : Index := 0#32
  let c0_i32_53 : BitVec 32 := 0#32
  let arg2 : BitVec 32 := BitVec.ofNat 32 (i 2).val
  let c1_i32_51 : BitVec 32 := 1#32
  let v109 : BitVec 32 := Scalar.addi arg2 c1_i32_51
  let v110 : BitVec 32 := Scalar.subi v109 c0_i32_53
  let c1_i32_54 : BitVec 32 := 1#32
  let v112 : BitVec 32 := Scalar.divsi v110 c1_i32_54
  let v113 : BitVec 32 := Scalar.muli v112 c1_i32_54
  let v114 : BitVec 32 := Scalar.addi c0_i32_53 v113
  let c1_i32_56 : BitVec 32 := 1#32
  let arg23 : BitVec 32 := Scf.iv v114 c1_i32_56 k0_t4
  let v199 : Index := Scalar.indexCast arg23
  let c0_100 : Index := 0#32
  let c0_101 : Index := 0#32
  ![0, 0, v199.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c31_i32 : BitVec 32 := 31#32
  let v1 : BitVec 32 := Scalar.minsi v0 c31_i32
  let c0_i32 : BitVec 32 := 0#32
  ![arg0.toNat, v1.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x32x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Kernel2.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S32768x512 : Shape := ⟨2, ![32768, 512]⟩
abbrev S1x1024 : Shape := ⟨2, ![1, 1024]⟩
abbrev S1x5632 : Shape := ⟨2, ![1, 5632]⟩
abbrev S512x1024 : Shape := ⟨2, ![512, 1024]⟩
abbrev S512x512 : Shape := ⟨2, ![512, 512]⟩
abbrev S8x5632 : Shape := ⟨2, ![8, 5632]⟩
abbrev S520x1024 : Shape := ⟨2, ![520, 1024]⟩
abbrev S512 : Shape := ⟨1, ![512]⟩
abbrev S512x1 : Shape := ⟨2, ![512, 1]⟩
abbrev S8x1024 : Shape := ⟨2, ![8, 1024]⟩
abbrev S3x1024 : Shape := ⟨2, ![3, 1024]⟩
abbrev S1024x768 : Shape := ⟨2, ![1024, 768]⟩
abbrev S512x768 : Shape := ⟨2, ![512, 768]⟩
abbrev S8x768 : Shape := ⟨2, ![8, 768]⟩
abbrev S520x768 : Shape := ⟨2, ![520, 768]⟩
abbrev S3x768 : Shape := ⟨2, ![3, 768]⟩
abbrev S1x768 : Shape := ⟨2, ![1, 768]⟩
abbrev S768x1024 : Shape := ⟨2, ![768, 1024]⟩

abbrev nBuf : Space → Nat
  | .hbm => 26
  | .vmem => 26
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S32768x1024, .f32⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1024x5632, .bf16⟩
  | .hbm, ⟨21, _⟩ => ⟨S1x5632, .f32⟩
  | .hbm, ⟨22, _⟩ => ⟨S2816x1024, .bf16⟩
  | .hbm, ⟨23, _⟩ => ⟨S1x1024, .f32⟩
  | .hbm, ⟨24, _⟩ => ⟨S1x1024, .f32⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S8x5632, .f32⟩
  | .local _ .vmem, ⟨19, _⟩ => ⟨S520x1024, .f32⟩
  | .local _ .vmem, ⟨20, _⟩ => ⟨S520x1024, .f32⟩
  | .local _ .vmem, ⟨21, _⟩ => ⟨S520x1024, .f32⟩
  | .local _ .vmem, ⟨22, _⟩ => ⟨S520x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16386x5632 : Shape := ⟨3, ![2, 16386, 5632]⟩
abbrev S1x5632 : Shape := ⟨2, ![1, 5632]⟩
abbrev S1x1x5632 : Shape := ⟨3, ![1, 1, 5632]⟩
abbrev S2x16384x2816 : Shape := ⟨3, ![2, 16384, 2816]⟩
abbrev S32768x1024 : Shape := ⟨2, ![32768, 1024]⟩

abbrev nBuf : Space → Nat
  | .hbm => 121
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S2x16384x1024, .f32⟩
  | .hbm, ⟨13, _⟩ => ⟨S2x16384x1024, .f32⟩
  | .hbm, ⟨14, _⟩ => ⟨S_, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S_, .f32⟩
  | .hbm, ⟨19, _⟩ => ⟨S2x16384, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S_, .f32⟩
  | .hbm, ⟨28, _⟩ => ⟨S2x16384, .f32⟩
  | .hbm, ⟨29, _⟩ => ⟨S2x16384x1, .f32⟩
  | .hbm, ⟨30, _⟩ => ⟨S_, .f32⟩
  | .hbm, ⟨31, _⟩ => ⟨S2x16384x1, .f32⟩
  | .hbm, ⟨32, _⟩ => ⟨S2x16384x1, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x16384x1, .f32⟩
  | .hbm, ⟨37, _⟩ => ⟨S2x16384x1, .f32⟩
  | .hbm, ⟨38, _⟩ => ⟨S2x16384x1, .f32⟩
  | .hbm, ⟨39, _⟩ => ⟨S2x16384x1024, .f32⟩
  | .hbm, ⟨40, _⟩ => ⟨S2x16384x1024, .f32⟩
  | .hbm, ⟨41, _⟩ => ⟨S1x1x1024, .f32⟩
  | .hbm, ⟨42, _⟩ => ⟨S2x16384x1024, .f32⟩
  | .hbm, ⟨43, _⟩ => ⟨S2x16384x1024, .f32⟩
  | .hbm, ⟨44, _⟩ => ⟨S1x1x1024, .f32⟩
  | .hbm, ⟨45, _⟩ => ⟨S2x16384x1024, .f32⟩
  | .hbm, ⟨46, _⟩ => ⟨S2x16384x1024, .f32⟩
  | .hbm, ⟨47, _⟩ => ⟨S2x16384x5632, .f32⟩
  | .hbm, ⟨48, _⟩ => ⟨S_, .i32⟩
  | .hbm, ⟨49, _⟩ => ⟨S_, .f32⟩
  | .hbm, ⟨50, _⟩ => ⟨S2x16386x5632, .f32⟩
  | .hbm, ⟨51, _⟩ => ⟨S2x16384x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S2x16384x5632, .f32⟩
  | .hbm, ⟨56, _⟩ => ⟨S2x16384x5632, .f32⟩
  | .hbm, ⟨57, _⟩ => ⟨S2x16384x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S2x16384x5632, .f32⟩
  | .hbm, ⟨62, _⟩ => ⟨S2x16384x5632, .f32⟩
  | .hbm, ⟨63, _⟩ => ⟨S2x16384x5632, .f32⟩
  | .hbm, ⟨64, _⟩ => ⟨S2x16384x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S2x16384x5632, .f32⟩
  | .hbm, ⟨69, _⟩ => ⟨S2x16384x5632, .f32⟩
  | .hbm, ⟨70, _⟩ => ⟨S2x16384x5632, .f32⟩
  | .hbm, ⟨71, _⟩ => ⟨S1x1x5632, .f32⟩
  | .hbm, ⟨72, _⟩ => ⟨S2x16384x5632, .f32⟩
  | .hbm, ⟨73, _⟩ => ⟨S2x16384x5632, .f32⟩
  | .hbm, ⟨74, _⟩ => ⟨S2x16384x2816, .f32⟩
  | .hbm, ⟨75, _⟩ => ⟨S2x16384x2816, .f32⟩
  | .hbm, ⟨76, _⟩ => ⟨S2x16384x2816, .f32⟩
  | .hbm, ⟨77, _⟩ => ⟨S2x16384x2816, .f32⟩
  | .hbm, ⟨78, _⟩ => ⟨S_, .f32⟩
  | .hbm, ⟨79, _⟩ => ⟨S2x16384x2816, .f32⟩
  | .hbm, ⟨80, _⟩ => ⟨S2x16384x2816, .f32⟩
  | .hbm, ⟨81, _⟩ => ⟨S_, .f32⟩
  | .hbm, ⟨82, _⟩ => ⟨S2x16384x2816, .f32⟩
  | .hbm, ⟨83, _⟩ => ⟨S2x16384x2816, .f32⟩
  | .hbm, ⟨84, _⟩ => ⟨S2x16384x2816, .f32⟩
  | .hbm, ⟨85, _⟩ => ⟨S2x16384x2816, .f32⟩
  | .hbm, ⟨86, _⟩ => ⟨S2x16384x1024, .f32⟩
  | .hbm, ⟨87, _⟩ => ⟨S_, .f32⟩
  | .hbm, ⟨88, _⟩ => ⟨S2x16384x1024, .f32⟩
  | .hbm, ⟨89, _⟩ => ⟨S2x16384x1024, .f32⟩
  | .hbm, ⟨90, _⟩ => ⟨S2x16384x1024, .f32⟩
  | .hbm, ⟨91, _⟩ => ⟨S_, .f32⟩
  | .hbm, ⟨92, _⟩ => ⟨S2x16384, .f32⟩
  | .hbm, ⟨93, _⟩ => ⟨S2x16384x1, .f32⟩
  | .hbm, ⟨94, _⟩ => ⟨S_, .f32⟩
  | .hbm, ⟨95, _⟩ => ⟨S2x16384x1, .f32⟩
  | .hbm, ⟨96, _⟩ => ⟨S2x16384x1, .f32⟩
  | .hbm, ⟨97, _⟩ => ⟨S2x16384x1024, .f32⟩
  | .hbm, ⟨98, _⟩ => ⟨S2x16384x1024, .f32⟩
  | .hbm, ⟨99, _⟩ => ⟨S2x16384x1024, .f32⟩
  | .hbm, ⟨100, _⟩ => ⟨S_, .f32⟩
  | .hbm, ⟨101, _⟩ => ⟨S2x16384, .f32⟩
  | .hbm, ⟨102, _⟩ => ⟨S2x16384x1, .f32⟩
  | .hbm, ⟨103, _⟩ => ⟨S_, .f32⟩
  | .hbm, ⟨104, _⟩ => ⟨S2x16384x1, .f32⟩
  | .hbm, ⟨105, _⟩ => ⟨S2x16384x1, .f32⟩
  | .hbm, ⟨106, _⟩ => ⟨S2x16384x1024, .f32⟩
  | .hbm, ⟨107, _⟩ => ⟨S2x16384x1024, .f32⟩
  | .hbm, ⟨108, _⟩ => ⟨S_, .f32⟩
  | .hbm, ⟨109, _⟩ => ⟨S2x16384x1, .f32⟩
  | .hbm, ⟨110, _⟩ => ⟨S2x16384x1, .f32⟩
  | .hbm, ⟨111, _⟩ => ⟨S2x16384x1, .f32⟩
  | .hbm, ⟨112, _⟩ => ⟨S2x16384x1024, .f32⟩
  | .hbm, ⟨113, _⟩ => ⟨S2x16384x1024, .f32⟩
  | .hbm, ⟨114, _⟩ => ⟨S1x1x1024, .f32⟩
  | .hbm, ⟨115, _⟩ => ⟨S2x16384x1024, .f32⟩
  | .hbm, ⟨116, _⟩ => ⟨S2x16384x1024, .f32⟩
  | .hbm, ⟨117, _⟩ => ⟨S1x1x1024, .f32⟩
  | .hbm, ⟨118, _⟩ => ⟨S2x16384x1024, .f32⟩
  | .hbm, ⟨119, _⟩ => ⟨S2x16384x1024, .f32⟩
  | .hbm, ⟨120, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_call0_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_5 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_6 : Ref sig .tc := ⟨.hbm, 91, rfl⟩
abbrev main_v62 : Ref sig .tc := ⟨.hbm, 92, rfl⟩
abbrev main_v63 : Ref sig .tc := ⟨.hbm, 93, rfl⟩
abbrev main_cst_7 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_8 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_10 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024x3584 : Shape := ⟨2, ![1024, 3584]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S64x16384 : Shape := ⟨2, ![64, 16384]⟩
abbrev S1024x512 : Shape := ⟨2, ![1024, 512]⟩
abbrev S512x1024 : Shape := ⟨2, ![512, 1024]⟩
abbrev S2x16384x512 : Shape := ⟨3, ![2, 16384, 512]⟩
abbrev S2x512x16384 : Shape := ⟨3, ![2, 512, 16384]⟩
abbrev S2x4x32x128x512 : Shape := ⟨5, ![2, 4, 32, 128, 512]⟩
abbrev S1x512x1024 : Shape := ⟨3, ![1, 512, 1024]⟩
abbrev S512x128 : Shape := ⟨2, ![512, 128]⟩
abbrev S64x512 : Shape := ⟨2, ![64, 512]⟩
abbrev S1x512x512 : Shape := ⟨3, ![1, 512, 512]⟩
abbrev S1x4x1x128x512 : Shape := ⟨5, ![1, 4, 1, 128, 512]⟩
abbrev S512x512 : Shape := ⟨2, ![512, 512]⟩
abbrev S1x512x128 : Shape := ⟨3, ![1, 512, 128]⟩
abbrev S1x64x512 : Shape := ⟨3, ![1, 64, 512]⟩
abbrev S4x128x512 : Shape := ⟨3, ![4, 128, 512]⟩

abbrev nBuf : Space → Nat
  | .hbm => 36
  | .vmem => 27
  | .smem => 0
  | _ => 0

abbrev bufTy : (tb : Table) → Fin (tcTables nBuf tb) → BufTy
  | .hbm, ⟨0, _⟩ => ⟨S2x16384x1024, .f32⟩
  | .hbm, ⟨1, _⟩ => ⟨S1024x3584, .f32⟩
  | .hbm, ⟨2, _⟩ => ⟨S1024x3584, .bf16⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S16384, .i32⟩
  | .hbm, ⟨12, _⟩ => ⟨S16384, .f32⟩
  | .hbm, ⟨13, _⟩ => ⟨S16384x1, .f32⟩
  | .hbm, ⟨14, _⟩ => ⟨S1x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S16384x128, .f32⟩
  | .hbm, ⟨21, _⟩ => ⟨S16384x64, .f32⟩
  | .hbm, ⟨22, _⟩ => ⟨S16384x128, .f32⟩
  | .hbm, ⟨23, _⟩ => ⟨S64x16384, .f32⟩
  | .hbm, ⟨24, _⟩ => ⟨S64x16384, .f32⟩
  | .hbm, ⟨25, _⟩ => ⟨S1024x512, .bf16⟩
  | .hbm, ⟨26, _⟩ => ⟨S512x1024, .bf16⟩
  | .hbm, ⟨27, _⟩ => ⟨S1024x512, .bf16⟩
  | .hbm, ⟨28, _⟩ => ⟨S512x1024, .bf16⟩
  | .hbm, ⟨29, _⟩ => ⟨S2x16384x512, .bf16⟩
  | .hbm, ⟨30, _⟩ => ⟨S2x512x16384, .bf16⟩
  | .hbm, ⟨31, _⟩ => ⟨S2x16384x512, .bf16⟩
  | .hbm, ⟨32, _⟩ => ⟨S2x16384x512, .f32⟩
  | .hbm, ⟨33, _⟩ => ⟨S2x16384x512, .bf16⟩
  | .hbm, ⟨34, _⟩ => ⟨S2x16384x512, .bf16⟩
  | .hbm, ⟨35, _⟩ => ⟨S2x4x32x128x512, .bf16⟩
  | .local _ .vmem, ⟨0, _⟩ => ⟨S1x512x1024, .f32⟩
  | .local _ .vmem, ⟨1, _⟩ => ⟨S1x512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S1024x3584, .bf16⟩
  | .local _ .vmem, ⟨11, _⟩ => ⟨S512x1024, .bf16⟩
  | .local _ .vmem, ⟨12, _⟩ => ⟨S512x1024, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .f32⟩
  | .local _ .vmem, ⟨20, _⟩ => ⟨S1x512x512, .f32⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x4x1x128x512, .bf16⟩
  | .local _ .vmem, ⟨26, _⟩ => ⟨S1x4x1x128x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25_0 : Ref sig .tc := ⟨.hbm, 29, rfl⟩
abbrev main_v25_1 : Ref sig .tc := ⟨.hbm, 30, rfl⟩
abbrev main_v25_2 : Ref sig .tc := ⟨.hbm, 31, rfl⟩
abbrev main_v25_3 : Ref sig .tc := ⟨.hbm, 32, rfl⟩
abbrev main_v25_4 : Ref sig .tc := ⟨.hbm, 33, rfl⟩
abbrev main_v25_5 : Ref sig .tc := ⟨.hbm, 34, rfl⟩
abbrev main_v25_6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S2x16384x1024 : Shape := ⟨3, ![2, 16384, 1024]⟩
abbrev S1024x3584 : Shape := ⟨2, ![1024, 3584]⟩
abbrev S2x16384x3584 : Shape := ⟨3, ![2, 16384, 3584]⟩
abbrev S2x16384x512 : Shape := ⟨3, ![2, 16384, 512]⟩
abbrev S2x16384x4x128 : Shape := ⟨4, ![2, 16384, 4, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S1x16384x1x64 : Shape := ⟨4, ![1, 16384, 1, 64]⟩
abbrev S2x16384x4x64 : Shape := ⟨4, ![2, 16384, 4, 64]⟩
abbrev S2x512x16384 : Shape := ⟨3, ![2, 512, 16384]⟩
abbrev S2x32x512x4x128 : Shape := ⟨5, ![2, 32, 512, 4, 128]⟩
abbrev S2x4x32x128x512 : Shape := ⟨5, ![2, 4, 32, 128, 512]⟩

abbrev nBuf : Space → Nat
  | .hbm => 93
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x3584, .f32⟩
  | .hbm, ⟨2, _⟩ => ⟨S2x16384x3584, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x16384x512, .f32⟩
  | .hbm, ⟨7, _⟩ => ⟨S2x16384x512, .f32⟩
  | .hbm, ⟨8, _⟩ => ⟨S2x16384x512, .f32⟩
  | .hbm, ⟨9, _⟩ => ⟨S2x16384x512, .f32⟩
  | .hbm, ⟨10, _⟩ => ⟨S2x16384x4x128, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S16384, .i32⟩
  | .hbm, ⟨20, _⟩ => ⟨S16384, .f32⟩
  | .hbm, ⟨21, _⟩ => ⟨S16384x1, .f32⟩
  | .hbm, ⟨22, _⟩ => ⟨S1x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S1x16384x1x64, .f32⟩
  | .hbm, ⟨28, _⟩ => ⟨S16384x64, .f32⟩
  | .hbm, ⟨29, _⟩ => ⟨S1x16384x1x64, .f32⟩
  | .hbm, ⟨30, _⟩ => ⟨S2x16384x4x64, .f32⟩
  | .hbm, ⟨31, _⟩ => ⟨S2x16384x4x64, .f32⟩
  | .hbm, ⟨32, _⟩ => ⟨S2x16384x4x64, .f32⟩
  | .hbm, ⟨33, _⟩ => ⟨S2x16384x4x64, .f32⟩
  | .hbm, ⟨34, _⟩ => ⟨S2x16384x4x64, .f32⟩
  | .hbm, ⟨35, _⟩ => ⟨S2x16384x4x64, .f32⟩
  | .hbm, ⟨36, _⟩ => ⟨S2x16384x4x64, .f32⟩
  | .hbm, ⟨37, _⟩ => ⟨S2x16384x4x64, .f32⟩
  | .hbm, ⟨38, _⟩ => ⟨S2x16384x4x64, .f32⟩
  | .hbm, ⟨39, _⟩ => ⟨S2x16384x4x64, .f32⟩
  | .hbm, ⟨40, _⟩ => ⟨S2x16384x4x64, .f32⟩
  | .hbm, ⟨41, _⟩ => ⟨S2x16384x4x64, .f32⟩
  | .hbm, ⟨42, _⟩ => ⟨S2x16384x4x128, .f32⟩
  | .hbm, ⟨43, _⟩ => ⟨S2x16384x512, .f32⟩
  | .hbm, ⟨44, _⟩ => ⟨S2x16384x4x128, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S16384, .i32⟩
  | .hbm, ⟨54, _⟩ => ⟨S16384, .f32⟩
  | .hbm, ⟨55, _⟩ => ⟨S16384x1, .f32⟩
  | .hbm, ⟨56, _⟩ => ⟨S1x64, .f32⟩
  | .hbm, ⟨57, _⟩ => ⟨S16384x64, .f32⟩
  | .hbm, ⟨58, _⟩ => ⟨S16384x64, .f32⟩
  | .hbm, ⟨59, _⟩ => ⟨S16384x64, .f32⟩
  | .hbm, ⟨60, _⟩ => ⟨S16384x64, .f32⟩
  | .hbm, ⟨61, _⟩ => ⟨S1x16384x1x64, .f32⟩
  | .hbm, ⟨62, _⟩ => ⟨S16384x64, .f32⟩
  | .hbm, ⟨63, _⟩ => ⟨S1x16384x1x64, .f32⟩
  | .hbm, ⟨64, _⟩ => ⟨S2x16384x4x64, .f32⟩
  | .hbm, ⟨65, _⟩ => ⟨S2x16384x4x64, .f32⟩
  | .hbm, ⟨66, _⟩ => ⟨S2x16384x4x64, .f32⟩
  | .hbm, ⟨67, _⟩ => ⟨S2x16384x4x64, .f32⟩
  | .hbm, ⟨68, _⟩ => ⟨S2x16384x4x64, .f32⟩
  | .hbm, ⟨69, _⟩ => ⟨S2x16384x4x64, .f32⟩
  | .hbm, ⟨70, _⟩ => ⟨S2x16384x4x64, .f32⟩
  | .hbm, ⟨71, _⟩ => ⟨S2x16384x4x64, .f32⟩
  | .hbm, ⟨72, _⟩ => ⟨S2x16384x4x64, .f32⟩
  | .hbm, ⟨73, _⟩ => ⟨S2x16384x4x64, .f32⟩
  | .hbm, ⟨74, _⟩ => ⟨S2x16384x4x64, .f32⟩
  | .hbm, ⟨75, _⟩ => ⟨S2x16384x4x64, .f32⟩
  | .hbm, ⟨76, _⟩ => ⟨S2x16384x4x128, .f32⟩
  | .hbm, ⟨77, _⟩ => ⟨S_, .f32⟩
  | .hbm, ⟨78, _⟩ => ⟨S2x16384x4x128, .f32⟩
  | .hbm, ⟨79, _⟩ => ⟨S2x16384x4x128, .f32⟩
  | .hbm, ⟨80, _⟩ => ⟨S2x16384x512, .f32⟩
  | .hbm, ⟨81, _⟩ => ⟨S_, .f32⟩
  | .hbm, ⟨82, _⟩ => ⟨S2x16384x512, .f32⟩
  | .hbm, ⟨83, _⟩ => ⟨S2x16384x512, .f32⟩
  | .hbm, ⟨84, _⟩ => ⟨S2x16384x512, .bf16⟩
  | .hbm, ⟨85, _⟩ => ⟨S2x512x16384, .f32⟩
  | .hbm, ⟨86, _⟩ => ⟨S2x512x16384, .bf16⟩
  | .hbm, ⟨87, _⟩ => ⟨S2x16384x512, .bf16⟩
  | .hbm, ⟨88, _⟩ => ⟨S2x16384x512, .bf16⟩
  | .hbm, ⟨89, _⟩ => ⟨S2x16384x512, .bf16⟩
  | .hbm, ⟨90, _⟩ => ⟨S2x32x512x4x128, .f32⟩
  | .hbm, ⟨91, _⟩ => ⟨S2x4x32x128x512, .f32⟩
  | .hbm, ⟨92, _⟩ => ⟨S2x4x32x128x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_cst_3 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_cst_4 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩

abbrev nD : Nat := 1
abbrev τ : Topo := Topo.v7x

variable {F : FTy → Type} [FloatOps F]
-- ==== Kernel4.lean ====
abbrev S2x16384x512 : Shape := ⟨3, ![2, 16384, 512]⟩
abbrev S512 : Shape := ⟨1, ![512]⟩
abbrev S_ : Shape := ⟨0, ![]⟩
abbrev S2x512x16384 : Shape := ⟨3, ![2, 512, 16384]⟩
abbrev S1x512 : Shape := ⟨2, ![1, 512]⟩
abbrev S1x2048x512 : Shape := ⟨3, ![1, 2048, 512]⟩
abbrev S1x512x2048 : Shape := ⟨3, ![1, 512, 2048]⟩
abbrev S4x128x128 : Shape := ⟨3, ![4, 128, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1x128 : Shape := ⟨2, ![1, 128]⟩

abbrev nBuf : Space → Nat
  | .hbm => 14
  | .vmem => 12
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x16384x512, .f32⟩
  | .hbm, ⟨4, _⟩ => ⟨S512, .f32⟩
  | .hbm, ⟨5, _⟩ => ⟨S_, .f32⟩
  | .hbm, ⟨6, _⟩ => ⟨S2x16384x512, .f32⟩
  | .hbm, ⟨7, _⟩ => ⟨S2x16384x512, .f32⟩
  | .hbm, ⟨8, _⟩ => ⟨S2x16384x512, .bf16⟩
  | .hbm, ⟨9, _⟩ => ⟨S2x512x16384, .f32⟩
  | .hbm, ⟨10, _⟩ => ⟨S2x512x16384, .bf16⟩
  | .hbm, ⟨11, _⟩ => ⟨S2x16384x512, .bf16⟩
  | .hbm, ⟨12, _⟩ => ⟨S1x512, .f32⟩
  | .hbm, ⟨13, _⟩ => ⟨S2x16384x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .f32⟩
  | .local _ .vmem, ⟨7, _⟩ => ⟨S1x2048x512, .f32⟩
  | .local _ .vmem, ⟨8, _⟩ => ⟨S1x512, .f32⟩
  | .local _ .vmem, ⟨9, _⟩ => ⟨S1x2048x512, .bf16⟩
  | .local _ .vmem, ⟨10, _⟩ => ⟨S1x2048x512, .bf16⟩
  | .local _ .vmem, ⟨11, _⟩ => ⟨S4x128x128, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x16384x512 : Shape := ⟨3, ![2, 16384, 512]⟩
abbrev S512 : Shape := ⟨1, ![512]⟩
abbrev S4 : Shape := ⟨1, ![4]⟩
abbrev S2x16384x4x128 : Shape := ⟨4, ![2, 16384, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S_ : Shape := ⟨0, ![]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S2x4x128x128 : Shape := ⟨4, ![2, 4, 128, 128]⟩
abbrev S2x128x128x4x128 : Shape := ⟨5, ![2, 128, 128, 4, 128]⟩
abbrev S128x2x4x128x128 : Shape := ⟨5, ![128, 2, 4, 128, 128]⟩
abbrev S1x2x4x128x128 : Shape := ⟨5, ![1, 2, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S2x16384x4 : Shape := ⟨3, ![2, 16384, 4]⟩
abbrev S2x16384x4x1 : Shape := ⟨4, ![2, 16384, 4, 1]⟩
abbrev S1x1x512 : Shape := ⟨3, ![1, 1, 512]⟩

abbrev nBuf : Space → Nat
  | .hbm => 163
  | .vmem => 0
  | .smem => 0
  | _ => 0

abbrev hbmTy0_0 (i : Nat) : BufTy := match i % 128 with
  | 0 => ⟨S2x16384x512, .f32⟩
  | 1 => ⟨S2x16384x512, .f32⟩
  | 2 => ⟨S2x16384x512, .f32⟩
  | 3 => ⟨S2x16384x512, .f32⟩
  | 4 => ⟨S512, .f32⟩
  | 5 => ⟨S4, .f32⟩
  | 6 => ⟨S4, .f32⟩
  | 7 => ⟨S2x16384x4x128, .f32⟩
  | 8 => ⟨S2x16384x4x128, .f32⟩
  | 9 => ⟨S2x16384x4x128, .f32⟩
  | 10 => ⟨S128, .i32⟩
  | 11 => ⟨S128, .f32⟩
  | 12 => ⟨S128x1, .f32⟩
  | 13 => ⟨S1x128, .f32⟩
  | 14 => ⟨S128x128, .f32⟩
  | 15 => ⟨S128x128, .f32⟩
  | 16 => ⟨S128x128, .f32⟩
  | 17 => ⟨S1x128x128, .f32⟩
  | 18 => ⟨S_, .f32⟩
  | 19 => ⟨S1x128x128, .f32⟩
  | 20 => ⟨S1x128x128, .i1⟩
  | 21 => ⟨S4x1x1, .f32⟩
  | 22 => ⟨S_, .f32⟩
  | 23 => ⟨S128x128, .f32⟩
  | 24 => ⟨S128x128, .f32⟩
  | 25 => ⟨S1x128x128, .f32⟩
  | 26 => ⟨S4x128x128, .f32⟩
  | 27 => ⟨S4x128x128, .f32⟩
  | 28 => ⟨S4x128x128, .f32⟩
  | 29 => ⟨S4x128x128, .f32⟩
  | 30 => ⟨S_, .f32⟩
  | 31 => ⟨S_, .f32⟩
  | 32 => ⟨S4x128x128, .i1⟩
  | 33 => ⟨S4x128x128, .f32⟩
  | 34 => ⟨S4x128x128, .f32⟩
  | 35 => ⟨S4x1, .f32⟩
  | 36 => ⟨S_, .f32⟩
  | 37 => ⟨S128, .f32⟩
  | 38 => ⟨S128, .f32⟩
  | 39 => ⟨S1x128, .f32⟩
  | 40 => ⟨S4x128, .f32⟩
  | 41 => ⟨S4x128, .f32⟩
  | 42 => ⟨S4x128, .f32⟩
  | 43 => ⟨S4x128, .f32⟩
  | 44 => ⟨S4x1, .f32⟩
  | 45 => ⟨S_, .f32⟩
  | 46 => ⟨S128, .f32⟩
  | 47 => ⟨S128, .f32⟩
  | 48 => ⟨S1x128, .f32⟩
  | 49 => ⟨S4x128, .f32⟩
  | 50 => ⟨S4x128, .f32⟩
  | 51 => ⟨S4x128, .f32⟩
  | 52 => ⟨S4x128, .f32⟩
  | 53 => ⟨S_, .f32⟩
  | 54 => ⟨S2x16384x4x128, .f32⟩
  | 55 => ⟨S2x16384x4x128, .f32⟩
  | 56 => ⟨S_, .f32⟩
  | 57 => ⟨S2x4x128x128, .f32⟩
  | 58 => ⟨S2x128x128x4x128, .f32⟩
  | 59 => ⟨S128x2x4x128x128, .f32⟩
  | 60 => ⟨S2x128x128x4x128, .f32⟩
  | 61 => ⟨S128x2x4x128x128, .f32⟩
  | 62 => ⟨S2x128x128x4x128, .f32⟩
  | 63 => ⟨S128x2x4x128x128, .f32⟩
  | 64 => ⟨S_, .f32⟩
  | 65 => ⟨S128x2x4x128x128, .f32⟩
  | 66 => ⟨S_, .i32⟩
  | 67 => ⟨S128x2x4x128x128, .f32⟩
  | 68 => ⟨S128x2x4x128x128, .f32⟩
  | 69 => ⟨S128x2x4x128x128, .f32⟩
  | 70 => ⟨S4x128x128, .f32⟩
  | 71 => ⟨S4x128, .f32⟩
  | 72 => ⟨S4, .f32⟩
  | 73 => ⟨S4x128, .f32⟩
  | 74 => ⟨S_, .i32⟩
  | 75 => ⟨S2x4x128x128, .f32⟩
  | 76 => ⟨S128x2x4x128x128, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x2x4x128x128, .f32⟩
  | 84 => ⟨S2x4x128x128, .f32⟩
  | 85 => ⟨S_, .i32⟩
  | 86 => ⟨S_, .i32⟩
  | 87 => ⟨S_, .i32⟩
  | 88 => ⟨S_, .i32⟩
  | 89 => ⟨S1x2x4x128x128, .f32⟩
  | 90 => ⟨S2x4x128x128, .f32⟩
  | 91 => ⟨S_, .i32⟩
  | 92 => ⟨S_, .i32⟩
  | 93 => ⟨S_, .i32⟩
  | 94 => ⟨S_, .i32⟩
  | 95 => ⟨S1x2x4x128x128, .f32⟩
  | 96 => ⟨S2x4x128x128, .f32⟩
  | 97 => ⟨S2x4x128x128, .f32⟩
  | 98 => ⟨S1x4x128x128, .f32⟩
  | 99 => ⟨S2x4x128x128, .f32⟩
  | 100 => ⟨S2x4x128x128, .f32⟩
  | 101 => ⟨S2x4x128x128, .f32⟩
  | 102 => ⟨S1x4x128x1, .f32⟩
  | 103 => ⟨S2x4x128x128, .f32⟩
  | 104 => ⟨S2x4x128x128, .f32⟩
  | 105 => ⟨S2x4x128x128, .f32⟩
  | 106 => ⟨S1x4x1x1, .f32⟩
  | 107 => ⟨S2x4x128x128, .f32⟩
  | 108 => ⟨S2x4x128x128, .f32⟩
  | 109 => ⟨S1x4x128x1, .f32⟩
  | 110 => ⟨S2x4x128x128, .f32⟩
  | 111 => ⟨S2x4x128x128, .f32⟩
  | 112 => ⟨S2x4x128x128, .f32⟩
  | 113 => ⟨S2x4x128x128, .f32⟩
  | 114 => ⟨S2x4x128x128, .f32⟩
  | 115 => ⟨S1x2x4x128x128, .f32⟩
  | 116 => ⟨S_, .i32⟩
  | 117 => ⟨S_, .i32⟩
  | 118 => ⟨S_, .i32⟩
  | 119 => ⟨S_, .i32⟩
  | 120 => ⟨S128x2x4x128x128, .f32⟩
  | 121 => ⟨S_, .i32⟩
  | 122 => ⟨S_, .i32⟩
  | 123 => ⟨S2x128x128x4x128, .f32⟩
  | 124 => ⟨S2x16384x4x128, .f32⟩
  | 125 => ⟨S_, .f32⟩
  | 126 => ⟨S2x16384x4, .f32⟩
  | 127 => ⟨S2x16384x4x1, .f32⟩
  | _ => ⟨S2x16384x512, .f32⟩

abbrev hbmTy0_1 (i : Nat) : BufTy := match i % 128 with
  | 0 => ⟨S_, .f32⟩
  | 1 => ⟨S2x16384x4x1, .f32⟩
  | 2 => ⟨S2x16384x4x1, .f32⟩
  | 3 => ⟨S2x16384x4x128, .f32⟩
  | 4 => ⟨S2x16384x4x128, .f32⟩
  | 5 => ⟨S2x16384x4x128, .f32⟩
  | 6 => ⟨S_, .f32⟩
  | 7 => ⟨S2x16384x4, .f32⟩
  | 8 => ⟨S2x16384x4x1, .f32⟩
  | 9 => ⟨S_, .f32⟩
  | 10 => ⟨S2x16384x4x1, .f32⟩
  | 11 => ⟨S2x16384x4x1, .f32⟩
  | 12 => ⟨S2x16384x4x128, .f32⟩
  | 13 => ⟨S2x16384x4x128, .f32⟩
  | 14 => ⟨S_, .f32⟩
  | 15 => ⟨S2x16384x4x1, .f32⟩
  | 16 => ⟨S2x16384x4x1, .f32⟩
  | 17 => ⟨S2x16384x4x1, .f32⟩
  | 18 => ⟨S2x16384x4x128, .f32⟩
  | 19 => ⟨S2x16384x4x128, .f32⟩
  | 20 => ⟨S2x16384x512, .f32⟩
  | 21 => ⟨S1x1x512, .f32⟩
  | 22 => ⟨S2x16384x512, .f32⟩
  | 23 => ⟨S2x16384x512, .f32⟩
  | 24 => ⟨S2x16384x512, .f32⟩
  | 25 => ⟨S2x16384x512, .f32⟩
  | 26 => ⟨S_, .f32⟩
  | 27 => ⟨S2x16384x512, .f32⟩
  | 28 => ⟨S2x16384x512, .f32⟩
  | 29 => ⟨S_, .f32⟩
  | 30 => ⟨S2x16384x512, .f32⟩
  | 31 => ⟨S2x16384x512, .f32⟩
  | 32 => ⟨S2x16384x512, .f32⟩
  | 33 => ⟨S2x16384x512, .f32⟩
  | 34 => ⟨S2x16384x512, .bf16⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_c : Ref sig .tc := ⟨.hbm, 66, rfl⟩
abbrev main_v48_0 : Ref sig .tc := ⟨.hbm, 67, rfl⟩
abbrev main_v48_1 : Ref sig .tc := ⟨.hbm, 68, rfl⟩
abbrev main_v48_2 : Ref sig .tc := ⟨.hbm, 69, rfl⟩
abbrev main_v48_3 : Ref sig .tc := ⟨.hbm, 70, rfl⟩
abbrev main_v48_4 : Ref sig .tc := ⟨.hbm, 71, rfl⟩
abbrev main_v48_5 : Ref sig .tc := ⟨.hbm, 72, rfl⟩
abbrev main_v48_6 : Ref sig .tc := ⟨.hbm, 73, rfl⟩
abbrev main_v48_7 : Ref sig .tc := ⟨.hbm, 74, rfl⟩
abbrev main_v48_8 : Ref sig .tc := ⟨.hbm, 75, rfl⟩
abbrev main_v48_9 : Ref sig .tc := ⟨.hbm, 76, rfl⟩
abbrev main_while0c_c_23 : Ref sig .tc := ⟨.hbm, 77, rfl⟩
abbrev main_while0c_v76 : Ref sig .tc := ⟨.hbm, 78, rfl⟩
abbrev main_while0b_call1_c : Ref sig .tc := ⟨.hbm, 79, rfl⟩
abbrev main_while0b_call1_c_0 : Ref sig .tc := ⟨.hbm, 80, rfl⟩
abbrev main_while0b_call1_c_1 : Ref sig .tc := ⟨.hbm, 81, rfl⟩
abbrev main_while0b_call1_c_2 : Ref sig .tc := ⟨.hbm, 82, rfl⟩
abbrev main_while0b_call1_v0 : Ref sig .tc := ⟨.hbm, 83, rfl⟩
abbrev main_while0b_v76 : Ref sig .tc := ⟨.hbm, 84, rfl⟩
abbrev main_while0b_call2_c : Ref sig .tc := ⟨.hbm, 85, rfl⟩
abbrev main_while0b_call2_c_0 : Ref sig .tc := ⟨.hbm, 86, rfl⟩
abbrev main_while0b_call2_c_1 : Ref sig .tc := ⟨.hbm, 87, rfl⟩
abbrev main_while0b_call2_c_2 : Ref sig .tc := ⟨.hbm, 88, rfl⟩
abbrev main_while0b_call2_v0 : Ref sig .tc := ⟨.hbm, 89, rfl⟩
abbrev main_while0b_v77 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_c_1 : Ref sig .tc := ⟨.hbm, 93, rfl⟩
abbrev main_while0b_call3_c_2 : Ref sig .tc := ⟨.hbm, 94, rfl⟩
abbrev main_while0b_call3_v0 : Ref sig .tc := ⟨.hbm, 95, rfl⟩
abbrev main_while0b_v78 : Ref sig .tc := ⟨.hbm, 96, rfl⟩
abbrev main_while0b_v79 : Ref sig .tc := ⟨.hbm, 97, rfl⟩
abbrev main_while0b_v80 : Ref sig .tc := ⟨.hbm, 98, rfl⟩
abbrev main_while0b_v81 : Ref sig .tc := ⟨.hbm, 99, rfl⟩
abbrev main_while0b_v82 : Ref sig .tc := ⟨.hbm, 100, rfl⟩
abbrev main_while0b_v83 : Ref sig .tc := ⟨.hbm, 101, rfl⟩
abbrev main_while0b_v84 : Ref sig .tc := ⟨.hbm, 102, rfl⟩
abbrev main_while0b_v85 : Ref sig .tc := ⟨.hbm, 103, rfl⟩
abbrev main_while0b_v86 : Ref sig .tc := ⟨.hbm, 104, rfl⟩
abbrev main_while0b_v87 : Ref sig .tc := ⟨.hbm, 105, rfl⟩
abbrev main_while0b_v88 : Ref sig .tc := ⟨.hbm, 106, rfl⟩
abbrev main_while0b_v89 : Ref sig .tc := ⟨.hbm, 107, rfl⟩
abbrev main_while0b_v90 : Ref sig .tc := ⟨.hbm, 108, rfl⟩
abbrev main_while0b_v91 : Ref sig .tc := ⟨.hbm, 109, rfl⟩
abbrev main_while0b_v92 : Ref sig .tc := ⟨.hbm, 110, rfl⟩
abbrev main_while0b_v93 : Ref sig .tc := ⟨.hbm, 111, rfl⟩
abbrev main_while0b_v94 : Ref sig .tc := ⟨.hbm, 112, rfl⟩
abbrev main_while0b_v95 : Ref sig .tc := ⟨.hbm, 113, rfl⟩
abbrev main_while0b_v96 : Ref sig .tc := ⟨.hbm, 114, rfl⟩
abbrev main_while0b_call4_v0 : Ref sig .tc := ⟨.hbm, 115, rfl⟩
abbrev main_while0b_call4_c : Ref sig .tc := ⟨.hbm, 116, rfl⟩
abbrev main_while0b_call4_c_0 : Ref sig .tc := ⟨.hbm, 117, rfl⟩
abbrev main_while0b_call4_c_1 : Ref sig .tc := ⟨.hbm, 118, rfl⟩
abbrev main_while0b_call4_c_2 : Ref sig .tc := ⟨.hbm, 119, rfl⟩
abbrev main_while0b_v97 : Ref sig .tc := ⟨.hbm, 120, rfl⟩
abbrev main_while0b_c_23 : Ref sig .tc := ⟨.hbm, 121, rfl⟩
abbrev main_while0b_v98 : Ref sig .tc := ⟨.hbm, 122, rfl⟩
abbrev main_v49 : Ref sig .tc := ⟨.hbm, 123, rfl⟩
abbrev main_v50 : Ref sig .tc := ⟨.hbm, 124, rfl⟩
abbrev main_cst_9 : Ref sig .tc := ⟨.hbm, 125, rfl⟩
abbrev main_v51 : Ref sig .tc := ⟨.hbm, 126, rfl⟩
abbrev main_v52 : Ref sig .tc := ⟨.hbm, 127, rfl⟩
abbrev main_cst_10 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_cst_11 : Ref sig .tc := ⟨.hbm, 134, rfl⟩
abbrev main_v58 : Ref sig .tc := ⟨.hbm, 135, rfl⟩
abbrev main_v59 : Ref sig .tc := ⟨.hbm, 136, rfl⟩
abbrev main_cst_12 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_cst_13 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_call5_v0 : Ref sig .tc := ⟨.hbm, 152, rfl⟩
abbrev main_call5_v1 : Ref sig .tc := ⟨.hbm, 153, rfl⟩
abbrev main_call5_cst : Ref sig .tc := ⟨.hbm, 154, rfl⟩
abbrev main_call5_v2 : Ref sig .tc := ⟨.hbm, 155, rfl⟩
abbrev main_call5_v3 : Ref sig .tc := ⟨.hbm, 156, rfl⟩
abbrev main_call5_cst_0 : Ref sig .tc := ⟨.hbm, 157, rfl⟩
abbrev main_call5_v4 : Ref sig .tc := ⟨.hbm, 158, rfl⟩
abbrev main_call5_v5 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩

abbrev nD : Nat := 1
abbrev τ : Topo := Topo.v7x

variable {F : FTy → Type} [FloatOps F]

abbrev main_while0_count : Scf.Loop 32 := ⟨0#32, 128#32, 1#32⟩
-- ==== Proof.DiffBody.lean ====
module

public import proofs.«01_k».proof.Proof.Gen.KernelIdeal.Frame
public import proofs.«01_k».proof.Proof.Gen.KernelIdeal.Skeleton
public import proofs.«01_k».proof.Proof.Gen.KernelIdeal.Loops

/-! The body of the differential attention at one grid point runs to its end, whatever the values: it hands back its
nine input blocks as it found them, and its result block and scratch buffers at something. -/

@[expose] public section

set_option maxRecDepth 65536

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole buffer behind a memref at some contents. -/
abbrev some_at (c : Dev nD) {s : Shape} {e : EltTy} (M : Memref sig .tc .vmem s e) : sProp 𝕄 :=
  iprop(∃ d, owns (c : Thread nD τ) M fullShare d)

/-- A program that branches on a value runs if each branch runs. -/
theorem both_ways {P : sProp 𝕄} {C : Prop} [Decidable C] {c : Dev nD} {E : Set ℕ} {α : Type} {K : α → sProp 𝕄}
    {A B : Prog (TpuEff nD τ sig (Elt F) Λ₀ .tc) α}
    (hA : C → Entails' P (wp frame (wpE (defs₀ (F := F)) Variants.none c none) E A K))
    (hB : ¬C → Entails' P (wp frame (wpE (defs₀ (F := F)) Variants.none c none) E B K)) :
    Entails' P (wp frame (wpE (defs₀ (F := F)) Variants.none c none) E (if C then A else B) K) := by
  by_cases h : C
  · rw [if_pos h]; exact hA h
  · rw [if_neg h]; exact hB h

set_option maxHeartbeats 16000000 in
/-- The body's run at symbolic operands: every branch and both kinds of loop. -/
theorem body_runs (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x16384x128 .bf16) (harg9 : arg9.IsWhole) (arg10 : Memref sig .tc .vmem S1x1x32x128x512 .bf16) (harg10 : arg10.IsWhole) (arg11 : Memref sig .tc .vmem S1x128 .f32) (harg11 : arg11.IsWhole) (arg12 : Memref sig .tc .vmem S1x512x128 .bf16) (harg12 : arg12.IsWhole) (arg13 : Memref sig .tc .vmem S128x1024 .bf16) (harg13 : arg13.IsWhole) (arg14 : Memref sig .tc .vmem S16x128 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S144x1024 .f32) (harg18 : arg18.IsWhole) (arg19 : Memref sig .tc .vmem S128x1024 .bf16) (harg19 : arg19.IsWhole) (arg20 : Memref sig .tc .vmem S512x1024 .f32) (harg20 : arg20.IsWhole) (arg21 : Memref sig .tc .vmem S1x1024 .f32) (harg21 : arg21.IsWhole) (arg22 : Memref sig .tc .vmem S144x1024 .f32) (harg22 : arg22.IsWhole)
    (x0 : Vec F S1x64 .f32) (x1 : Vec F S1x64 .f32) (x2 : Vec F S1x64 .f32) (x3 : Vec F S1x64 .f32) (x4 : Vec F S1x512x128 .bf16) (x5 : Vec F S1x512x128 .bf16) (x6 : Vec F S1x16384x128 .bf16) (x7 : Vec F S1x1x32x128x512 .bf16) (x8 : Vec F S1x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ some_at c arg12 ∗ some_at c arg13 ∗ some_at c arg14 ∗ some_at c arg15 ∗ some_at c arg16 ∗ some_at c arg17 ∗ some_at c arg18 ∗ some_at c arg19 ∗ some_at c arg20 ∗ some_at c arg21 ∗ some_at c arg22 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ some_at c arg12 ∗ some_at c arg13 ∗ some_at c arg14 ∗ some_at c arg15 ∗ some_at c arg16 ∗ some_at c arg17 ∗ some_at c arg18 ∗ some_at c arg19 ∗ some_at c arg20 ∗ some_at c arg21 ∗ some_at c arg22) -∗ K ⟨⟩))
      ⊢ wp frame (wpE (defs₀ (F := F)) Variants.none c none) E (cc0_diffattn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_diffattn_eq_skeleton]; unfold cc0_diffattn_skel some_at owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  by_cases hc4 : k0_cond4 i = 1#1
  all_goals
    sl_exec_parts (disch := first | sl_exact hc4)
    refine both_ways (fun hv => ?_) (fun hv => ?_)
  all_goals
    sl_exec_parts
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl

end Cert.KernelIdeal.Diff

end
-- ==== Proof.DiffFrame.lean ====
module

public import proofs.«01_k».proof.Proof.DiffBody

/-! The run of the differential attention's program: it ends, with its eight argument arrays as it found them and
every counter at zero. Nothing is said of what it computes, so the result's window is left at anything. -/

@[expose] public section

set_option maxRecDepth 65536

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RDat)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The tenth window is the result's, whose contents nothing here reads. -/
abbrev unread_out : Fin cfg0.W → Bool := fun w => w.val == 9

/-- Each input's buffer holds its block at every point; the scratch buffers hold something; two windows read one
array, so each input holds its share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦA spec0 c
  q w := Pipeline.shareOf spec0 w
  owed _ := 0

theorem array_eq (c : Dev nD) (w : Fin cfg0.W) : (dats m 0 c).A w = V m c (Pipeline.arrRef spec0 w) := by
  dsimp only [dats]

theorem invariant_eq (c : Dev nD) (t : Fin (cfg0.N + 1)) : (dats m 0 c).Φ t = Pipeline.ΦA spec0 c := by
  dsimp only [dats]

/-- What holds between points: the ten scratch buffers at something, and the generator's register. -/
theorem between_points (c : Dev nD) : (Pipeline.ΦA spec0 c : sProp 𝕄)
    = iprop((some_at c (Memref.whole cc0_scratch0) ∗ some_at c (Memref.whole cc0_scratch1) ∗ some_at c (Memref.whole cc0_scratch2) ∗ some_at c (Memref.whole cc0_scratch3) ∗ some_at c (Memref.whole cc0_scratch4) ∗ some_at c (Memref.whole cc0_scratch5) ∗ some_at c (Memref.whole cc0_scratch6) ∗ some_at c (Memref.whole cc0_scratch7) ∗ some_at c (Memref.whole cc0_scratch8) ∗ some_at c (Memref.whole cc0_scratch9)) ∗ (∃ r, prngReg c r)) := by
  unfold Pipeline.ΦA some_at; rw [scopedRest0_eq]; simp only [owns_whole]; try rfl

/-- An input's buffer at a point, before and after the body: its block. -/
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem found0 (c : Dev nD) (t : Fin cfg0.N) (d) : (dats m 0 c).before 0 t d = iblk m c 0 t :=
  before0_0_of m (dats m 0 c) (array_eq m c 0) (left0 m c) t d
theorem found1 (c : Dev nD) (t : Fin cfg0.N) (d) : (dats m 0 c).before 1 t d = iblk m c 1 t :=
  before0_1_of m (dats m 0 c) (array_eq m c 1) (left1 m c) t d
theorem found2 (c : Dev nD) (t : Fin cfg0.N) (d) : (dats m 0 c).before 2 t d = iblk m c 2 t :=
  before0_2_of m (dats m 0 c) (array_eq m c 2) (left2 m c) t d
theorem found3 (c : Dev nD) (t : Fin cfg0.N) (d) : (dats m 0 c).before 3 t d = iblk m c 3 t :=
  before0_3_of m (dats m 0 c) (array_eq m c 3) (left3 m c) t d
theorem found4 (c : Dev nD) (t : Fin cfg0.N) (d) : (dats m 0 c).before 4 t d = iblk m c 4 t :=
  before0_4_of m (dats m 0 c) (array_eq m c 4) (left4 m c) t d
theorem found5 (c : Dev nD) (t : Fin cfg0.N) (d) : (dats m 0 c).before 5 t d = iblk m c 5 t :=
  before0_5_of m (dats m 0 c) (array_eq m c 5) (left5 m c) t d
theorem found6 (c : Dev nD) (t : Fin cfg0.N) (d) : (dats m 0 c).before 6 t d = iblk m c 6 t :=
  before0_6_of m (dats m 0 c) (array_eq m c 6) (left6 m c) t d
theorem found7 (c : Dev nD) (t : Fin cfg0.N) (d) : (dats m 0 c).before 7 t d = iblk m c 7 t :=
  before0_7_of m (dats m 0 c) (array_eq m c 7) (left7 m c) t d
theorem found8 (c : Dev nD) (t : Fin cfg0.N) (d) : (dats m 0 c).before 8 t d = iblk m c 8 t :=
  before0_8_of m (dats m 0 c) (array_eq m c 8) (left8 m c) t d

/-- The body at a point, from what the pipeline hands it to what it takes back. -/
theorem point_runs (c : Dev nD) (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ some_at c (st0_9 t))
      ⊢ wp frame (wpE (defs₀ (F := F)) Variants.none c none) Set.univ (bodyAt0 t) fun _ =>
        iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ some_at c (st0_9 t)) := by
  simp only [found0, found1, found2, found3, found4, found5, found6, found7, found8, left0, left1, left2, left3, left4, left5, left6, left7, left8]
  rw [show (dats m 0 c).owesAt () t.succ = (dats m 0 c).owesAt () t.castSucc from rfl, invariant_eq, invariant_eq, between_points]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (body_runs c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, H8, H9, S0, S1, S2, S3, S4, S5, S6, S7, S8, S9⟩
  isplitl [S0 S1 S2 S3 S4 S5 S6 S7 S8 S9 Hg]
  · isplitr [Hg]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin cfg0.N) :
    defs₀ (F := F) .tc cfg0.body (cfg0.bodyArgs t (cfg0.slots t)) = bodyAt0 t := by
  unfold defs₀; rw [Defs.onTc_tc]

theorem each_point (c : Dev nD) :
    BodyObligation (dats (F := F) m 0 c) (defs₀ (F := F)) Variants.none () Set.univ unread_out := fun t => by
  rw [bigSep_W0, bigSep_W0, body_row]
  exact triple_restated (point_runs m c t) rfl .rfl fun _ => .rfl

set_option backward.isDefEq.respectTransparency.types false in
/-- The launch: the arrays no window stages end as the pipeline found them, and every counter ends at zero. -/
theorem run_main : θ_run defs (onTc (τ := τ) (main (F := F))) (s₀ m ρ) (fun r =>
    RDat.FramePost cfg0 (fun c => (dats m 0 c).toRForget unread_out) (V m) r ∧ r.2.sem = fun _ => 0) :=
  Pipeline.θ_run_frame_forget_shared (Q' := _) cfgs (dats m) (0 : Fin 1) launch₀0 defs₀ Variants.none unread_out m ρ main
    (hbody := fun c => (each_point m c).loose) (hq := fun _ _ _ => rfl) (howed := fun _ _ => rfl) (V := V m)
    (hmain := hmain m Variants.none) (hA := array_eq m) (hΦ := invariant_eq m)

/-- The program ends with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_main m ρ)

end Cert.KernelIdeal.Diff

end
-- ==== Proof.MixRow.lean ====
/- THE LAYER TAIL, ONE ROW AT A TIME: the functions of a row both the kernel and the reference compute, over the
   extended reals and free of any tiling.

   A row is a function of its column; the weights are functions of two columns. `tailRow` is the whole tail of the
   layer at one row: the output projection of the two mixers' rows added to the scaled residual, the first layer
   norm, the up projection, the causal convolution of width three over the row and the two rows before it, the gate,
   the down projection added to the scaled residual, and the second layer norm. -/
module

public import Idealize.ShloMosaic.Lib.Pointwise

@[expose] public section

noncomputable section

open Idealize.ShloMosaic

namespace Cert.Mix

/-- The residual scale `(2 · 2) ^ (1/4)`, the f32 word both programs print. -/
abbrev alpha : EReal := Ideal.ofBits .f32 0x3FB504F3#32

/-- The number of columns a layer norm averages over, 1024, as both programs print it. -/
abbrev width : EReal := Ideal.ofBits .f32 0x44800000#32

/-- The epsilon under a layer norm's root. -/
abbrev eps : EReal := Ideal.ofBits .f32 0x3727C5AC#32

/-- The mean of a row. -/
def meanRow (y : Fin 1024 → EReal) : EReal := Ideal.div (∑ k, y k) width

/-- Layer norm of a row with gain `g` and bias `b`, at column `j`. -/
def lnRow (y g b : Fin 1024 → EReal) (j : Fin 1024) : EReal :=
  (y j - meanRow y) * Ideal.rsqrt (Ideal.div (∑ k, (y k - meanRow y) * (y k - meanRow y)) width + eps) * g j + b j

/-- The residual row scaled, plus the projection of the two mixers' rows (512 columns each) by `w`. -/
def resRow (x : Fin 1024 → EReal) (ret dif : Fin 512 → EReal) (w : Fin 1024 → Fin 1024 → EReal) (j : Fin 1024) : EReal :=
  alpha * x j + (∑ k : Fin 512, ret k * w ⟨k.val, by omega⟩ j + ∑ k : Fin 512, dif k * w ⟨512 + k.val, by omega⟩ j)

/-- The up projection of a row. -/
def upRow (x1 : Fin 1024 → EReal) (wu : Fin 1024 → Fin 5632 → EReal) (j : Fin 5632) : EReal := ∑ k, x1 k * wu k j

/-- The convolution at a column: the row's own value `h0`, the row before `h1`, the row before that `h2`. -/
def convRow (h0 h1 h2 : Fin 5632 → EReal) (cw : Fin 3 → Fin 5632 → EReal) (cb : Fin 5632 → EReal) (j : Fin 5632) : EReal :=
  cw 2 j * h0 j + cw 1 j * h1 j + cw 0 j * h2 j + cb j

/-- `a · σ(a) · b` of the convolution's two halves. -/
def gateRow (u : Fin 5632 → EReal) (j : Fin 2816) : EReal :=
  u ⟨j.val, by omega⟩ * Ideal.logistic (u ⟨j.val, by omega⟩) * u ⟨2816 + j.val, by omega⟩

/-- The down projection of a gated row added to the scaled residual. -/
def downRow (x1 : Fin 1024 → EReal) (g : Fin 2816 → EReal) (wd : Fin 2816 → Fin 1024 → EReal) (j : Fin 1024) : EReal :=
  alpha * x1 j + ∑ k, g k * wd k j

/-- The tail of the layer from the first layer norm's row and the up projections of the two rows before. -/
def tailRow (x1 : Fin 1024 → EReal) (h1 h2 : Fin 5632 → EReal) (wu : Fin 1024 → Fin 5632 → EReal) (cw : Fin 3 → Fin 5632 → EReal)
    (cb : Fin 5632 → EReal) (wd : Fin 2816 → Fin 1024 → EReal) (g b : Fin 1024 → EReal) (j : Fin 1024) : EReal :=
  lnRow (downRow x1 (gateRow (convRow (upRow x1 wu) h1 h2 cw cb)) wd) g b j

end Cert.Mix

end
-- ==== Proof.MixPay.lean ====
/- WHAT EACH VALUE OF THE TAIL KERNEL'S BODY IS at a row and a column, in terms of the rows of what it was computed
   from (`MixRow.lean`'s functions where a whole row function is complete). -/
module

public import proofs.«01_k».proof.Proof.Gen.Kernel2Ideal.Skeleton
public import proofs.«01_k».proof.Proof.MixRow

@[expose] public section

set_option maxRecDepth 16384

noncomputable section

open Idealize.ShloMosaic Idealize.ShloMosaic.TcCoe Idealize.SL.Sem

namespace Cert.Mix

open Cert.Kernel2Ideal Cert.Kernel2Ideal.Gen

theorem pay3_at (a : FVec Ideal S512x512 .bf16) (w0 : FVec Ideal S512x1024 .bf16) (b : FVec Ideal S512x512 .bf16)
    (w1 : FVec Ideal S512x1024 .bf16) (x : FVec Ideal S512x1024 .f32) (r : Fin 512) (j : Fin 1024) :
    k0_pay3 (F := Ideal) a w0 b w1 x (ix2 r j)
      = alpha * x (ix2 r j) + (∑ k : Fin 512, a (ix2 r k) * w0 (ix2 k j) + ∑ k : Fin 512, b (ix2 r k) * w1 (ix2 k j)) := by
  pointwise [k0_pay3]

/-! The up projection's tiles. -/

/-! The values stored into a tile's eight leading rows, into its other rows, and into the rows carried on. -/

theorem pay2_at (i : Fin 8) (j : Fin 5632) : k0_pay2 (F := Ideal) (ix2 i j) = 0 := by
  pointwise [k0_pay2]

theorem pay7_at (y : FVec Ideal S512x1024 .f32) (g b : FVec Ideal S1x1024 .f32) (r : Fin 512) (j : Fin 1024) :
    k0_pay7 (F := Ideal) y (k0_pay4 (F := Ideal) g) (k0_pay5 (F := Ideal) b) (ix2 r j)
      = lnRow (fun k => y (ix2 r k)) (fun k => g (ix2 0 k)) (fun k => b (ix2 0 k)) j := by
  pointwise [k0_pay7, k0_pay6, k0_pay4, k0_pay5, lnRow, meanRow]

theorem pay8_at (y : FVec Ideal S512x1024 .f32) (g b : FVec Ideal S1x1024 .f32) (r : Fin 512) (j : Fin 1024) :
    k0_pay8 (F := Ideal) y (k0_pay4 (F := Ideal) g) (k0_pay5 (F := Ideal) b) (ix2 r j)
      = lnRow (fun k => y (ix2 r k)) (fun k => g (ix2 0 k)) (fun k => b (ix2 0 k)) j := by
  pointwise [k0_pay8, k0_pay6, k0_pay4, k0_pay5, lnRow, meanRow]

theorem pay10_at (x : FVec Ideal S8x1024 .f32) (i : Fin 8) (j : Fin 1024) : k0_pay10 (F := Ideal) x (ix2 i j) = x (ix2 i j) := by
  pointwise [k0_pay10]

theorem pay14_at (x : FVec Ideal S8x1024 .f32) (i : Fin 8) (j : Fin 1024) : k0_pay14 (F := Ideal) x (ix2 i j) = x (ix2 i j) := by
  pointwise [k0_pay14]

theorem pay18_at (x : FVec Ideal S8x1024 .f32) (i : Fin 8) (j : Fin 1024) : k0_pay18 (F := Ideal) x (ix2 i j) = x (ix2 i j) := by
  pointwise [k0_pay18]

theorem pay23_at (x : FVec Ideal S8x1024 .f32) (i : Fin 8) (j : Fin 1024) : k0_pay23 (F := Ideal) x (ix2 i j) = x (ix2 i j) := by
  pointwise [k0_pay23]

theorem pay30_at (x : FVec Ideal S8x768 .f32) (i : Fin 8) (j : Fin 768) : k0_pay30 (F := Ideal) x (ix2 i j) = x (ix2 i j) := by
  pointwise [k0_pay30]

theorem pay34_at (x : FVec Ideal S8x768 .f32) (i : Fin 8) (j : Fin 768) : k0_pay34 (F := Ideal) x (ix2 i j) = x (ix2 i j) := by
  pointwise [k0_pay34]

theorem pay11_at (y : FVec Ideal S512x1024 .f32) (g b : FVec Ideal S1x1024 .f32) (w : FVec Ideal S1024x1024 .bf16) (r : Fin 512) (j : Fin 1024) :
    k0_pay11 (F := Ideal) y g b w (ix2 r j) = ∑ k : Fin 1024, k0_pay8 (F := Ideal) y g b (ix2 r k) * w (ix2 k j) := by
  pointwise [k0_pay11, k0_pay9]

theorem pay12_at (y : FVec Ideal S512x1024 .f32) (g b : FVec Ideal S1x1024 .f32) (w : FVec Ideal S1024x1024 .bf16) (i : Fin 8) (j : Fin 1024) :
    k0_pay12 (F := Ideal) y g b w (ix2 i j) = ∑ k : Fin 1024, k0_pay8 (F := Ideal) y g b (ix2 ⟨504 + i.val, by omega⟩ k) * w (ix2 k j) := by
  pointwise [k0_pay12, k0_pay9]

theorem pay15_at (x : FVec Ideal S512x1024 .bf16) (w : FVec Ideal S1024x1024 .bf16) (r : Fin 512) (j : Fin 1024) :
    k0_pay15 (F := Ideal) x w (ix2 r j) = ∑ k : Fin 1024, x (ix2 r k) * w (ix2 k j) := by
  pointwise [k0_pay15, k0_pay13]

theorem pay16_at (x : FVec Ideal S512x1024 .bf16) (w : FVec Ideal S1024x1024 .bf16) (i : Fin 8) (j : Fin 1024) :
    k0_pay16 (F := Ideal) x w (ix2 i j) = ∑ k : Fin 1024, x (ix2 ⟨504 + i.val, by omega⟩ k) * w (ix2 k j) := by
  pointwise [k0_pay16, k0_pay13]

theorem pay19_at (x : FVec Ideal S512x1024 .bf16) (w : FVec Ideal S1024x1024 .bf16) (r : Fin 512) (j : Fin 1024) :
    k0_pay19 (F := Ideal) x w (ix2 r j) = ∑ k : Fin 1024, x (ix2 r k) * w (ix2 k j) := by
  pointwise [k0_pay19, k0_pay17]

theorem pay20_at (x : FVec Ideal S512x1024 .bf16) (w : FVec Ideal S1024x1024 .bf16) (i : Fin 8) (j : Fin 1024) :
    k0_pay20 (F := Ideal) x w (ix2 i j) = ∑ k : Fin 1024, x (ix2 ⟨504 + i.val, by omega⟩ k) * w (ix2 k j) := by
  pointwise [k0_pay20, k0_pay17]

theorem pay24_at (x : FVec Ideal S512x1024 .bf16) (w : FVec Ideal S1024x1024 .bf16) (r : Fin 512) (j : Fin 1024) :
    k0_pay24 (F := Ideal) x (k0_pay21 (F := Ideal) w) (ix2 r j) = ∑ k : Fin 1024, x (ix2 r k) * w (ix2 k j) := by
  pointwise [k0_pay24, k0_pay22, k0_pay21]

theorem pay25_at (x : FVec Ideal S512x1024 .bf16) (w : FVec Ideal S1024x1024 .bf16) (i : Fin 8) (j : Fin 1024) :
    k0_pay25 (F := Ideal) x (k0_pay21 (F := Ideal) w) (ix2 i j) = ∑ k : Fin 1024, x (ix2 ⟨504 + i.val, by omega⟩ k) * w (ix2 k j) := by
  pointwise [k0_pay25, k0_pay22, k0_pay21]

theorem pay31_at (x : FVec Ideal S512x1024 .bf16) (w : FVec Ideal S1024x768 .bf16) (r : Fin 512) (j : Fin 768) :
    k0_pay31 (F := Ideal) x w (ix2 r j) = ∑ k : Fin 1024, x (ix2 r k) * w (ix2 k j) := by
  pointwise [k0_pay31, k0_pay29]

theorem pay32_at (x : FVec Ideal S512x1024 .bf16) (w : FVec Ideal S1024x768 .bf16) (i : Fin 8) (j : Fin 768) :
    k0_pay32 (F := Ideal) x w (ix2 i j) = ∑ k : Fin 1024, x (ix2 ⟨504 + i.val, by omega⟩ k) * w (ix2 k j) := by
  pointwise [k0_pay32, k0_pay29]

theorem pay35_at (x : FVec Ideal S512x1024 .bf16) (w : FVec Ideal S1024x768 .bf16) (r : Fin 512) (j : Fin 768) :
    k0_pay35 (F := Ideal) x w (ix2 r j) = ∑ k : Fin 1024, x (ix2 r k) * w (ix2 k j) := by
  pointwise [k0_pay35, k0_pay33]

theorem pay36_at (x : FVec Ideal S512x1024 .bf16) (w : FVec Ideal S1024x768 .bf16) (i : Fin 8) (j : Fin 768) :
    k0_pay36 (F := Ideal) x w (ix2 i j) = ∑ k : Fin 1024, x (ix2 ⟨504 + i.val, by omega⟩ k) * w (ix2 k j) := by
  pointwise [k0_pay36, k0_pay33]

/-! The convolution over a tile: 520 rows in, of which the first eight are the rows before the block. -/

/-- The convolution's value at row `r` of a block, from the tile `u` that starts eight rows before it. -/
def convAt {n : ℕ} (u : FVec Ideal ⟨2, ![520, n]⟩ .f32) (cw : FVec Ideal ⟨2, ![3, n]⟩ .f32) (cb : FVec Ideal ⟨2, ![1, n]⟩ .f32) (r : Fin 512) (j : Fin n) : EReal :=
  cw (ix2 2 j) * u (ix2 ⟨8 + r.val, by omega⟩ j) + cw (ix2 1 j) * u (ix2 ⟨7 + r.val, by omega⟩ j)
    + cw (ix2 0 j) * u (ix2 ⟨6 + r.val, by omega⟩ j) + cb (ix2 0 j)

theorem row_back_1 (r : Fin 512) : (8 + r.val + 520 - 1) % 520 = 7 + r.val := by omega

theorem row_back_2 (r : Fin 512) : (8 + r.val + 520 - 2) % 520 = 6 + r.val := by omega

theorem pay26_at (u : FVec Ideal S520x1024 .f32) (cw : FVec Ideal S3x1024 .f32) (cb : FVec Ideal S1x1024 .f32) (r : Fin 512) (j : Fin 1024) :
    k0_pay26 (F := Ideal) u cw cb (ix2 r j) = convAt u cw cb r j := by
  unfold convAt
  pointwise [k0_pay26]
  simp only [row_back_1, row_back_2]

theorem pay28_at (y : FVec Ideal S512x1024 .f32) (u : FVec Ideal S520x1024 .f32) (cw : FVec Ideal S3x1024 .f32) (cb : FVec Ideal S1x1024 .f32) (r : Fin 512) (j : Fin 1024) :
    k0_pay28 (F := Ideal) y u cw (k0_pay27 (F := Ideal) cw) cb (ix2 r j)
      = y (ix2 r j) * Ideal.logistic (y (ix2 r j)) * convAt u cw cb r j := by
  unfold convAt
  pointwise [k0_pay28, k0_pay27]
  simp only [row_back_1, row_back_2]

theorem pay41_at (u : FVec Ideal S520x1024 .f32) (cw : FVec Ideal S3x1024 .f32) (cb : FVec Ideal S1x1024 .f32)
    (u' : FVec Ideal S520x1024 .f32) (cw' : FVec Ideal S3x1024 .f32) (cb' : FVec Ideal S1x1024 .f32) (r : Fin 512) (j : Fin 1024) :
    k0_pay41 (F := Ideal) (k0_pay38 (F := Ideal) u cw) (k0_pay39 (F := Ideal) u) (k0_pay40 (F := Ideal) cw) cb u' cw' cb' (ix2 r j)
      = convAt u cw cb r j * Ideal.logistic (convAt u cw cb r j) * convAt u' cw' cb' r j := by
  unfold convAt
  pointwise [k0_pay41, k0_pay38, k0_pay39, k0_pay40]
  simp only [row_back_1, row_back_2]

theorem pay47_at (u : FVec Ideal S520x768 .f32) (cw : FVec Ideal S3x768 .f32) (cb : FVec Ideal S1x768 .f32)
    (u' : FVec Ideal S520x768 .f32) (cw' : FVec Ideal S3x768 .f32) (cb' : FVec Ideal S1x768 .f32) (r : Fin 512) (j : Fin 768) :
    k0_pay47 (F := Ideal) (k0_pay44 (F := Ideal) u cw cb) (k0_pay45 (F := Ideal) u' cw') (k0_pay46 (F := Ideal) cb') (ix2 r j)
      = convAt u cw cb r j * Ideal.logistic (convAt u cw cb r j) * convAt u' cw' cb' r j := by
  unfold convAt
  pointwise [k0_pay47, k0_pay44, k0_pay45, k0_pay46]
  simp only [row_back_1, row_back_2]

/-! The down projection's tiles. -/

theorem pay37_at (x : FVec Ideal S512x1024 .bf16) (w : FVec Ideal S1024x1024 .bf16) (r : Fin 512) (j : Fin 1024) :
    k0_pay37 (F := Ideal) x w (ix2 r j) = ∑ k : Fin 1024, x (ix2 r k) * w (ix2 k j) := by
  pointwise [k0_pay37]

theorem pay43_at (x : FVec Ideal S512x1024 .bf16) (w : FVec Ideal S1024x1024 .bf16) (a : FVec Ideal S512x1024 .f32) (r : Fin 512) (j : Fin 1024) :
    k0_pay43 (F := Ideal) (k0_pay42 (F := Ideal) x w a) (ix2 r j) = a (ix2 r j) + ∑ k : Fin 1024, x (ix2 r k) * w (ix2 k j) := by
  pointwise [k0_pay43, k0_pay42]

theorem pay48_at (x : FVec Ideal S512x768 .bf16) (w : FVec Ideal S768x1024 .bf16) (a : FVec Ideal S512x1024 .f32) (r : Fin 512) (j : Fin 1024) :
    k0_pay48 (F := Ideal) x w a (ix2 r j) = a (ix2 r j) + ∑ k : Fin 768, x (ix2 r k) * w (ix2 k j) := by
  pointwise [k0_pay48]

/-- The second layer norm, in the three values the body splits it into. -/
theorem pay1_at (x1 acc : FVec Ideal S512x1024 .f32) (g b : FVec Ideal S1x1024 .f32) (r : Fin 512) (j : Fin 1024) :
    k0_pay1 (F := Ideal) (k0_pay49 (F := Ideal) g) (k0_pay50 (F := Ideal) b) (k0_pay51 (F := Ideal) x1 acc) (k0_pay52 (F := Ideal) x1 acc) (ix2 r j)
      = lnRow (fun k => alpha * x1 (ix2 r k) + acc (ix2 r k)) (fun k => g (ix2 0 k)) (fun k => b (ix2 0 k)) j := by
  pointwise [k0_pay1, k0_pay49, k0_pay50, k0_pay51, k0_pay52, lnRow, meanRow]

end Cert.Mix

end
-- ==== Proof.MixTile.lean ====
/- READING BACK PIECES OF A TWO-DIMENSIONAL BUFFER: a load through a rectangle, and a load of a tile of 520 rows
   whose eight leading rows and whose other 512 rows were stored apart. -/
module

public import Idealize.ShloMosaic.Lib.Pipeline.ValueKit

@[expose] public section

noncomputable section

open Idealize.ShloMosaic Idealize.ShloMosaic.TcCoe Idealize.SL.Sem

namespace Cert.Mix

/-- A load through a rectangle reads the contents at the rectangle's offset plus the index. -/
theorem ld_at {A B a b : ℕ} {e : EltTy} (X : Vec Ideal ⟨2, ![A, B]⟩ e) (o p : ℕ)
    (h : ∀ x, (![o, p] : Fin 2 → ℕ) x + (![a, b] : Fin 2 → ℕ) x ≤ (![A, B] : Fin 2 → ℕ) x) (i : Fin a) (j : Fin b)
    (hi : o + i.val < A) (hj : p + j.val < B) :
    View.ld (e' := e) (S := ⟨2, ![A, B]⟩) X (Rect.unit (s := ⟨2, ![A, B]⟩) ![o, p] ![a, b] h) (ix2 i j) = X (ix2 ⟨o + i.val, hi⟩ ⟨p + j.val, hj⟩) :=
  View.ld_unit_apply_of (S := ⟨2, ![A, B]⟩) X _ _ _ _ _ fun x => by
    revert x; exact fun (x : Fin 2) => by fin_cases x <;> rfl

/-- The same, at any index with those coordinates. -/
theorem ld_eq {A B a b : ℕ} {e : EltTy} (X : Vec Ideal ⟨2, ![A, B]⟩ e) (o p : ℕ)
    (h : ∀ x, (![o, p] : Fin 2 → ℕ) x + (![a, b] : Fin 2 → ℕ) x ≤ (![A, B] : Fin 2 → ℕ) x) (i : Fin a) (j : Fin b)
    (i' : Fin A) (j' : Fin B) (hi : i'.val = o + i.val) (hj : j'.val = p + j.val) :
    View.ld (e' := e) (S := ⟨2, ![A, B]⟩) X (Rect.unit (s := ⟨2, ![A, B]⟩) ![o, p] ![a, b] h) (ix2 i j) = X (ix2 i' j') := by
  rw [ld_at X o p h i j (hi ▸ i'.isLt) (hj ▸ j'.isLt)]
  exact congrArg₂ (fun a b => X (ix2 a b)) (Fin.ext hi.symm) (Fin.ext hj.symm)

/-- The tile read back whole, at a row and a column: the leading rows where the row is below eight, else the others. -/
theorem tile_at {B b : ℕ} {sig : RefSig} {κ : Kind} {sp : Space} {e : EltTy} (v : View sig κ sp ⟨2, ![520, B]⟩ e)
    (L : List (View.Piece (Elt Ideal) ⟨2, ![520, B]⟩ e))
    (h : ∀ x, (![8, 0] : Fin 2 → ℕ) x + (![512, b] : Fin 2 → ℕ) x ≤ (![520, B] : Fin 2 → ℕ) x)
    (h' : ∀ x, (![0, 0] : Fin 2 → ℕ) x + (![8, b] : Fin 2 → ℕ) x ≤ (![520, B] : Fin 2 → ℕ) x)
    (h'' : ∀ x, (![0, 0] : Fin 2 → ℕ) x + (![520, b] : Fin 2 → ℕ) x ≤ (![520, B] : Fin 2 → ℕ) x)
    (P : Vec Ideal ⟨2, ![512, b]⟩ e) (Q : Vec Ideal ⟨2, ![8, b]⟩ e)
    (H : Fin 520 → Fin b → Elt Ideal e) (hP : ∀ i j, P (ix2 i j) = H ⟨8 + i.val, by omega⟩ j)
    (hQ : ∀ i j, Q (ix2 i j) = H ⟨i.val, by omega⟩ j) (i : Fin 520) (j : Fin b) :
    v.readCov (⟨Rect.unit ![8, 0] ![512, b] h, P⟩ :: ⟨Rect.unit ![0, 0] ![8, b] h', Q⟩ :: L)
      (Rect.unit (s := ⟨2, ![520, B]⟩) ![0, 0] ![520, b] h'').toLoadRect (ix2 i j) = H i j := by
  rw [View.readCov_eq_canon']
  show View.canon _ ((Rect.unit (s := ⟨2, ![520, B]⟩) ![0, 0] ![520, b] h'').emb (ix2 i j)) = _
  by_cases hi : 8 ≤ i.val
  · have e1 : (Rect.unit (s := ⟨2, ![520, B]⟩) ![0, 0] ![520, b] h'').emb (ix2 i j)
        = (Rect.unit (s := ⟨2, ![520, B]⟩) ![8, 0] ![512, b] h).emb (ix2 ⟨i.val - 8, by omega⟩ j) := by
      funext x
      revert x
      exact fun (x : Fin 2) => by
        fin_cases x <;> refine Fin.ext ?_
        · show 0 + 1 * i.val = 8 + 1 * (i.val - 8); omega
        · rfl
    rw [e1, View.canon_cons_emb, hP]
    exact congrArg (fun a => H a j) (Fin.ext (by show 8 + (i.val - 8) = i.val; omega))
  · have hn : (Rect.unit (s := ⟨2, ![520, B]⟩) ![0, 0] ![520, b] h'').emb (ix2 i j)
        ∉ (Rect.unit (s := ⟨2, ![520, B]⟩) ![8, 0] ![512, b] h).set :=
      Rect.not_mem_set_of_axis _ _ (0 : Fin 2) 8 512 rfl rfl rfl (Or.inl (by show 0 + 1 * i.val < 8; omega))
    have e1 : (Rect.unit (s := ⟨2, ![520, B]⟩) ![0, 0] ![520, b] h'').emb (ix2 i j)
        = (Rect.unit (s := ⟨2, ![520, B]⟩) ![0, 0] ![8, b] h').emb (ix2 ⟨i.val, by omega⟩ j) := by
      funext x
      revert x
      exact fun (x : Fin 2) => by
        fin_cases x <;> refine Fin.ext ?_
        · show 0 + 1 * i.val = 0 + 1 * i.val; rfl
        · show 0 + 1 * j.val = 0 + 1 * j.val; rfl
    refine (View.canon_cons_of_not_mem (⟨Rect.unit (s := ⟨2, ![520, B]⟩) ![8, 0] ![512, b] h, P⟩ : View.Piece (Elt Ideal) ⟨2, ![520, B]⟩ e) _ hn).trans ?_
    rw [e1, View.canon_cons_emb, hQ]

end Cert.Mix

end
-- ==== Proof.MixBlock.lean ====
/- ONE BLOCK OF 512 ROWS OF THE TAIL KERNEL: what a grid point leaves in its output block and in the eight rows it
   carries to the next point, as the row functions of `MixRow.lean` over the block's rows. -/
module

public import proofs.«01_k».proof.Proof.MixPay
public import proofs.«01_k».proof.Proof.MixTile
public import proofs.«01_k».proof.Proof.Gen.Kernel2Ideal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mix

open Cert.Kernel2Ideal Cert.Kernel2Ideal.Gen

/-- The up projection's rows with the eight rows carried in put in front. -/
def extRow (X : Fin 512 → Fin 1024 → EReal) (cr : Fin 8 → Fin 5632 → EReal) (wu : Fin 1024 → Fin 5632 → EReal)
    (i : Fin 520) (j : Fin 5632) : EReal :=
  if h : i.val < 8 then cr ⟨i.val, h⟩ j else upRow (X ⟨i.val - 8, by omega⟩) wu j

theorem extRow_front (X : Fin 512 → Fin 1024 → EReal) (cr : Fin 8 → Fin 5632 → EReal) (wu : Fin 1024 → Fin 5632 → EReal)
    (i : Fin 8) (j : Fin 5632) : extRow X cr wu ⟨i.val, by omega⟩ j = cr i j := by
  rw [extRow, dif_pos i.isLt]

theorem extRow_row (X : Fin 512 → Fin 1024 → EReal) (cr : Fin 8 → Fin 5632 → EReal) (wu : Fin 1024 → Fin 5632 → EReal)
    (i : Fin 512) (j : Fin 5632) : extRow X cr wu ⟨8 + i.val, by omega⟩ j = upRow (X i) wu j := by
  rw [extRow, dif_neg (by show ¬ 8 + i.val < 8; omega)]
  exact congrArg (fun a => upRow (X a) wu j) (Fin.ext (by show 8 + i.val - 8 = i.val; omega))

/-- `u` holds the columns of `f` from column `o` on. -/
def IsCols {a n N : ℕ} (u : FVec Ideal ⟨2, ![a, n]⟩ .f32) (f : Fin a → Fin N → EReal) (o : ℕ) : Prop :=
  ∀ (i : Fin a) (j : Fin n) (h : o + j.val < N), u (ix2 i j) = f i ⟨o + j.val, h⟩

/-- `u` holds the rows of `f` from row `o` on. -/
def IsRows {a n N : ℕ} (u : FVec Ideal ⟨2, ![a, n]⟩ .bf16) (f : Fin N → Fin n → EReal) (o : ℕ) : Prop :=
  ∀ (i : Fin a) (j : Fin n) (h : o + i.val < N), u (ix2 i j) = f ⟨o + i.val, h⟩ j

/-- The convolution over a tile of columns is the convolution over the columns it stands for. -/
theorem conv_tile {n : ℕ} (o : ℕ) (X : Fin 512 → Fin 1024 → EReal) (cr : Fin 8 → Fin 5632 → EReal)
    (wu : Fin 1024 → Fin 5632 → EReal) (cw : Fin 3 → Fin 5632 → EReal) (cb : Fin 1 → Fin 5632 → EReal)
    (u : FVec Ideal ⟨2, ![520, n]⟩ .f32) (w : FVec Ideal ⟨2, ![3, n]⟩ .f32) (b : FVec Ideal ⟨2, ![1, n]⟩ .f32)
    (hu : IsCols u (extRow X cr wu) o) (hw : IsCols w cw o) (hb : IsCols b cb o) (r : Fin 512) (j : Fin n) (h : o + j.val < 5632) :
    convAt u w b r j = convRow (upRow (X r) wu) (extRow X cr wu ⟨7 + r.val, by omega⟩) (extRow X cr wu ⟨6 + r.val, by omega⟩) cw (cb 0) ⟨o + j.val, h⟩ := by
  rw [convAt, convRow, hu _ j h, hu _ j h, hu _ j h, hw _ j h, hw _ j h, hw _ j h, hb _ j h, extRow_row]

/-- A sum over 2816 columns, cut at the tiles' edges. -/
theorem sum_tiles (f : Fin 2816 → EReal) :
    ∑ k, f k = (∑ k : Fin 1024, f ⟨0 + k.val, by omega⟩ + ∑ k : Fin 1024, f ⟨1024 + k.val, by omega⟩) + ∑ k : Fin 768, f ⟨2048 + k.val, by omega⟩ := by
  rw [Fin.sum_univ_two_halves 2048 768 (by norm_num) f, Fin.sum_univ_two_halves 1024 1024 (by norm_num) (fun k : Fin 2048 => f ⟨k.val, by omega⟩)]
  simp only [Nat.zero_add]

/-- The block's output, from the tiles' contents. -/
theorem tail_block (X : Fin 512 → Fin 1024 → EReal) (cr : Fin 8 → Fin 5632 → EReal)
    (wu : Fin 1024 → Fin 5632 → EReal) (cw : Fin 3 → Fin 5632 → EReal) (cb : Fin 1 → Fin 5632 → EReal) (wd : Fin 2816 → Fin 1024 → EReal)
    (x1 acc : FVec Ideal S512x1024 .f32) (g b : FVec Ideal S1x1024 .f32)
    (hx : ∀ (r : Fin 512) (k : Fin 1024), x1 (ix2 r k) = X r k)
    (r : Fin 512) (j : Fin 1024)
    (ha : ∀ k : Fin 1024, acc (ix2 r k) = ∑ i, gateRow (convRow (upRow (X r) wu) (extRow X cr wu ⟨7 + r.val, by omega⟩) (extRow X cr wu ⟨6 + r.val, by omega⟩) cw (cb 0)) i * wd i k) :
    k0_pay1 (F := Ideal) (k0_pay49 (F := Ideal) g) (k0_pay50 (F := Ideal) b) (k0_pay51 (F := Ideal) x1 acc) (k0_pay52 (F := Ideal) x1 acc) (ix2 r j)
      = tailRow (X r) (extRow X cr wu ⟨7 + r.val, by omega⟩) (extRow X cr wu ⟨6 + r.val, by omega⟩) wu cw (cb 0) wd
          (fun k => g (ix2 0 k)) (fun k => b (ix2 0 k)) j := by
  rw [pay1_at, tailRow]
  refine congrArg (fun y => lnRow y (fun k => g (ix2 0 k)) (fun k => b (ix2 0 k)) j) (funext fun k => ?_)
  rw [hx, downRow, ha]

/-- The gate over a tile of columns. -/
theorem gate_tile {n : ℕ} (o p : ℕ) (hp : p = 2816 + o) (ho : o + n ≤ 2816) (X : Fin 512 → Fin 1024 → EReal) (cr : Fin 8 → Fin 5632 → EReal)
    (wu : Fin 1024 → Fin 5632 → EReal) (cw : Fin 3 → Fin 5632 → EReal) (cb : Fin 1 → Fin 5632 → EReal)
    (u v : FVec Ideal ⟨2, ![520, n]⟩ .f32) (w z : FVec Ideal ⟨2, ![3, n]⟩ .f32) (b d : FVec Ideal ⟨2, ![1, n]⟩ .f32)
    (hu : IsCols u (extRow X cr wu) o) (hw : IsCols w cw o) (hb : IsCols b cb o)
    (hv : IsCols v (extRow X cr wu) p) (hz : IsCols z cw p) (hd : IsCols d cb p) (r : Fin 512) (j : Fin n) :
    convAt u w b r j * Ideal.logistic (convAt u w b r j) * convAt v z d r j
      = gateRow (convRow (upRow (X r) wu) (extRow X cr wu ⟨7 + r.val, by omega⟩) (extRow X cr wu ⟨6 + r.val, by omega⟩) cw (cb 0)) ⟨o + j.val, by omega⟩ := by
  subst hp
  rw [conv_tile o X cr wu cw cb u w b hu hw hb r j (by omega), conv_tile (2816 + o) X cr wu cw cb v z d hv hz hd r j (by omega), gateRow]
  exact congrArg₂ (· * ·) rfl (congrArg _ (Fin.ext (Nat.add_assoc _ _ _)))

/-- The down projection, accumulated over the three tiles of columns. -/
theorem acc_block (X : Fin 512 → Fin 1024 → EReal) (cr : Fin 8 → Fin 5632 → EReal)
    (wu : Fin 1024 → Fin 5632 → EReal) (cw : Fin 3 → Fin 5632 → EReal) (cb : Fin 1 → Fin 5632 → EReal) (wd : Fin 2816 → Fin 1024 → EReal)
    (u0 u1 u2 u3 : FVec Ideal S520x1024 .f32) (u4 u5 : FVec Ideal S520x768 .f32)
    (c0 c1 c2 c3 : FVec Ideal S3x1024 .f32) (c4 c5 : FVec Ideal S3x768 .f32)
    (b0 b1 b2 b3 : FVec Ideal S1x1024 .f32) (b4 b5 : FVec Ideal S1x768 .f32)
    (d0 d1 : FVec Ideal S1024x1024 .bf16) (d2 : FVec Ideal S768x1024 .bf16)
    (hu0 : IsCols u0 (extRow X cr wu) 0) (hu1 : IsCols u1 (extRow X cr wu) 2816) (hu2 : IsCols u2 (extRow X cr wu) 1024)
    (hu3 : IsCols u3 (extRow X cr wu) 3840) (hu4 : IsCols u4 (extRow X cr wu) 2048) (hu5 : IsCols u5 (extRow X cr wu) 4864)
    (hc0 : IsCols c0 cw 0) (hc1 : IsCols c1 cw 2816) (hc2 : IsCols c2 cw 1024) (hc3 : IsCols c3 cw 3840) (hc4 : IsCols c4 cw 2048) (hc5 : IsCols c5 cw 4864)
    (hb0 : IsCols b0 cb 0) (hb1 : IsCols b1 cb 2816) (hb2 : IsCols b2 cb 1024) (hb3 : IsCols b3 cb 3840) (hb4 : IsCols b4 cb 2048) (hb5 : IsCols b5 cb 4864)
    (hd0 : IsRows d0 wd 0) (hd1 : IsRows d1 wd 1024) (hd2 : IsRows d2 wd 2048) (r : Fin 512) (j : Fin 1024) :
    k0_pay48 (F := Ideal) (k0_pay47 (F := Ideal) (k0_pay44 (F := Ideal) u4 c4 b4) (k0_pay45 (F := Ideal) u5 c5) (k0_pay46 (F := Ideal) b5)) d2
        (k0_pay43 (F := Ideal) (k0_pay42 (F := Ideal) (k0_pay41 (F := Ideal) (k0_pay38 (F := Ideal) u2 c2) (k0_pay39 (F := Ideal) u2) (k0_pay40 (F := Ideal) c2) b2 u3 c3 b3) d1
          (k0_pay37 (F := Ideal) (k0_pay28 (F := Ideal) (k0_pay26 (F := Ideal) u0 c0 b0) u1 c1 (k0_pay27 (F := Ideal) c1) b1) d0))) (ix2 r j)
      = ∑ i, gateRow (convRow (upRow (X r) wu) (extRow X cr wu ⟨7 + r.val, by omega⟩) (extRow X cr wu ⟨6 + r.val, by omega⟩) cw (cb 0)) i * wd i j := by
  rw [sum_tiles, pay48_at, pay43_at, pay37_at]
  refine congrArg₂ (· + ·) (congrArg₂ (· + ·) ?_ ?_) ?_
  · refine Fin.sum_fin_congr fun i => ?_
    rw [pay28_at, pay26_at, gate_tile 0 2816 (by norm_num) (by norm_num) X cr wu cw cb u0 u1 c0 c1 b0 b1 hu0 hc0 hb0 hu1 hc1 hb1, hd0 i j (by omega)]
  · refine Fin.sum_fin_congr fun i => ?_
    rw [pay41_at, gate_tile 1024 3840 (by norm_num) (by norm_num) X cr wu cw cb u2 u3 c2 c3 b2 b3 hu2 hc2 hb2 hu3 hc3 hb3, hd1 i j (by omega)]
  · refine Fin.sum_fin_congr fun i => ?_
    rw [pay47_at, gate_tile 2048 4864 (by norm_num) (by norm_num) X cr wu cw cb u4 u5 c4 c5 b4 b5 hu4 hc4 hb4 hu5 hc5 hb5, hd2 i j (by omega)]

/-- A tile read back whole holds the columns of the extended rows. -/
theorem stored_cols {B b : ℕ} {sig : RefSig} {κ : Kind} {sp : Space} (v : View sig κ sp ⟨2, ![520, B]⟩ .f32)
    (L : List (View.Piece (Elt Ideal) ⟨2, ![520, B]⟩ .f32))
    (h : ∀ x, (![8, 0] : Fin 2 → ℕ) x + (![512, b] : Fin 2 → ℕ) x ≤ (![520, B] : Fin 2 → ℕ) x)
    (h' : ∀ x, (![0, 0] : Fin 2 → ℕ) x + (![8, b] : Fin 2 → ℕ) x ≤ (![520, B] : Fin 2 → ℕ) x)
    (h'' : ∀ x, (![0, 0] : Fin 2 → ℕ) x + (![520, b] : Fin 2 → ℕ) x ≤ (![520, B] : Fin 2 → ℕ) x)
    (P : FVec Ideal ⟨2, ![512, b]⟩ .f32) (Q : FVec Ideal ⟨2, ![8, b]⟩ .f32)
    (X : Fin 512 → Fin 1024 → EReal) (cr : Fin 8 → Fin 5632 → EReal) (wu : Fin 1024 → Fin 5632 → EReal) (o : ℕ) (ho : o + b ≤ 5632)
    (hP : IsCols P (fun i => upRow (X i) wu) o) (hQ : IsCols Q cr o) :
    IsCols (v.readCov (⟨Rect.unit ![8, 0] ![512, b] h, P⟩ :: ⟨Rect.unit ![0, 0] ![8, b] h', Q⟩ :: L)
      (Rect.unit (s := ⟨2, ![520, B]⟩) ![0, 0] ![520, b] h'').toLoadRect) (extRow X cr wu) o := by
  intro i j hj
  exact tile_at v L h h' h'' P Q (fun i j => extRow X cr wu i ⟨o + j.val, by omega⟩)
    (fun i j => (hP i j (by omega)).trans (extRow_row X cr wu i _).symm) (fun i j => (hQ i j (by omega)).trans (extRow_front X cr wu i _).symm) i j

variable (m : (ℓ : Loc nD τ sig) → Buf (Elt Ideal) ℓ)

/-- The first layer norm's rows at grid point `t`, from the point's blocks. -/
def blkX (c : Dev nD) (t : Fin cfg0.N) (r : Fin 512) : Fin 1024 → EReal :=
  lnRow (resRow (fun k => iblk m c 0 t (ix2 r k)) (fun k => iblk m c 1 t (ix2 r k)) (fun k => iblk m c 2 t (ix2 r k)) (fun k j => iblk m c 3 t (ix2 k j)))
    (fun k => iblk m c 4 t (ix2 0 k)) (fun k => iblk m c 5 t (ix2 0 k))

/-- The up projection's weights at grid point `t`. -/
def blkWu (c : Dev nD) (t : Fin cfg0.N) (k : Fin 1024) (j : Fin 5632) : EReal := iblk m c 6 t (ix2 k j)

/-- The convolution's taps at grid point `t`. -/
def blkCw (c : Dev nD) (t : Fin cfg0.N) (i : Fin 3) (j : Fin 5632) : EReal := iblk m c 7 t (ix2 i j)

/-- The convolution's bias at grid point `t`. -/
def blkCb (c : Dev nD) (t : Fin cfg0.N) (i : Fin 1) (j : Fin 5632) : EReal := iblk m c 8 t (ix2 i j)

/-- The down projection's weights at grid point `t`. -/
def blkWd (c : Dev nD) (t : Fin cfg0.N) (k : Fin 2816) (j : Fin 1024) : EReal := iblk m c 9 t (ix2 k j)

/-- The residual rows, as the body computes them. -/
theorem res_at (c : Dev nD) (t : Fin cfg0.N) (h h') (r : Fin 512) (j : Fin 1024) :
    k0_pay3 (F := Ideal) (iblk m c 1 t) (View.ld (iblk m c 3 t) (Rect.unit ![0, 0] ![512, 1024] h)) (iblk m c 2 t)
        (View.ld (iblk m c 3 t) (Rect.unit ![512, 0] ![512, 1024] h')) (iblk m c 0 t) (ix2 r j)
      = resRow (fun k => iblk m c 0 t (ix2 r k)) (fun k => iblk m c 1 t (ix2 r k)) (fun k => iblk m c 2 t (ix2 r k)) (fun k j => iblk m c 3 t (ix2 k j)) j := by
  rw [pay3_at, resRow]
  refine congrArg₂ (· + ·) rfl (congrArg₂ (· + ·) (Fin.sum_fin_congr fun k => congrArg₂ (· * ·) rfl ?_) (Fin.sum_fin_congr fun k => congrArg₂ (· * ·) rfl ?_))
  · exact ld_eq (e := .bf16) (iblk m c 3 t) 0 0 h k j ⟨k.val, by omega⟩ j (Nat.zero_add _).symm (Nat.zero_add _).symm
  · exact ld_eq (e := .bf16) (iblk m c 3 t) 512 0 h' k j ⟨512 + k.val, by omega⟩ j rfl (Nat.zero_add _).symm

theorem norm8_at (c : Dev nD) (t : Fin cfg0.N) (h h') (r : Fin 512) (j : Fin 1024) :
    k0_pay8 (F := Ideal) (k0_pay3 (F := Ideal) (iblk m c 1 t) (View.ld (iblk m c 3 t) (Rect.unit ![0, 0] ![512, 1024] h)) (iblk m c 2 t)
        (View.ld (iblk m c 3 t) (Rect.unit ![512, 0] ![512, 1024] h')) (iblk m c 0 t)) (k0_pay4 (F := Ideal) (iblk m c 4 t)) (k0_pay5 (F := Ideal) (iblk m c 5 t)) (ix2 r j)
      = blkX m c t r j := by
  rw [pay8_at, blkX]
  exact congrArg (fun y => lnRow y (fun k => iblk m c 4 t (ix2 0 k)) (fun k => iblk m c 5 t (ix2 0 k)) j) (funext fun k => res_at m c t h h' r k)

theorem norm7_at (c : Dev nD) (t : Fin cfg0.N) (h h') (r : Fin 512) (j : Fin 1024) :
    k0_pay7 (F := Ideal) (k0_pay3 (F := Ideal) (iblk m c 1 t) (View.ld (iblk m c 3 t) (Rect.unit ![0, 0] ![512, 1024] h)) (iblk m c 2 t)
        (View.ld (iblk m c 3 t) (Rect.unit ![512, 0] ![512, 1024] h')) (iblk m c 0 t)) (k0_pay4 (F := Ideal) (iblk m c 4 t)) (k0_pay5 (F := Ideal) (iblk m c 5 t)) (ix2 r j)
      = blkX m c t r j := by
  rw [pay7_at, blkX]
  exact congrArg (fun y => lnRow y (fun k => iblk m c 4 t (ix2 0 k)) (fun k => iblk m c 5 t (ix2 0 k)) j) (funext fun k => res_at m c t h h' r k)

/-- A product of the normed rows with a tile of the up projection's columns is the up projection there. -/
theorem up_cols {b : ℕ} (c : Dev nD) (t : Fin cfg0.N) (xb : FVec Ideal S512x1024 .bf16) (hx : ∀ (r : Fin 512) (k : Fin 1024), xb (ix2 r k) = blkX m c t r k)
    (o : ℕ) (hw : ∀ x, (![0, o] : Fin 2 → ℕ) x + (![1024, b] : Fin 2 → ℕ) x ≤ (![1024, 5632] : Fin 2 → ℕ) x) (r : Fin 512) (j : Fin b) (h : o + j.val < 5632) :
    ∑ k : Fin 1024, xb (ix2 r k) * (View.ld (S := S1024x5632) (e' := .bf16) (iblk m c 6 t) (Rect.unit (s := S1024x5632) ![0, o] ![1024, b] hw)) (ix2 k j)
      = upRow (blkX m c t r) (blkWu m c t) ⟨o + j.val, h⟩ := by
  refine Fin.sum_fin_congr fun k => congrArg₂ (· * ·) (hx r k) ?_
  exact ld_eq (e := .bf16) (iblk m c 6 t) 0 o hw k j k ⟨o + j.val, h⟩ (Nat.zero_add _).symm rfl

/-- A load of some columns of a buffer holds those columns. -/
theorem ld_cols {a n N : ℕ} (X : FVec Ideal ⟨2, ![a, N]⟩ .f32) (o : ℕ)
    (h : ∀ x, (![0, o] : Fin 2 → ℕ) x + (![a, n] : Fin 2 → ℕ) x ≤ (![a, N] : Fin 2 → ℕ) x) :
    IsCols (N := N) (View.ld (Val := Elt Ideal) (S := ⟨2, ![a, N]⟩) (e' := .f32) X (Rect.unit (s := ⟨2, ![a, N]⟩) ![0, o] ![a, n] h)) (fun i j => X (ix2 i j)) o :=
  fun i j hj => ld_eq (e := .f32) X 0 o h i j i ⟨o + j.val, hj⟩ (Nat.zero_add _).symm rfl

/-- A load of some rows of a buffer holds those rows. -/
theorem ld_rows {a n N : ℕ} (X : FVec Ideal ⟨2, ![N, n]⟩ .bf16) (o : ℕ)
    (h : ∀ x, (![o, 0] : Fin 2 → ℕ) x + (![a, n] : Fin 2 → ℕ) x ≤ (![N, n] : Fin 2 → ℕ) x) :
    IsRows (N := N) (View.ld (Val := Elt Ideal) (S := ⟨2, ![N, n]⟩) (e' := .bf16) X (Rect.unit (s := ⟨2, ![N, n]⟩) ![o, 0] ![a, n] h)) (fun i j => X (ix2 i j)) o :=
  fun i j hi => ld_eq (e := .bf16) X o 0 h i j ⟨o + i.val, hi⟩ j rfl (Nat.zero_add _).symm

/-- The rows carried after the point: the last eight rows of the up projection. -/
def lastRows (X : Fin 512 → Fin 1024 → EReal) (wu : Fin 1024 → Fin 5632 → EReal) (i : Fin 8) (j : Fin 5632) : EReal :=
  upRow (X ⟨504 + i.val, by omega⟩) wu j

/-- The output block of a point that resets the carried rows. -/
theorem out_A (c : Dev nD) (t : Fin cfg0.N) (h0 : t.val % 32 = 0) (r : Fin 512) (j : Fin 1024) :
    (outsAt0 m c t.val t.isLt).1 (ix2 r j)
      = tailRow (blkX m c t r) (extRow (blkX m c t) (fun i j => (k0_pay2 (F := Ideal)) (ix2 i j)) (blkWu m c t) ⟨7 + r.val, by omega⟩)
          (extRow (blkX m c t) (fun i j => (k0_pay2 (F := Ideal)) (ix2 i j)) (blkWu m c t) ⟨6 + r.val, by omega⟩) (blkWu m c t) (blkCw m c t) (blkCb m c t 0) (blkWd m c t)
          (fun k => iblk m c 10 t (ix2 0 k)) (fun k => iblk m c 11 t (ix2 0 k)) j := by
  rw [outsAt0_A m c t h0]
  frame_out
  simp (decide := true) only [View.readCov_cons_toLoadRect, ↓View.readCov_skip, View.readCov_fill]
  refine tail_block (blkX m c t) (fun i j => (k0_pay2 (F := Ideal)) (ix2 i j)) (blkWu m c t) (blkCw m c t) (blkCb m c t) (blkWd m c t) _ _ _ _ (norm7_at m c t _ _) r j fun k => ?_
  refine acc_block (blkX m c t) (fun i j => (k0_pay2 (F := Ideal)) (ix2 i j)) (blkWu m c t) (blkCw m c t) (blkCb m c t) (blkWd m c t) _ _ _ _ _ _ _ _ _ _ _ _ _ _ _ _ _ _ _ _ _
    ?_ ?_ ?_ ?_ ?_ ?_ (ld_cols (iblk m c 7 t) _ _) (ld_cols (iblk m c 7 t) _ _) (ld_cols (iblk m c 7 t) _ _) (ld_cols (iblk m c 7 t) _ _) (ld_cols (iblk m c 7 t) _ _) (ld_cols (iblk m c 7 t) _ _)
    (ld_cols (iblk m c 8 t) _ _) (ld_cols (iblk m c 8 t) _ _) (ld_cols (iblk m c 8 t) _ _) (ld_cols (iblk m c 8 t) _ _) (ld_cols (iblk m c 8 t) _ _) (ld_cols (iblk m c 8 t) _ _)
    (ld_rows (iblk m c 9 t) _ _) (ld_rows (iblk m c 9 t) _ _) (ld_rows (iblk m c 9 t) _ _) r k
  · exact stored_cols _ _ _ _ _ _ _ _ _ _ 0 (by norm_num) (fun i j hj => (pay11_at _ _ _ _ i j).trans (up_cols m c t _ (norm8_at m c t _ _) 0 _ i j hj)) (fun i j hj => (pay10_at _ i j).trans (ld_cols (k0_pay2 (F := Ideal)) 0 _ i j hj))
  · exact stored_cols _ _ _ _ _ _ _ _ _ _ 2816 (by norm_num) (fun i j hj => (pay15_at _ _ i j).trans (up_cols m c t _ (norm8_at m c t _ _) 2816 _ i j hj)) (fun i j hj => (pay14_at _ i j).trans (ld_cols (k0_pay2 (F := Ideal)) 2816 _ i j hj))
  · exact stored_cols _ _ _ _ _ _ _ _ _ _ 1024 (by norm_num) (fun i j hj => (pay19_at _ _ i j).trans (up_cols m c t _ (norm8_at m c t _ _) 1024 _ i j hj)) (fun i j hj => (pay18_at _ i j).trans (ld_cols (k0_pay2 (F := Ideal)) 1024 _ i j hj))
  · exact stored_cols _ _ _ _ _ _ _ _ _ _ 3840 (by norm_num) (fun i j hj => (pay24_at _ _ i j).trans (up_cols m c t _ (norm8_at m c t _ _) 3840 _ i j hj)) (fun i j hj => (pay23_at _ i j).trans (ld_cols (k0_pay2 (F := Ideal)) 3840 _ i j hj))
  · exact stored_cols _ _ _ _ _ _ _ _ _ _ 2048 (by norm_num) (fun i j hj => (pay31_at _ _ i j).trans (up_cols m c t _ (norm8_at m c t _ _) 2048 _ i j hj)) (fun i j hj => (pay30_at _ i j).trans (ld_cols (k0_pay2 (F := Ideal)) 2048 _ i j hj))
  · exact stored_cols _ _ _ _ _ _ _ _ _ _ 4864 (by norm_num) (fun i j hj => (pay35_at _ _ i j).trans (up_cols m c t _ (norm8_at m c t _ _) 4864 _ i j hj)) (fun i j hj => (pay34_at _ i j).trans (ld_cols (k0_pay2 (F := Ideal)) 4864 _ i j hj))

/-- The output block of a point that keeps the carried rows. -/
theorem out_B (c : Dev nD) (t : Fin cfg0.N) (h0 : ¬ t.val % 32 = 0) (r : Fin 512) (j : Fin 1024) :
    (outsAt0 m c t.val t.isLt).1 (ix2 r j)
      = tailRow (blkX m c t r) (extRow (blkX m c t) (fun i j => (outsAt0 m c (t.val - 1) (by omega)).2 (ix2 i j)) (blkWu m c t) ⟨7 + r.val, by omega⟩)
          (extRow (blkX m c t) (fun i j => (outsAt0 m c (t.val - 1) (by omega)).2 (ix2 i j)) (blkWu m c t) ⟨6 + r.val, by omega⟩) (blkWu m c t) (blkCw m c t) (blkCb m c t 0) (blkWd m c t)
          (fun k => iblk m c 10 t (ix2 0 k)) (fun k => iblk m c 11 t (ix2 0 k)) j := by
  rw [outsAt0_B m c t h0]
  frame_out
  simp (decide := true) only [View.readCov_cons_toLoadRect, ↓View.readCov_skip, read_unread_whole]
  refine tail_block (blkX m c t) (fun i j => (outsAt0 m c (t.val - 1) (by omega)).2 (ix2 i j)) (blkWu m c t) (blkCw m c t) (blkCb m c t) (blkWd m c t) _ _ _ _ (norm7_at m c t _ _) r j fun k => ?_
  refine acc_block (blkX m c t) (fun i j => (outsAt0 m c (t.val - 1) (by omega)).2 (ix2 i j)) (blkWu m c t) (blkCw m c t) (blkCb m c t) (blkWd m c t) _ _ _ _ _ _ _ _ _ _ _ _ _ _ _ _ _ _ _ _ _
    ?_ ?_ ?_ ?_ ?_ ?_ (ld_cols (iblk m c 7 t) _ _) (ld_cols (iblk m c 7 t) _ _) (ld_cols (iblk m c 7 t) _ _) (ld_cols (iblk m c 7 t) _ _) (ld_cols (iblk m c 7 t) _ _) (ld_cols (iblk m c 7 t) _ _)
    (ld_cols (iblk m c 8 t) _ _) (ld_cols (iblk m c 8 t) _ _) (ld_cols (iblk m c 8 t) _ _) (ld_cols (iblk m c 8 t) _ _) (ld_cols (iblk m c 8 t) _ _) (ld_cols (iblk m c 8 t) _ _)
    (ld_rows (iblk m c 9 t) _ _) (ld_rows (iblk m c 9 t) _ _) (ld_rows (iblk m c 9 t) _ _) r k
  · exact stored_cols _ _ _ _ _ _ _ _ _ _ 0 (by norm_num) (fun i j hj => (pay11_at _ _ _ _ i j).trans (up_cols m c t _ (norm8_at m c t _ _) 0 _ i j hj)) (fun i j hj => (pay10_at _ i j).trans (ld_cols (outsAt0 m c (t.val - 1) (by omega)).2 0 _ i j hj))
  · exact stored_cols _ _ _ _ _ _ _ _ _ _ 2816 (by norm_num) (fun i j hj => (pay15_at _ _ i j).trans (up_cols m c t _ (norm8_at m c t _ _) 2816 _ i j hj)) (fun i j hj => (pay14_at _ i j).trans (ld_cols (outsAt0 m c (t.val - 1) (by omega)).2 2816 _ i j hj))
  · exact stored_cols _ _ _ _ _ _ _ _ _ _ 1024 (by norm_num) (fun i j hj => (pay19_at _ _ i j).trans (up_cols m c t _ (norm8_at m c t _ _) 1024 _ i j hj)) (fun i j hj => (pay18_at _ i j).trans (ld_cols (outsAt0 m c (t.val - 1) (by omega)).2 1024 _ i j hj))
  · exact stored_cols _ _ _ _ _ _ _ _ _ _ 3840 (by norm_num) (fun i j hj => (pay24_at _ _ i j).trans (up_cols m c t _ (norm8_at m c t _ _) 3840 _ i j hj)) (fun i j hj => (pay23_at _ i j).trans (ld_cols (outsAt0 m c (t.val - 1) (by omega)).2 3840 _ i j hj))
  · exact stored_cols _ _ _ _ _ _ _ _ _ _ 2048 (by norm_num) (fun i j hj => (pay31_at _ _ i j).trans (up_cols m c t _ (norm8_at m c t _ _) 2048 _ i j hj)) (fun i j hj => (pay30_at _ i j).trans (ld_cols (outsAt0 m c (t.val - 1) (by omega)).2 2048 _ i j hj))
  · exact stored_cols _ _ _ _ _ _ _ _ _ _ 4864 (by norm_num) (fun i j hj => (pay35_at _ _ i j).trans (up_cols m c t _ (norm8_at m c t _ _) 4864 _ i j hj)) (fun i j hj => (pay34_at _ i j).trans (ld_cols (outsAt0 m c (t.val - 1) (by omega)).2 4864 _ i j hj))

/-- A function of a row and a column, as the contents of the carried rows' buffer. -/
def rowsOf (f : Fin 8 → Fin 5632 → EReal) : Vec Ideal S8x5632 .f32 := fun y => f (y 0) (y 1)

/-- A piece of eight rows that holds some columns of `f` is a block of `f`. -/
theorem piece_cols {b : ℕ} (o : ℕ) (ho : o + b ≤ 5632)
    (h : ∀ x, (![0, o] : Fin 2 → ℕ) x + (![8, b] : Fin 2 → ℕ) x ≤ (![8, 5632] : Fin 2 → ℕ) x)
    (P : FVec Ideal ⟨2, ![8, b]⟩ .f32) (f : Fin 8 → Fin 5632 → EReal) (hP : IsCols P f o) (x : (⟨2, ![8, b]⟩ : Shape).Idx) :
    P x = rowsOf f ((Rect.unit (s := S8x5632) ![0, o] ![8, b] h).emb x) := by
  have key : ∀ (x0 : Fin 8) (x1 : Fin b), P (ix2 x0 x1) = rowsOf f ((Rect.unit (s := S8x5632) ![0, o] ![8, b] h).emb (ix2 x0 x1)) := fun x0 x1 => by
    rw [hP x0 x1 (by omega), rowsOf]
    refine congrArg₂ f (Fin.ext ?_) (Fin.ext ?_)
    · show x0.val = 0 + 1 * x0.val; omega
    · show o + x1.val = o + 1 * x1.val; omega
  have e : x = ix2 (x 0) (x 1) := funext fun a => by revert a; exact fun (a : Fin 2) => by fin_cases a <;> rfl
  rw [e]
  exact key (x 0) (x 1)

/-- A column in a piece's range is held by the piece. -/
theorem mem_cols (b o : ℕ) (h : ∀ x, (![0, o] : Fin 2 → ℕ) x + (![8, b] : Fin 2 → ℕ) x ≤ (![8, 5632] : Fin 2 → ℕ) x)
    (i : Fin 8) (j : Fin 5632) (h1 : o ≤ j.val) (h2 : j.val < o + b) : (ix2 i j : S8x5632.Idx) ∈ (Rect.unit (s := S8x5632) ![0, o] ![8, b] h).set := by
  have e : (Rect.unit (s := S8x5632) ![0, o] ![8, b] h).emb (ix2 i (⟨j.val - o, by omega⟩ : Fin b)) = (ix2 i j : S8x5632.Idx) := by
    refine Rect.emb_eq_of_coords _ _ _ ?_
    intro a
    revert a
    exact fun (a : Fin 2) => by
      fin_cases a
      · show i.val = 0 + 1 * i.val; omega
      · show j.val = o + 1 * (j.val - o); omega
  rw [← e, ← Rect.map_emb_univ]
  exact Finset.mem_map_of_mem _ (Finset.mem_univ _)

/-- Six stores side by side, over any earlier ones, leave the rows they are blocks of. -/
theorem canon_cols (f : Fin 8 → Fin 5632 → EReal) (L' : List (View.Piece (Elt Ideal) S8x5632 .f32)) (h0 h1 h2 h3 h4 h5)
    (P0 P1 P2 P3 : FVec Ideal S8x1024 .f32) (P4 P5 : FVec Ideal S8x768 .f32)
    (hP0 : IsCols P0 f 0) (hP1 : IsCols P1 f 2816) (hP2 : IsCols P2 f 1024) (hP3 : IsCols P3 f 3840) (hP4 : IsCols P4 f 2048) (hP5 : IsCols P5 f 4864) (i : Fin 8) (j : Fin 5632) :
    View.canon ((⟨Rect.unit ![0, 4864] ![8, 768] h5, P5⟩ : View.Piece (Elt Ideal) S8x5632 .f32) :: (⟨Rect.unit ![0, 2048] ![8, 768] h4, P4⟩ : View.Piece (Elt Ideal) S8x5632 .f32) :: (⟨Rect.unit ![0, 3840] ![8, 1024] h3, P3⟩ : View.Piece (Elt Ideal) S8x5632 .f32)
      :: (⟨Rect.unit ![0, 1024] ![8, 1024] h2, P2⟩ : View.Piece (Elt Ideal) S8x5632 .f32) :: (⟨Rect.unit ![0, 2816] ![8, 1024] h1, P1⟩ : View.Piece (Elt Ideal) S8x5632 .f32) :: (⟨Rect.unit ![0, 0] ![8, 1024] h0, P0⟩ : View.Piece (Elt Ideal) S8x5632 .f32) :: L') (ix2 i j) = f i j := by
  refine View.canon_append_of_piecesOf (rowsOf f) L' [⟨Rect.unit ![0, 4864] ![8, 768] h5, P5⟩, ⟨Rect.unit ![0, 2048] ![8, 768] h4, P4⟩,
    ⟨Rect.unit ![0, 3840] ![8, 1024] h3, P3⟩, ⟨Rect.unit ![0, 1024] ![8, 1024] h2, P2⟩, ⟨Rect.unit ![0, 2816] ![8, 1024] h1, P1⟩, ⟨Rect.unit ![0, 0] ![8, 1024] h0, P0⟩]
    ⟨piece_cols 4864 (by norm_num) h5 P5 f hP5, piece_cols 2048 (by norm_num) h4 P4 f hP4, piece_cols 3840 (by norm_num) h3 P3 f hP3,
      piece_cols 1024 (by norm_num) h2 P2 f hP2, piece_cols 2816 (by norm_num) h1 P1 f hP1, piece_cols 0 (by norm_num) h0 P0 f hP0, trivial⟩ (ix2 i j) ?_
  by_cases c1 : j.val < 1024
  · exact ⟨⟨Rect.unit ![0, 0] ![8, 1024] h0, P0⟩, by simp, mem_cols 1024 0 h0 i j (by omega) (by omega)⟩
  by_cases c2 : j.val < 2048
  · exact ⟨⟨Rect.unit ![0, 1024] ![8, 1024] h2, P2⟩, by simp, mem_cols 1024 1024 h2 i j (by omega) (by omega)⟩
  by_cases c3 : j.val < 2816
  · exact ⟨⟨Rect.unit ![0, 2048] ![8, 768] h4, P4⟩, by simp, mem_cols 768 2048 h4 i j (by omega) (by omega)⟩
  by_cases c4 : j.val < 3840
  · exact ⟨⟨Rect.unit ![0, 2816] ![8, 1024] h1, P1⟩, by simp, mem_cols 1024 2816 h1 i j (by omega) (by omega)⟩
  by_cases c5 : j.val < 4864
  · exact ⟨⟨Rect.unit ![0, 3840] ![8, 1024] h3, P3⟩, by simp, mem_cols 1024 3840 h3 i j (by omega) (by omega)⟩
  · exact ⟨⟨Rect.unit ![0, 4864] ![8, 768] h5, P5⟩, by simp, mem_cols 768 4864 h5 i j (by omega) (by omega)⟩

/-- The rows carried out of a point that resets the rows carried in. -/
theorem carry_A (c : Dev nD) (t : Fin cfg0.N) (h0 : t.val % 32 = 0) (i : Fin 8) (j : Fin 5632) :
    (outsAt0 m c t.val t.isLt).2 (ix2 i j) = lastRows (blkX m c t) (blkWu m c t) i j := by
  rw [outsAt0_A m c t h0]
  frame_out
  refine canon_cols (lastRows (blkX m c t) (blkWu m c t)) _ _ _ _ _ _ _ _ _ _ _ _ _ ?_ ?_ ?_ ?_ ?_ ?_ i j
  · exact fun i j hj => (pay12_at _ _ _ _ i j).trans (up_cols m c t _ (norm8_at m c t _ _) 0 _ _ j hj)
  · exact fun i j hj => (pay16_at _ _ i j).trans (up_cols m c t _ (norm8_at m c t _ _) 2816 _ _ j hj)
  · exact fun i j hj => (pay20_at _ _ i j).trans (up_cols m c t _ (norm8_at m c t _ _) 1024 _ _ j hj)
  · exact fun i j hj => (pay25_at _ _ i j).trans (up_cols m c t _ (norm8_at m c t _ _) 3840 _ _ j hj)
  · exact fun i j hj => (pay32_at _ _ i j).trans (up_cols m c t _ (norm8_at m c t _ _) 2048 _ _ j hj)
  · exact fun i j hj => (pay36_at _ _ i j).trans (up_cols m c t _ (norm8_at m c t _ _) 4864 _ _ j hj)

/-- The rows carried out of a point that keeps the rows carried in. -/
theorem carry_B (c : Dev nD) (t : Fin cfg0.N) (h0 : ¬ t.val % 32 = 0) (i : Fin 8) (j : Fin 5632) :
    (outsAt0 m c t.val t.isLt).2 (ix2 i j) = lastRows (blkX m c t) (blkWu m c t) i j := by
  rw [outsAt0_B m c t h0]
  frame_out
  refine canon_cols (lastRows (blkX m c t) (blkWu m c t)) _ _ _ _ _ _ _ _ _ _ _ _ _ ?_ ?_ ?_ ?_ ?_ ?_ i j
  · exact fun i j hj => (pay12_at _ _ _ _ i j).trans (up_cols m c t _ (norm8_at m c t _ _) 0 _ _ j hj)
  · exact fun i j hj => (pay16_at _ _ i j).trans (up_cols m c t _ (norm8_at m c t _ _) 2816 _ _ j hj)
  · exact fun i j hj => (pay20_at _ _ i j).trans (up_cols m c t _ (norm8_at m c t _ _) 1024 _ _ j hj)
  · exact fun i j hj => (pay25_at _ _ i j).trans (up_cols m c t _ (norm8_at m c t _ _) 3840 _ _ j hj)
  · exact fun i j hj => (pay32_at _ _ i j).trans (up_cols m c t _ (norm8_at m c t _ _) 2048 _ _ j hj)
  · exact fun i j hj => (pay36_at _ _ i j).trans (up_cols m c t _ (norm8_at m c t _ _) 4864 _ _ j hj)

end Cert.Mix

end
-- ==== Proof.MixRef.lean ====
/- WHAT THE REFERENCE OF THE LAYER TAIL COMPUTES at one sequence, position and column, as the row functions of
   `MixRow.lean` over its argument arrays. -/
module

public import proofs.«01_k».proof.Proof.MixRow
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem

namespace Cert.Mix

/-- The first layer norm's row at position `s` of sequence `p`, from the argument arrays. -/
def argX (x : FVec Ideal ⟨3, ![2, 16384, 1024]⟩ .f32) (ret dif : FVec Ideal ⟨3, ![2, 16384, 512]⟩ .f32) (w : FVec Ideal ⟨2, ![1024, 1024]⟩ .f32)
    (g b : FVec Ideal ⟨1, ![1024]⟩ .f32) (p : Fin 2) (s : Fin 16384) : Fin 1024 → EReal :=
  lnRow (resRow (fun k => x (ix3 p s k)) (fun k => ret (ix3 p s k)) (fun k => dif (ix3 p s k)) (fun k j => w (ix2 k j)))
    (fun k => g (ix1 k)) (fun k => b (ix1 k))

/-- The up projection of the row `d` positions before `s`: zero before the sequence's start. -/
def backRow (X : Fin 16384 → Fin 1024 → EReal) (wu : Fin 1024 → Fin 5632 → EReal) (d : ℕ) (s : Fin 16384) (j : Fin 5632) : EReal :=
  if h : d ≤ s.val then upRow (X ⟨s.val - d, by omega⟩) wu j else 0

/-- The layer tail at position `s` of sequence `p`, from the first layer norm's rows of the sequence and the weights. -/
def tailAt (X : Fin 16384 → Fin 1024 → EReal) (wu : FVec Ideal ⟨2, ![1024, 5632]⟩ .f32) (cw : FVec Ideal ⟨2, ![3, 5632]⟩ .f32)
    (cb : FVec Ideal ⟨1, ![5632]⟩ .f32) (wd : FVec Ideal ⟨2, ![2816, 1024]⟩ .f32) (g b : FVec Ideal ⟨1, ![1024]⟩ .f32) (s : Fin 16384) (j : Fin 1024) : EReal :=
  tailRow (X s) (backRow X (fun k j => wu (ix2 k j)) 1 s) (backRow X (fun k j => wu (ix2 k j)) 2 s) (fun k j => wu (ix2 k j)) (fun i j => cw (ix2 i j))
    (fun j => cb (ix1 j)) (fun k j => wd (ix2 k j)) (fun k => g (ix1 k)) (fun k => b (ix1 k)) j

open Cert.Reference2Ideal Cert.Reference2Ideal.Gen Cert.Reference2Ideal.Value

variable (V : Valuation τ sig (Elt Ideal))

/-- The reference's argument arrays, as the row functions take them. -/
abbrev refX (p : Fin 2) (s : Fin 16384) : Fin 1024 → EReal :=
  argX (V (Proc.devRef .tc main_arg0)) (V (Proc.devRef .tc main_arg1)) (V (Proc.devRef .tc main_arg2)) (V (Proc.devRef .tc main_arg3))
    (V (Proc.devRef .tc main_arg4)) (V (Proc.devRef .tc main_arg5)) p s

theorem ref4_at (p : Fin 2) (s : Fin 16384) (j : Fin 1024) :
    res_main_v4 (F := Ideal) V (ix3 p s j)
      = resRow (fun k => V (Proc.devRef .tc main_arg0) (ix3 p s k)) (fun k => V (Proc.devRef .tc main_arg1) (ix3 p s k))
          (fun k => V (Proc.devRef .tc main_arg2) (ix3 p s k)) (fun k j => V (Proc.devRef .tc main_arg3) (ix2 k j)) j := by
  pointwise [res_main_v4, resRow]

theorem ref28_at (p : Fin 2) (s : Fin 16384) (j : Fin 1024) : res_main_v28 (F := Ideal) V (ix3 p s j) = refX V p s j := by
  unfold refX argX lnRow meanRow
  pointwise [res_main_v28, res_main_v10, res_main_v8]
  simp only [ref4_at V]

/-- The reference's up projection weights. -/
abbrev refWu (k : Fin 1024) (j : Fin 5632) : EReal := V (Proc.devRef .tc main_arg6) (ix2 k j)

theorem ref30_at (p : Fin 2) (t : Fin 16386) (j : Fin 5632) :
    res_main_v30 (F := Ideal) V (ix3 p t j) = if h : 2 ≤ t.val then upRow (refX V p ⟨t.val - 2, by omega⟩) (refWu V) j else 0 := by
  unfold upRow refWu
  pointwise [res_main_v30]
  simp only [ref28_at V]
  refine dite_congr (propext ⟨fun h => h.1, fun h => ⟨h, by omega⟩⟩) (fun _ => rfl) fun _ => ?_
  show (((0#32 : BitVec 32).toInt : ℝ) : EReal) = 0
  simp

theorem ref53_at (p : Fin 2) (s : Fin 16384) (j : Fin 5632) :
    res_main_v53 (F := Ideal) V (ix3 p s j)
      = convRow (upRow (refX V p s) (refWu V)) (backRow (refX V p) (refWu V) 1 s) (backRow (refX V p) (refWu V) 2 s)
          (fun i j => V (Proc.devRef .tc main_arg7) (ix2 i j)) (fun j => V (Proc.devRef .tc main_arg8) (ix1 j)) j := by
  unfold convRow
  pointwise [res_main_v53]
  simp only [ref30_at V]
  have e0 : (if h : 2 ≤ 2 + s.val then upRow (refX V p ⟨2 + s.val - 2, by omega⟩) (refWu V) j else 0) = upRow (refX V p s) (refWu V) j := by
    rw [dif_pos (by omega)]
    exact congrArg (fun a => upRow (refX V p a) (refWu V) j) (Fin.ext (by show 2 + s.val - 2 = s.val; omega))
  have e1 : (if h : 2 ≤ 1 + s.val then upRow (refX V p ⟨1 + s.val - 2, by omega⟩) (refWu V) j else 0) = backRow (refX V p) (refWu V) 1 s j := by
    unfold backRow
    by_cases h : 1 ≤ s.val
    · rw [dif_pos (by omega), dif_pos h]
      exact congrArg (fun a => upRow (refX V p a) (refWu V) j) (Fin.ext (by show 1 + s.val - 2 = s.val - 1; omega))
    · rw [dif_neg (by omega), dif_neg h]
  rw [e0, e1]
  show backRow (refX V p) (refWu V) 2 s j * _ + _ + _ + _ = _
  ac_nf

theorem ref61_at (p : Fin 2) (s : Fin 16384) (j : Fin 1024) :
    res_main_v61 (F := Ideal) V (ix3 p s j)
      = downRow (refX V p s) (gateRow (convRow (upRow (refX V p s) (refWu V)) (backRow (refX V p) (refWu V) 1 s) (backRow (refX V p) (refWu V) 2 s)
          (fun i j => V (Proc.devRef .tc main_arg7) (ix2 i j)) (fun j => V (Proc.devRef .tc main_arg8) (ix1 j))))
          (fun k j => V (Proc.devRef .tc main_arg9) (ix2 k j)) j := by
  unfold downRow gateRow
  pointwise [res_main_v61, res_main_v54]
  simp only [ref53_at V, ref28_at V]
  rfl

/-- The reference's result, as its program composes it from the second residual. -/
def refOut : FVec Ideal S32768x1024 .f32 :=
  shapeCast S32768x1024 (addf (mulf (mulf (subf (res_main_v61 V) (broadcastInDim S2x16384x1024 ![0, 1, 2] bcast_S2x16384x1_S2x16384x1024_0_1_2 (res_main_v65 V))) (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf (res_main_v67 V) (res_main_v67 V)) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x3727C5AC#32)))))) (broadcastInDim S2x16384x1024 ![0, 1, 2] bcast_S1x1x1024_S2x16384x1024_0_1_2 (broadcastInDim S1x1x1024 ![2] bcast_S1024_S1x1x1024_2 (V (Proc.devRef .tc main_arg10))))) (broadcastInDim S2x16384x1024 ![0, 1, 2] bcast_S1x1x1024_S2x16384x1024_0_1_2 (broadcastInDim S1x1x1024 ![2] bcast_S1024_S1x1x1024_2 (V (Proc.devRef .tc main_arg11))))) shapeCasts_S2x16384x1024_S32768x1024

/-- The reference's result at position `s` of sequence `p`. -/
theorem refOut_at (R : Fin 32768) (j : Fin 1024) :
    refOut V (ix2 R j)
      = tailAt (refX V ⟨R.val / 16384, by omega⟩) (V (Proc.devRef .tc main_arg6)) (V (Proc.devRef .tc main_arg7)) (V (Proc.devRef .tc main_arg8))
          (V (Proc.devRef .tc main_arg9)) (V (Proc.devRef .tc main_arg10)) (V (Proc.devRef .tc main_arg11)) ⟨R.val % 16384, by omega⟩ j := by
  unfold tailAt tailRow lnRow meanRow
  pointwise [refOut, res_main_v67, res_main_v65]
  simp only [ref61_at V]

end Cert.Mix

end
-- ==== Proof.MixVal.lean ====
/- THE TAIL KERNEL'S RESULT ARRAY, from what each grid point leaves: at a row of the flattened batch and a column it is
   the layer tail of `MixRow.lean` at that row's sequence and position. -/
module

public import proofs.«01_k».proof.Proof.MixBlock
public import proofs.«01_k».proof.Proof.MixRef

@[expose] public section

set_option maxRecDepth 16384

noncomputable section

open Idealize.ShloMosaic Idealize.ShloMosaic.TcCoe Idealize.SL.Sem
open Idealize.ShloMosaic.Pipeline (Dat)

namespace Cert.Mix

open Cert.Kernel2Ideal Cert.Kernel2Ideal.Gen

variable (m : (ℓ : Loc nD τ sig) → Buf (Elt Ideal) ℓ)

/-- Where each window's block lies at grid point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![t.val, 0] ∧ t.val < 64 :=
  (by decide +kernel : ∀ t : Fin grid0.N, _)

theorem blk0_at (c : Dev nD) (t : Fin cfg0.N) (r : Fin 512) (k : Fin 1024) (p : Fin 2) (s : Fin 16384) (h : 512 * t.val + r.val = 16384 * p.val + s.val) :
    iblk m c 0 t (ix2 r k) = m ((c : Thread nD τ).loc main_arg0) (ix3 p s k) := by
  blk_simp [iblk, idx t]
  entry_read
  pointwise
  blk_ext [idx t]
  all_goals omega

theorem blk1_at (c : Dev nD) (t : Fin cfg0.N) (r : Fin 512) (k : Fin 512) (p : Fin 2) (s : Fin 16384) (h : 512 * t.val + r.val = 16384 * p.val + s.val) :
    iblk m c 1 t (ix2 r k) = m ((c : Thread nD τ).loc main_arg1) (ix3 p s k) := by
  blk_simp [iblk, idx t]
  entry_read
  pointwise
  blk_ext [idx t]
  all_goals omega

theorem blk2_at (c : Dev nD) (t : Fin cfg0.N) (r : Fin 512) (k : Fin 512) (p : Fin 2) (s : Fin 16384) (h : 512 * t.val + r.val = 16384 * p.val + s.val) :
    iblk m c 2 t (ix2 r k) = m ((c : Thread nD τ).loc main_arg2) (ix3 p s k) := by
  blk_simp [iblk, idx t]
  entry_read
  pointwise
  blk_ext [idx t]
  all_goals omega

theorem blk3_at (c : Dev nD) (t : Fin cfg0.N) (r : Fin 1024) (k : Fin 1024) :
    iblk m c 3 t (ix2 r k) = m ((c : Thread nD τ).loc main_arg3) (ix2 r k) := by
  blk_simp [iblk, idx t]
  entry_read
  pointwise
  blk_ext [idx t]

theorem blk6_at (c : Dev nD) (t : Fin cfg0.N) (r : Fin 1024) (k : Fin 5632) :
    iblk m c 6 t (ix2 r k) = m ((c : Thread nD τ).loc main_arg6) (ix2 r k) := by
  blk_simp [iblk, idx t]
  entry_read
  pointwise
  blk_ext [idx t]

theorem blk9_at (c : Dev nD) (t : Fin cfg0.N) (r : Fin 2816) (k : Fin 1024) :
    iblk m c 9 t (ix2 r k) = m ((c : Thread nD τ).loc main_arg9) (ix2 r k) := by
  blk_simp [iblk, idx t]
  entry_read
  pointwise
  blk_ext [idx t]

theorem blk7_at (c : Dev nD) (t : Fin cfg0.N) (r : Fin 3) (k : Fin 5632) :
    iblk m c 7 t (ix2 r k) = m ((c : Thread nD τ).loc main_arg7) (ix2 r k) := by
  blk_ext [iblk, V, idx t]

theorem blk4_at (c : Dev nD) (t : Fin cfg0.N) (r : Fin 1) (k : Fin 1024) :
    iblk m c 4 t (ix2 r k) = m ((c : Thread nD τ).loc main_arg4) (ix1 k) := by
  blk_simp [iblk, idx t]
  entry_read
  pointwise
  blk_ext [idx t]

theorem blk5_at (c : Dev nD) (t : Fin cfg0.N) (r : Fin 1) (k : Fin 1024) :
    iblk m c 5 t (ix2 r k) = m ((c : Thread nD τ).loc main_arg5) (ix1 k) := by
  blk_simp [iblk, idx t]
  entry_read
  pointwise
  blk_ext [idx t]

theorem blk8_at (c : Dev nD) (t : Fin cfg0.N) (r : Fin 1) (k : Fin 5632) :
    iblk m c 8 t (ix2 r k) = m ((c : Thread nD τ).loc main_arg8) (ix1 k) := by
  blk_simp [iblk, idx t]
  entry_read
  pointwise
  blk_ext [idx t]

theorem blk10_at (c : Dev nD) (t : Fin cfg0.N) (r : Fin 1) (k : Fin 1024) :
    iblk m c 10 t (ix2 r k) = m ((c : Thread nD τ).loc main_arg10) (ix1 k) := by
  blk_simp [iblk, idx t]
  entry_read
  pointwise
  blk_ext [idx t]

theorem blk11_at (c : Dev nD) (t : Fin cfg0.N) (r : Fin 1) (k : Fin 1024) :
    iblk m c 11 t (ix2 r k) = m ((c : Thread nD τ).loc main_arg11) (ix1 k) := by
  blk_simp [iblk, idx t]
  entry_read
  pointwise
  blk_ext [idx t]

/-- The first layer norm's rows of the kernel's argument arrays. -/
abbrev kerX (c : Dev nD) (p : Fin 2) (s : Fin 16384) : Fin 1024 → EReal :=
  argX (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) p s

/-- The kernel's up projection weights. -/
abbrev kerWu (c : Dev nD) (k : Fin 1024) (j : Fin 5632) : EReal := m ((c : Thread nD τ).loc main_arg6) (ix2 k j)

theorem blkX_eq (c : Dev nD) (t : Fin cfg0.N) (r : Fin 512) (p : Fin 2) (s : Fin 16384) (h : 512 * t.val + r.val = 16384 * p.val + s.val) :
    blkX m c t r = kerX m c p s := by
  unfold blkX kerX argX
  simp only [blk0_at m c t r _ p s h, blk1_at m c t r _ p s h, blk2_at m c t r _ p s h, blk3_at, blk4_at, blk5_at]

theorem blkWu_eq (c : Dev nD) (t : Fin cfg0.N) : blkWu m c t = kerWu m c := funext fun k => funext fun j => blk6_at m c t k j

/-- The rows a point carries on: the last eight rows of its block. -/
theorem carry_at (c : Dev nD) (t : Fin cfg0.N) (i : Fin 8) (j : Fin 5632) :
    (outsAt0 m c t.val t.isLt).2 (ix2 i j) = upRow (blkX m c t ⟨504 + i.val, by omega⟩) (kerWu m c) j := by
  rw [← blkWu_eq m c t]
  by_cases h0 : t.val % 32 = 0
  · exact carry_A m c t h0 i j
  · exact carry_B m c t h0 i j

/-- The extended rows `d` rows before row `r` of a point's block, `d` at most two: the row that many positions before, zero before the sequence's start. -/
theorem ext_A (c : Dev nD) (t : Fin cfg0.N) (h0 : t.val % 32 = 0) (r : Fin 512) (p : Fin 2) (s : Fin 16384)
    (h : 512 * t.val + r.val = 16384 * p.val + s.val) (d : ℕ) (hd : d ≤ 2) (i : Fin 520) (hi : i.val + d = 8 + r.val) :
    extRow (blkX m c t) (fun i j => k0_pay2 (F := Ideal) (ix2 i j)) (blkWu m c t) i = backRow (kerX m c p) (kerWu m c) d s := by
  funext j
  unfold extRow backRow
  rw [blkWu_eq m c t]
  have ht := (idx t).2.2.2.2.2.2.2.2.2.2.2.2.2
  by_cases hc : i.val < 8
  · rw [dif_pos hc, dif_neg (by omega)]
    exact pay2_at _ _
  · rw [dif_neg hc, dif_pos (by omega)]
    exact congrArg (fun y => upRow y (kerWu m c) j) (blkX_eq m c t _ p _ (by show 512 * t.val + (i.val - 8) = 16384 * p.val + (s.val - d); omega))

theorem ext_B (c : Dev nD) (t : Fin cfg0.N) (h0 : ¬ t.val % 32 = 0) (r : Fin 512) (p : Fin 2) (s : Fin 16384)
    (h : 512 * t.val + r.val = 16384 * p.val + s.val) (d : ℕ) (hd : d ≤ 2) (i : Fin 520) (hi : i.val + d = 8 + r.val) (hb : t.val - 1 < cfg0.N) :
    extRow (blkX m c t) (fun i j => (outsAt0 m c (t.val - 1) hb).2 (ix2 i j)) (blkWu m c t) i = backRow (kerX m c p) (kerWu m c) d s := by
  funext j
  unfold extRow backRow
  rw [blkWu_eq m c t]
  have ht := (idx t).2.2.2.2.2.2.2.2.2.2.2.2.2
  by_cases hc : i.val < 8
  · rw [dif_pos hc, dif_pos (by omega)]
    refine (carry_at m c ⟨t.val - 1, hb⟩ _ j).trans ?_
    exact congrArg (fun y => upRow y (kerWu m c) j) (blkX_eq m c ⟨t.val - 1, hb⟩ _ p _ (by show 512 * (t.val - 1) + (504 + i.val) = 16384 * p.val + (s.val - d); omega))
  · rw [dif_neg hc, dif_pos (by omega)]
    exact congrArg (fun y => upRow y (kerWu m c) j) (blkX_eq m c t _ p _ (by show 512 * t.val + (i.val - 8) = 16384 * p.val + (s.val - d); omega))

/-- The kernel's result at position `s` of sequence `p`. -/
abbrev kerTail (c : Dev nD) (p : Fin 2) (s : Fin 16384) (j : Fin 1024) : EReal :=
  tailAt (kerX m c p) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) s j

theorem out_at (c : Dev nD) (t : Fin cfg0.N) (r : Fin 512) (j : Fin 1024) (p : Fin 2) (s : Fin 16384) (h : 512 * t.val + r.val = 16384 * p.val + s.val) :
    (outsAt0 m c t.val t.isLt).1 (ix2 r j) = kerTail m c p s j := by
  have hw : blkCw m c t = fun i j => m ((c : Thread nD τ).loc main_arg7) (ix2 i j) := funext fun k => funext fun j => blk7_at m c t k j
  have hb : blkCb m c t 0 = fun j => m ((c : Thread nD τ).loc main_arg8) (ix1 j) := funext fun j => blk8_at m c t 0 j
  have hd : blkWd m c t = fun i j => m ((c : Thread nD τ).loc main_arg9) (ix2 i j) := funext fun k => funext fun j => blk9_at m c t k j
  unfold kerTail tailAt
  by_cases h0 : t.val % 32 = 0
  · rw [out_A m c t h0 r j, ext_A m c t h0 r p s h 1 (by omega) _ (by show 7 + r.val + 1 = 8 + r.val; omega), ext_A m c t h0 r p s h 2 (by omega) _ (by show 6 + r.val + 2 = 8 + r.val; omega),
      blkX_eq m c t r p s h, blkWu_eq, hw, hb, hd]
    simp only [blk10_at, blk11_at]
  · rw [out_B m c t h0 r j, ext_B m c t h0 r p s h 1 (by omega) _ (by show 7 + r.val + 1 = 8 + r.val; omega), ext_B m c t h0 r p s h 2 (by omega) _ (by show 6 + r.val + 2 = 8 + r.val; omega),
      blkX_eq m c t r p s h, blkWu_eq, hw, hb, hd]
    simp only [blk10_at, blk11_at]

/-- The kernel's result array. -/
def kerOut (c : Dev nD) : Buf (Elt Ideal) ((c : Thread nD τ).loc main_v13) := fun i =>
  kerTail m c ⟨(i 0).val / 16384, by have h : (i 0).val < 32768 := (i 0).isLt; omega⟩ ⟨(i 0).val % 16384, by omega⟩ (i 1)

theorem final (c : Dev nD) : (dats m 0 c).arrAt 12 cfg0.N = kerOut m c := by
  refine (dats m 0 c).arrAt_eq_of_covers 12 (kerOut m c) (by decide +kernel) fun t hf y => ?_
  blk_simp
  rw [after0_12]
  have e0 : (((win0_12.blk t).view.emb y) (0 : Fin 2)).val = 512 * t.val + ((y : S512x1024.Idx) 0).val := by
    blk_simp [idx t]
    show t.val * 512 + (y (0 : Fin 2)).val = 512 * t.val + (y (0 : Fin 2)).val
    omega
  have e1 : (((win0_12.blk t).view.emb y) (1 : Fin 2)) = ((y : S512x1024.Idx) 1) := Fin.ext (by
    blk_simp [idx t])
  refine (congrArg (outsAt0 m c t.val t.isLt).1 (eq_ix2 (y : S512x1024.Idx))).trans ?_
  unfold kerOut
  refine (out_at m c t ((y : S512x1024.Idx) 0) ((y : S512x1024.Idx) 1) _ _ ?_).trans (congrArg _ e1.symm)
  show 512 * t.val + ((y : S512x1024.Idx) 0).val = 16384 * ((((win0_12.blk t).view.emb y) (0 : Fin 2)).val / 16384) + (((win0_12.blk t).view.emb y) (0 : Fin 2)).val % 16384
  rw [e0]
  omega

end Cert.Mix

end
-- ==== Proof.ProjRow.lean ====
/- THE PROJECTION AT A POSITION: the product of a position's row with a column of the packed weights, the rotary angle
   of a position and a column, and the rotated queries and keys of one head. Kernel and reference are both read off as
   these. -/
module

public import Idealize.ShloMosaic.Lib.Pointwise

@[expose] public section

noncomputable section

open Idealize.ShloMosaic

namespace Cert.Proj

variable (x : FVec Ideal ⟨3, ![2, 16384, 1024]⟩ .f32) (w : FVec Ideal ⟨2, ![1024, 3584]⟩ .f32)

/-- The layer's input at position `s` of sequence `p`, times column `n` of the packed weights. -/
def dotAt (p : Fin 2) (s : Fin 16384) (n : ℕ) (hn : n < 3584) : EReal := ∑ k, x (ix3 p s k) * w (ix2 k ⟨n, hn⟩)

/-- The rotary angle of position `s` at column `d` of half a head: `s · 10000 ^ (-d / 64)`. -/
def angAt (s d : ℕ) : EReal :=
  FloatOps.sitofp (F := Ideal) FTy.f32 (BitVec.ofNat 32 s)
    * Ideal.pow (Ideal.ofBits FTy.f32 0x461C4000#32)
      (Ideal.div (-FloatOps.sitofp (F := Ideal) FTy.f32 (BitVec.ofNat 32 d)) (Ideal.ofBits FTy.f32 0x42800000#32))

theorem ang_fold (s d : ℕ) :
    FloatOps.sitofp (F := Ideal) FTy.f32 (BitVec.ofNat 32 s) * Ideal.pow (Ideal.ofBits FTy.f32 1176256512#32)
      (Ideal.div (-FloatOps.sitofp (F := Ideal) FTy.f32 (BitVec.ofNat 32 d)) (Ideal.ofBits FTy.f32 1115684864#32)) = angAt s d := rfl

/-- Products with two columns whose numbers are equal are equal. -/
theorem dot_congr (p : Fin 2) (s : Fin 16384) (n n' : ℕ) (hn : n < 3584) (hn' : n' < 3584) (h : n = n') :
    dotAt x w p s n hn = dotAt x w p s n' hn' := by
  subst h; rfl

/-- Column `j` of the four rotated heads whose columns of the packed weights start at `o`: in a head's first half the
    cosine times the column less the sine times its partner, in the second half the sine times the partner plus the
    cosine times the column. -/
def rotAt (p : Fin 2) (s : Fin 16384) (o : ℕ) (ho : o + 512 ≤ 3584) (j : Fin 512) : EReal :=
  if h : j.val % 128 < 64 then
    dotAt x w p s (o + j.val) (by omega) * Ideal.cos (angAt s.val (j.val % 128))
      - dotAt x w p s (o + (j.val + 64)) (by omega) * Ideal.sin (angAt s.val (j.val % 128))
  else
    dotAt x w p s (o + (j.val - 64)) (by omega) * Ideal.sin (angAt s.val (j.val % 128 - 64))
      + dotAt x w p s (o + j.val) (by omega) * Ideal.cos (angAt s.val (j.val % 128 - 64))

/-- The seven results, each as the function of the two arguments that both programs compute. -/
def rqOut : FVec Ideal ⟨3, ![2, 16384, 512]⟩ .f32 := fun i => rotAt x w (i 0) (i 1) 0 (by omega) (i 2)

def rkOut : FVec Ideal ⟨3, ![2, 512, 16384]⟩ .f32 := fun i => rotAt x w (i 0) (i 2) 512 (by omega) (i 1) * Ideal.ofBits .f32 0x3DB504F3#32

def colsOut (o : ℕ) (ho : o + 512 ≤ 3584) : FVec Ideal ⟨3, ![2, 16384, 512]⟩ .f32 := fun i =>
  dotAt x w (i 0) (i 1) (o + (i 2).val) (by have h : (i 2).val < 512 := (i 2).isLt; omega)

def dqOut : FVec Ideal ⟨3, ![2, 16384, 512]⟩ .f32 := fun i => colsOut x w 2048 (by omega) i * Ideal.ofBits .f32 0x3E38AA3B#32

def dvOut : FVec Ideal ⟨5, ![2, 4, 32, 128, 512]⟩ .f32 := fun i =>
  dotAt x w (i 0) ⟨(i 2).val * 512 + (i 4).val, by have h : (i 2).val < 32 := (i 2).isLt; have h' : (i 4).val < 512 := (i 4).isLt; omega⟩
    (3072 + ((i 1).val * 128 + (i 3).val)) (by have h : (i 1).val < 4 := (i 1).isLt; have h' : (i 3).val < 128 := (i 3).isLt; omega)

end Cert.Proj

end
-- ==== Proof.ProjVal.lean ====
/- THE PROJECTION KERNEL'S SEVEN RESULT ARRAYS: what each grid point leaves in its output blocks, and from those blocks
   the arrays, as the functions of `ProjRow.lean` of the kernel's two arguments. -/
module

public import proofs.«01_k».proof.Proof.ProjRow
public import proofs.«01_k».proof.Proof.MixTile
public import proofs.«01_k».proof.Proof.Gen.Kernel3Ideal.Value
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proj

open Cert.Kernel3Ideal Cert.Kernel3Ideal.Gen

/-! ### The stores' payloads at an index -/

/-- Head columns `o + d` rotated: the head's product times the cosine table, plus the product half a head away times the sine table. -/
def qForm (v0 : Vec Ideal S1x512x1024 .f32) (v3 v5 : Vec Ideal S512x128 .f32) (v7 : Vec Ideal S1024x512 .bf16) (o : ℕ) (ho : o + 128 ≤ 512) (r : Fin 512) (d : Fin 128) : EReal :=
  (∑ k : Fin 1024, v0 (ix3 0 r k) * v7 (ix2 k ⟨o + d.val, by omega⟩)) * v3 (ix2 r d)
    + (∑ k : Fin 1024, v0 (ix3 0 r k) * v7 (ix2 k ⟨o + (d.val + 128 - 64) % 128, by omega⟩)) * v5 (ix2 r d)

section Payloads

variable (v0 : Vec Ideal S1x512x1024 .f32) (v3 v5 : Vec Ideal S512x128 .f32) (v7 : Vec Ideal S1024x512 .bf16) (r : Fin 512) (d : Fin 128)

theorem pay8_at : k0_pay8 (F := Ideal) v0 v3 v5 v7 (ix3 0 r d) = qForm v0 v3 v5 v7 0 (by omega) r d := by
  unfold qForm
  pointwise [k0_pay8, k0_pay7, k0_pay4, k0_pay5, k0_pay6]

theorem pay9_at : k0_pay9 (F := Ideal) v0 v3 v5 v7 (ix3 0 r d) = qForm v0 v3 v5 v7 128 (by omega) r d := by
  unfold qForm
  pointwise [k0_pay9, k0_pay7, k0_pay4, k0_pay5, k0_pay6]

theorem pay11_at : k0_pay11 (F := Ideal) (k0_pay10 (F := Ideal) v0 v3 v5 v7) (ix3 0 r d) = qForm v0 v3 v5 v7 256 (by omega) r d := by
  unfold qForm
  pointwise [k0_pay11, k0_pay10, k0_pay7, k0_pay4, k0_pay5, k0_pay6]

theorem pay12_at : k0_pay12 (F := Ideal) (k0_pay5 (F := Ideal) v3) (k0_pay6 (F := Ideal) v5) (k0_pay7 (F := Ideal) v0 v7) (ix3 0 r d) = qForm v0 v3 v5 v7 384 (by omega) r d := by
  unfold qForm
  pointwise [k0_pay12, k0_pay7, k0_pay4, k0_pay5, k0_pay6]

end Payloads

/-- The scale of the keys, the f32 word the kernel prints. -/
abbrev kScale : EReal := Ideal.ofBits .f32 0x3DB504F3#32

/-- The first half of a key head from row `o` of the transposed products on. -/
def kLo (v47 v49 : Vec Ideal S64x512 .f32) (v52 : Vec Ideal S512x512 .f32) (o : ℕ) (ho : o + 128 ≤ 512) (d : Fin 64) (r : Fin 512) : EReal :=
  (v52 (ix2 ⟨o + d.val, by omega⟩ r) * v47 (ix2 d r) - v52 (ix2 ⟨o + 64 + d.val, by omega⟩ r) * v49 (ix2 d r)) * kScale

/-- The second half. -/
def kHi (v47 v49 : Vec Ideal S64x512 .f32) (v52 : Vec Ideal S512x512 .f32) (o : ℕ) (ho : o + 128 ≤ 512) (d : Fin 64) (r : Fin 512) : EReal :=
  (v52 (ix2 ⟨o + d.val, by omega⟩ r) * v49 (ix2 d r) + v52 (ix2 ⟨o + 64 + d.val, by omega⟩ r) * v47 (ix2 d r)) * kScale

section Keys

variable (v46 v48 v47 v49 : Vec Ideal S64x512 .f32) (v2 v50 : Vec Ideal S512x1024 .bf16) (v52 : Vec Ideal S512x512 .f32) (d : Fin 64) (r : Fin 512)

theorem pay18_at : k0_pay18 (F := Ideal) v2 v46 v48 v50 (ix3 0 d r) = kLo v46 v48 (k0_pay15 (F := Ideal) v2 v50) 0 (by omega) d r := by
  unfold kLo kScale
  pointwise [k0_pay18, k0_pay16, k0_pay17, k0_pay13, k0_pay14, k0_pay15]

theorem pay20_at : k0_pay20 (F := Ideal) (k0_pay19 (F := Ideal) v2 v46 v48 v50) (ix3 0 d r) = kHi v46 v48 (k0_pay15 (F := Ideal) v2 v50) 0 (by omega) d r := by
  unfold kHi kScale
  pointwise [k0_pay20, k0_pay19, k0_pay16, k0_pay17, k0_pay13, k0_pay14, k0_pay15]

theorem pay23_at : k0_pay23 (F := Ideal) v47 v49 v52 (ix3 0 d r) = kLo v47 v49 v52 128 (by omega) d r := by
  unfold kLo kScale
  pointwise [k0_pay23, k0_pay21, k0_pay22]

theorem pay24_at : k0_pay24 (F := Ideal) v47 v49 v52 (ix3 0 d r) = kHi v47 v49 v52 128 (by omega) d r := by
  unfold kHi kScale
  pointwise [k0_pay24, k0_pay21, k0_pay22]

theorem pay27_at : k0_pay27 (F := Ideal) v47 v49 v52 (ix3 0 d r) = kLo v47 v49 v52 256 (by omega) d r := by
  unfold kLo kScale
  pointwise [k0_pay27, k0_pay25, k0_pay26]

theorem pay29_at : k0_pay29 (F := Ideal) (k0_pay28 (F := Ideal) v47 v49 v52) (ix3 0 d r) = kHi v47 v49 v52 256 (by omega) d r := by
  unfold kHi kScale
  pointwise [k0_pay29, k0_pay28, k0_pay25, k0_pay26]

theorem pay32_at : k0_pay32 (F := Ideal) v47 v49 v52 (ix3 0 d r) = kLo v47 v49 v52 384 (by omega) d r := by
  unfold kLo kScale
  pointwise [k0_pay32, k0_pay30, k0_pay31]

theorem pay33_at : k0_pay33 (F := Ideal) v47 v49 v52 (ix3 0 d r) = kHi v47 v49 v52 384 (by omega) d r := by
  unfold kHi kScale
  pointwise [k0_pay33, k0_pay30, k0_pay31]

theorem pay13_eq : k0_pay13 (F := Ideal) v46 = v46 := by
  funext i
  rw [eq_ix2 i]
  pointwise [k0_pay13]

theorem pay14_eq : k0_pay14 (F := Ideal) v48 = v48 := by
  funext i
  rw [eq_ix2 i]
  pointwise [k0_pay14]

end Keys

section Columns

variable (v0 : Vec Ideal S1x512x1024 .f32) (v7 : Vec Ideal S1024x512 .bf16) (v50 : Vec Ideal S512x1024 .bf16) (r j : Fin 512)

theorem pay34_at : k0_pay34 (F := Ideal) (k0_pay4 (F := Ideal) v0) v7 (ix3 0 r j) = ∑ k : Fin 1024, v0 (ix3 0 r k) * v7 (ix2 k j) := by
  pointwise [k0_pay34, k0_pay4]

theorem pay35_at : k0_pay35 (F := Ideal) (k0_pay4 (F := Ideal) v0) v7 (ix3 0 r j) = ∑ k : Fin 1024, v0 (ix3 0 r k) * v7 (ix2 k j) := by
  pointwise [k0_pay35, k0_pay4]

theorem pay1_at : k0_pay1 (F := Ideal) (k0_pay4 (F := Ideal) v0) v7 (ix3 0 r j) = (∑ k : Fin 1024, v0 (ix3 0 r k) * v7 (ix2 k j)) * Ideal.ofBits .f32 0x3E38AA3B#32 := by
  pointwise [k0_pay1, k0_pay4]

theorem pay2_at : k0_pay2 (F := Ideal) (k0_pay4 (F := Ideal) v0) v7 (ix3 0 r j) = ∑ k : Fin 1024, v0 (ix3 0 r k) * v7 (ix2 k j) := by
  pointwise [k0_pay2, k0_pay4]

theorem pay15_at : k0_pay15 (F := Ideal) (k0_pay4 (F := Ideal) v0) v50 (ix2 j r) = ∑ k : Fin 1024, v50 (ix2 j k) * v0 (ix3 0 r k) := by
  pointwise [k0_pay15, k0_pay4]

theorem pay3_at (h : Fin 4) (d : Fin 128) : k0_pay3 (F := Ideal) (k0_pay4 (F := Ideal) v0) v50 (ix5 0 h 0 d r) = ∑ k : Fin 1024, v50 (ix2 ⟨h.val * 128 + d.val, by omega⟩ k) * v0 (ix3 0 r k) := by
  pointwise [k0_pay3, k0_pay4]

end Columns

/-! ### The input blocks at an index -/

variable (m : (ℓ : Loc nD τ sig) → Buf (Elt Ideal) ℓ)

/-- The kernel's input and packed weights. -/
abbrev kerIn (c : Dev nD) : FVec Ideal ⟨3, ![2, 16384, 1024]⟩ .f32 := m ((c : Thread nD τ).loc main_arg0)

abbrev kerW (c : Dev nD) : FVec Ideal ⟨2, ![1024, 3584]⟩ .f32 := m ((c : Thread nD τ).loc main_arg1)

/-- Where each window's block lies at grid point `t`. -/
theorem idx : ∀ t : Fin cfg0.N, win0_0.index t = ![t.val / 32, t.val % 32, 0] ∧ win0_1.index t = ![t.val % 32, 0] ∧ win0_2.index t = ![t.val % 32, 0]
    ∧ win0_3.index t = ![0, t.val % 32] ∧ win0_4.index t = ![0, t.val % 32] ∧ win0_5.index t = ![0, 0] ∧ win0_6.index t = ![0, 0] ∧ win0_7.index t = ![0, 0]
    ∧ win0_8.index t = ![t.val / 32, t.val % 32, 0] ∧ win0_9.index t = ![t.val / 32, 0, t.val % 32] ∧ win0_10.index t = ![t.val / 32, t.val % 32, 0]
    ∧ win0_11.index t = ![t.val / 32, t.val % 32, 0] ∧ win0_12.index t = ![t.val / 32, t.val % 32, 0] ∧ win0_13.index t = ![t.val / 32, t.val % 32, 0]
    ∧ win0_14.index t = ![t.val / 32, 0, t.val % 32, 0, 0] ∧ t.val < 64 :=
  (by decide +kernel : ∀ t : Fin grid0.N, _)

/-- Row `r` of point `t` is position `s` of sequence `p`. -/
def IsRow (t : Fin cfg0.N) (r : Fin 512) (p : Fin 2) (s : Fin 16384) : Prop := p.val = t.val / 32 ∧ s.val = 512 * (t.val % 32) + r.val

theorem blk0_at (c : Dev nD) (t : Fin cfg0.N) (r : Fin 512) (k : Fin 1024) (p : Fin 2) (s : Fin 16384) (h : IsRow t r p s) :
    iblk m c 0 t (ix3 0 r k) = kerIn m c (ix3 p s k) := by
  obtain ⟨h1, h2⟩ := h
  blk_simp [iblk, idx t]
  entry_read
  pointwise
  blk_ext [idx t]
  all_goals omega

theorem blk5_at (c : Dev nD) (t : Fin cfg0.N) (k : Fin 1024) (n : Fin 3584) : iblk m c 5 t (ix2 k n) = kerW m c (ix2 k n) := by
  blk_simp [iblk, idx t]
  entry_read
  pointwise
  blk_ext [idx t]

theorem blk6_at (c : Dev nD) (t : Fin cfg0.N) (n : Fin 512) (k : Fin 1024) : iblk m c 6 t (ix2 n k) = kerW m c (ix2 k ⟨512 + n.val, by omega⟩) := by
  blk_simp [iblk, idx t]
  entry_read
  pointwise
  blk_ext [idx t]

theorem blk7_at (c : Dev nD) (t : Fin cfg0.N) (n : Fin 512) (k : Fin 1024) : iblk m c 7 t (ix2 n k) = kerW m c (ix2 k ⟨3072 + n.val, by omega⟩) := by
  blk_simp [iblk, idx t]
  entry_read
  pointwise
  blk_ext [idx t]

theorem blk1_at (c : Dev nD) (t : Fin cfg0.N) (r : Fin 512) (d : Fin 128) (p : Fin 2) (s : Fin 16384) (h : IsRow t r p s) :
    iblk m c 1 t (ix2 r d) = Ideal.cos (angAt s.val (d.val % 64)) := by
  have e0 : (((View.whole main_v16).slice (win0_1.rect t)).emb (ix2 r d) 0).val = s.val := by
    blk_simp [idx t]
    show t.val % 32 * 512 + r.val = s.val
    rw [h.2]; omega
  have e1 : (((View.whole main_v16).slice (win0_1.rect t)).emb (ix2 r d) 1).val = d.val := by
    blk_simp [idx t]
  blk_simp [iblk, idx t]
  entry_read
  pointwise
  simp only [ang_fold, e0, e1]
  by_cases hd : d.val < 64
  · rw [dif_pos hd, Nat.mod_eq_of_lt hd]
  · rw [dif_neg hd, show d.val - 64 = d.val % 64 by omega]

theorem blk2_at (c : Dev nD) (t : Fin cfg0.N) (r : Fin 512) (d : Fin 128) (p : Fin 2) (s : Fin 16384) (h : IsRow t r p s) :
    iblk m c 2 t (ix2 r d) = if d.val < 64 then -Ideal.sin (angAt s.val (d.val % 64)) else Ideal.sin (angAt s.val (d.val % 64)) := by
  have e0 : (((View.whole main_v18).slice (win0_2.rect t)).emb (ix2 r d) 0).val = s.val := by
    blk_simp [idx t]
    show t.val % 32 * 512 + r.val = s.val
    rw [h.2]; omega
  have e1 : (((View.whole main_v18).slice (win0_2.rect t)).emb (ix2 r d) 1).val = d.val := by
    blk_simp [idx t]
  blk_simp [iblk, idx t]
  entry_read
  pointwise
  simp only [ang_fold, e0, e1]
  by_cases hd : d.val < 64
  · rw [dif_pos hd, if_pos hd, Nat.mod_eq_of_lt hd]
  · rw [dif_neg hd, if_neg hd, show d.val - 64 = d.val % 64 by omega]

theorem blk3_at (c : Dev nD) (t : Fin cfg0.N) (d : Fin 64) (r : Fin 512) (p : Fin 2) (s : Fin 16384) (h : IsRow t r p s) :
    iblk m c 3 t (ix2 d r) = Ideal.cos (angAt s.val d.val) := by
  have e0 : (((View.whole main_v19).slice (win0_3.rect t)).emb (ix2 d r) 1).val = s.val := by
    blk_simp [idx t]
    show t.val % 32 * 512 + r.val = s.val
    rw [h.2]; omega
  have e1 : (((View.whole main_v19).slice (win0_3.rect t)).emb (ix2 d r) 0).val = d.val := by
    blk_simp [idx t]
  blk_simp [iblk, idx t]
  entry_read
  pointwise
  simp only [ang_fold, e0, e1]

theorem blk4_at (c : Dev nD) (t : Fin cfg0.N) (d : Fin 64) (r : Fin 512) (p : Fin 2) (s : Fin 16384) (h : IsRow t r p s) :
    iblk m c 4 t (ix2 d r) = Ideal.sin (angAt s.val d.val) := by
  have e0 : (((View.whole main_v20).slice (win0_4.rect t)).emb (ix2 d r) 1).val = s.val := by
    blk_simp [idx t]
    show t.val % 32 * 512 + r.val = s.val
    rw [h.2]; omega
  have e1 : (((View.whole main_v20).slice (win0_4.rect t)).emb (ix2 d r) 0).val = d.val := by
    blk_simp [idx t]
  blk_simp [iblk, idx t]
  entry_read
  pointwise
  simp only [ang_fold, e0, e1]

/-! ### The output blocks at an index -/

/-- The input blocks of grid point `t`, at their vector types. -/
abbrev bk0 (c : Dev nD) (t : Fin cfg0.N) : Vec Ideal S1x512x1024 .f32 := iblk m c 0 t

abbrev bk1 (c : Dev nD) (t : Fin cfg0.N) : Vec Ideal S512x128 .f32 := iblk m c 1 t

abbrev bk2 (c : Dev nD) (t : Fin cfg0.N) : Vec Ideal S512x128 .f32 := iblk m c 2 t

abbrev bk3 (c : Dev nD) (t : Fin cfg0.N) : Vec Ideal S64x512 .f32 := iblk m c 3 t

abbrev bk4 (c : Dev nD) (t : Fin cfg0.N) : Vec Ideal S64x512 .f32 := iblk m c 4 t

abbrev bk5 (c : Dev nD) (t : Fin cfg0.N) : Vec Ideal S1024x3584 .bf16 := iblk m c 5 t

abbrev bk6 (c : Dev nD) (t : Fin cfg0.N) : Vec Ideal S512x1024 .bf16 := iblk m c 6 t

abbrev bk7 (c : Dev nD) (t : Fin cfg0.N) : Vec Ideal S512x1024 .bf16 := iblk m c 7 t

section Blocks

variable (c : Dev nD) (t : Fin cfg0.N) (r : Fin 512) (p : Fin 2) (s : Fin 16384) (h : IsRow t r p s)

include h

/-- A row of the input block times a column of the packed weights' block. -/
theorem row_dot (n : Fin 3584) (n' : ℕ) (hn : n' < 3584) (e : n.val = n') :
    ∑ k : Fin 1024, bk0 m c t (ix3 0 r k) * bk5 m c t (ix2 k n) = dotAt (kerIn m c) (kerW m c) p s n' hn := by
  subst e
  unfold dotAt
  exact Finset.sum_congr rfl fun k _ => congrArg₂ (· * ·) (blk0_at m c t r k p s h) (blk5_at m c t k n)

/-- The same, the weights' columns loaded from column `o` on. -/
theorem row_ld (o : ℕ) (hw) (j : Fin 512) (n' : ℕ) (hn : n' < 3584) (e : n' = o + j.val) :
    ∑ k : Fin 1024, View.ld (bk0 m c t) r0_0 (ix3 0 r k)
        * View.ld (S := S1024x3584) (e' := .bf16) (bk5 m c t) (Rect.unit (s := S1024x3584) ![0, o] ![1024, 512] hw) (ix2 k j)
      = dotAt (kerIn m c) (kerW m c) p s n' hn := by
  rw [← row_dot m c t r p s h ⟨n', hn⟩ n' hn rfl]
  refine Finset.sum_congr rfl fun k _ => congrArg₂ (· * ·) ?_ ?_
  · exact congrFun (View.ld_unit_zero (by funext a; fin_cases a <;> rfl) _ (bk0 m c t)) (ix3 0 r k)
  · exact Cert.Mix.ld_eq (e := .bf16) (bk5 m c t) 0 o hw k j k ⟨n', hn⟩ (Nat.zero_add _).symm e

/-- The rotated queries at column `o + d`, `o` a head's first column. -/
theorem q_at (o : ℕ) (ho : o + 128 ≤ 512) (ho' : o % 128 = 0) (d : Fin 128) (j : Fin 512) (hj : j.val = o + d.val) :
    qForm (View.ld (bk0 m c t) r0_0) (View.ld (bk1 m c t) r0_1) (View.ld (bk2 m c t) r0_1) (View.ld (bk5 m c t) r0_2) o ho r d
      = rotAt (kerIn m c) (kerW m c) p s 0 (by omega) j := by
  unfold qForm
  have hc : View.ld (bk1 m c t) r0_1 (ix2 r d) = Ideal.cos (angAt s.val (d.val % 64)) :=
    (congrFun (View.ld_unit_zero (by funext a; fin_cases a <;> rfl) _ (bk1 m c t)) (ix2 r d)).trans (blk1_at m c t r d p s h)
  have hs : View.ld (bk2 m c t) r0_1 (ix2 r d) = if d.val < 64 then -Ideal.sin (angAt s.val (d.val % 64)) else Ideal.sin (angAt s.val (d.val % 64)) :=
    (congrFun (View.ld_unit_zero (by funext a; fin_cases a <;> rfl) _ (bk2 m c t)) (ix2 r d)).trans (blk2_at m c t r d p s h)
  rw [hc, hs, row_ld m c t r p s h 0 _ ⟨o + d.val, by omega⟩ (0 + j.val) (by omega) (by show 0 + j.val = 0 + (o + d.val); omega)]
  unfold rotAt
  have hd := d.isLt
  by_cases h1 : d.val < 64
  · rw [row_ld m c t r p s h 0 _ ⟨o + (d.val + 128 - 64) % 128, by omega⟩ (0 + (j.val + 64)) (by omega) (by show 0 + (j.val + 64) = 0 + (o + (d.val + 128 - 64) % 128); omega)]
    rw [if_pos h1, dif_pos (by omega)]
    simp only [show j.val % 128 = d.val % 64 by omega, sub_eq_add_neg, mul_neg]
  · rw [row_ld m c t r p s h 0 _ ⟨o + (d.val + 128 - 64) % 128, by omega⟩ (0 + (j.val - 64)) (by omega) (by show 0 + (j.val - 64) = 0 + (o + (d.val + 128 - 64) % 128); omega)]
    rw [if_neg h1, dif_neg (by omega), add_comm]
    simp only [show j.val % 128 - 64 = d.val % 64 by omega]

/-- A store of one head's queries, where it holds column `j`. -/
theorem q_tile (j : Fin 512) (o : ℕ) (ho : o + 128 ≤ 512) (ho' : o % 128 = 0) (P : Vec Ideal S1x512x128 .bf16)
    (hP : ∀ d : Fin 128, P (ix3 0 r d) = qForm (View.ld (bk0 m c t) r0_0) (View.ld (bk1 m c t) r0_1) (View.ld (bk2 m c t) r0_1) (View.ld (bk5 m c t) r0_2) o ho r d) :
    View.TileAt (S := S1x512x512) (ix3 0 r j) ![0, 0, o] ![1, 512, 128] P (rotAt (kerIn m c) (kerW m c) p s 0 (by omega) j) := by
  intro x hx
  obtain ⟨a, r', d, rfl⟩ : ∃ (a : Fin 1) (r' : Fin 512) (d : Fin 128), (x : S1x512x128.Idx) = ix3 a r' d := ⟨x 0, x 1, x 2, eq_ix3 (x : S1x512x128.Idx)⟩
  have h1 : r.val = 0 + r'.val := hx 1
  have h2 : j.val = o + d.val := hx 2
  obtain rfl : a = 0 := Subsingleton.elim _ _
  obtain rfl : r' = r := Fin.ext (by omega)
  exact (hP _).trans (q_at m c t r' p s h o ho ho' _ j h2)

theorem out8_at (j : Fin 512) :
    out0_8 (F := Ideal) (bk0 m c t) (bk1 m c t) (bk2 m c t) (bk3 m c t) (bk4 m c t) (bk5 m c t) (bk6 m c t) (bk7 m c t) (ix3 0 r j)
      = rotAt (kerIn m c) (kerW m c) p s 0 (by omega) j := by
  unfold_out out0_8
  refine View.canon_eq_of_allAt _ _ _ (cover0_8 _ _ _ _ _) ?_
  refine View.allAt_cons_unit _ _ _ _ _ (q_tile m c t r p s h j 384 (by omega) (by omega) _ fun d => pay12_at _ _ _ _ r d) ?_
  refine View.allAt_cons_unit _ _ _ _ _ (q_tile m c t r p s h j 256 (by omega) (by omega) _ fun d => pay11_at _ _ _ _ r d) ?_
  refine View.allAt_cons_unit _ _ _ _ _ (q_tile m c t r p s h j 128 (by omega) (by omega) _ fun d => pay9_at _ _ _ _ r d) ?_
  exact View.allAt_cons_unit _ _ _ _ _ (q_tile m c t r p s h j 0 (by omega) (by omega) _ fun d => pay8_at _ _ _ _ r d) (View.allAt_nil _ _)

theorem out10_at (j : Fin 512) :
    out0_10 (F := Ideal) (bk0 m c t) (bk1 m c t) (bk2 m c t) (bk3 m c t) (bk4 m c t) (bk5 m c t) (bk6 m c t) (bk7 m c t) (ix3 0 r j)
      = dotAt (kerIn m c) (kerW m c) p s (1024 + j.val) (by omega) := by
  unfold_out out0_10
  rw [View.canon_cons_unit_zero (by funext a; fin_cases a <;> rfl)]
  exact (pay34_at _ _ r j).trans (row_ld m c t r p s h 1024 _ j _ _ rfl)

theorem out11_at (j : Fin 512) :
    out0_11 (F := Ideal) (bk0 m c t) (bk1 m c t) (bk2 m c t) (bk3 m c t) (bk4 m c t) (bk5 m c t) (bk6 m c t) (bk7 m c t) (ix3 0 r j)
      = dotAt (kerIn m c) (kerW m c) p s (1536 + j.val) (by omega) := by
  unfold_out out0_11
  rw [View.canon_cons_unit_zero (by funext a; fin_cases a <;> rfl)]
  exact (pay35_at _ _ r j).trans (row_ld m c t r p s h 1536 _ j _ _ rfl)

theorem out12_at (j : Fin 512) :
    out0_12 (F := Ideal) (bk0 m c t) (bk1 m c t) (bk2 m c t) (bk3 m c t) (bk4 m c t) (bk5 m c t) (bk6 m c t) (bk7 m c t) (ix3 0 r j)
      = dotAt (kerIn m c) (kerW m c) p s (2048 + j.val) (by omega) * Ideal.ofBits .f32 0x3E38AA3B#32 := by
  unfold_out out0_12
  rw [View.canon_cons_unit_zero (by funext a; fin_cases a <;> rfl)]
  exact (pay1_at _ _ r j).trans (congrArg (· * Ideal.ofBits .f32 0x3E38AA3B#32) (row_ld m c t r p s h 2048 _ j _ _ rfl))

theorem out13_at (j : Fin 512) :
    out0_13 (F := Ideal) (bk0 m c t) (bk1 m c t) (bk2 m c t) (bk3 m c t) (bk4 m c t) (bk5 m c t) (bk6 m c t) (bk7 m c t) (ix3 0 r j)
      = dotAt (kerIn m c) (kerW m c) p s (2560 + j.val) (by omega) := by
  unfold_out out0_13
  rw [View.canon_cons_unit_zero (by funext a; fin_cases a <;> rfl)]
  exact (pay2_at _ _ r j).trans (row_ld m c t r p s h 2560 _ j _ _ rfl)

/-- A row of a transposed weights' block, of columns from `o` on, times a row of the input block. -/
theorem ld_row (W : Vec Ideal S512x1024 .bf16) (o : ℕ) (ho : o + 512 ≤ 3584)
    (hW : ∀ (n : Fin 512) (k : Fin 1024), W (ix2 n k) = kerW m c (ix2 k ⟨o + n.val, by omega⟩)) (n : Fin 512) (n' : ℕ) (hn : n' < 3584) (e : n' = o + n.val) :
    ∑ k : Fin 1024, View.ld (S := S512x1024) (e' := .bf16) W r0_8 (ix2 n k) * View.ld (bk0 m c t) r0_0 (ix3 0 r k) = dotAt (kerIn m c) (kerW m c) p s n' hn := by
  subst e
  unfold dotAt
  refine Finset.sum_congr rfl fun k _ => (mul_comm _ _).trans (congrArg₂ (· * ·) ?_ ?_)
  · exact (congrFun (View.ld_unit_zero (by funext a; fin_cases a <;> rfl) _ (bk0 m c t)) (ix3 0 r k)).trans (blk0_at m c t r k p s h)
  · exact (congrFun (View.ld_unit_zero (by funext a; fin_cases a <;> rfl) _ W) (ix2 n k)).trans (hW n k)

theorem out14_at (g : Fin 4) (d : Fin 128) :
    out0_14 (F := Ideal) (bk0 m c t) (bk1 m c t) (bk2 m c t) (bk3 m c t) (bk4 m c t) (bk5 m c t) (bk6 m c t) (bk7 m c t) (ix5 0 g 0 d r)
      = dotAt (kerIn m c) (kerW m c) p s (3072 + (g.val * 128 + d.val)) (by omega) := by
  unfold_out out0_14
  rw [View.canon_cons_unit_zero (by funext a; fin_cases a <;> rfl)]
  exact (pay3_at _ _ r g d).trans (ld_row m c t r p s h (bk7 m c t) 3072 (by omega) (blk7_at m c t) ⟨g.val * 128 + d.val, by omega⟩ _ _ rfl)

omit h in
/-- The transposed products the keys are rotated from. -/
abbrev kProd (c : Dev nD) (t : Fin cfg0.N) : Vec Ideal S512x512 .f32 :=
  k0_pay15 (F := Ideal) (k0_pay4 (F := Ideal) (View.ld (bk0 m c t) r0_0)) (View.ld (bk6 m c t) r0_8)

theorem kProd_at (n : Fin 512) (n' : ℕ) (hn : n' < 3584) (e : n' = 512 + n.val) : kProd m c t (ix2 n r) = dotAt (kerIn m c) (kerW m c) p s n' hn :=
  (pay15_at _ _ r n).trans (ld_row m c t r p s h (bk6 m c t) 512 (by omega) (blk6_at m c t) n n' hn e)

theorem kCos_at (d : Fin 64) : View.ld (bk3 m c t) r0_7 (ix2 d r) = Ideal.cos (angAt s.val d.val) :=
  (congrFun (View.ld_unit_zero (by funext a; fin_cases a <;> rfl) _ (bk3 m c t)) (ix2 d r)).trans (blk3_at m c t d r p s h)

theorem kSin_at (d : Fin 64) : View.ld (bk4 m c t) r0_7 (ix2 d r) = Ideal.sin (angAt s.val d.val) :=
  (congrFun (View.ld_unit_zero (by funext a; fin_cases a <;> rfl) _ (bk4 m c t)) (ix2 d r)).trans (blk4_at m c t d r p s h)

theorem lo_at (o : ℕ) (ho : o + 128 ≤ 512) (ho' : o % 128 = 0) (d : Fin 64) (j : Fin 512) (hj : j.val = o + d.val) :
    kLo (View.ld (bk3 m c t) r0_7) (View.ld (bk4 m c t) r0_7) (kProd m c t) o ho d r = rotAt (kerIn m c) (kerW m c) p s 512 (by omega) j * kScale := by
  have hd := d.isLt
  unfold kLo rotAt
  rw [kCos_at m c t r p s h, kSin_at m c t r p s h, dif_pos (by omega),
    kProd_at m c t r p s h ⟨o + d.val, by omega⟩ (512 + j.val) (by omega) (by show 512 + j.val = 512 + (o + d.val); omega),
    kProd_at m c t r p s h ⟨o + 64 + d.val, by omega⟩ (512 + (j.val + 64)) (by omega) (by show 512 + (j.val + 64) = 512 + (o + 64 + d.val); omega)]
  simp only [show j.val % 128 = d.val by omega]

theorem hi_at (o : ℕ) (ho : o + 128 ≤ 512) (ho' : o % 128 = 0) (d : Fin 64) (j : Fin 512) (hj : j.val = o + 64 + d.val) :
    kHi (View.ld (bk3 m c t) r0_7) (View.ld (bk4 m c t) r0_7) (kProd m c t) o ho d r = rotAt (kerIn m c) (kerW m c) p s 512 (by omega) j * kScale := by
  have hd := d.isLt
  unfold kHi rotAt
  rw [kCos_at m c t r p s h, kSin_at m c t r p s h, dif_neg (by omega),
    kProd_at m c t r p s h ⟨o + d.val, by omega⟩ (512 + (j.val - 64)) (by omega) (by show 512 + (j.val - 64) = 512 + (o + d.val); omega),
    kProd_at m c t r p s h ⟨o + 64 + d.val, by omega⟩ (512 + j.val) (by omega) (by show 512 + j.val = 512 + (o + 64 + d.val); omega)]
  simp only [show j.val % 128 - 64 = d.val by omega]

omit h in
/-- A store of half a head's keys, where it holds row `j`. -/
theorem k_tile (j : Fin 512) (o : ℕ) (P : Vec Ideal S1x64x512 .bf16) (v : EReal) (hP : ∀ d : Fin 64, j.val = o + d.val → P (ix3 0 d r) = v) :
    View.TileAt (S := S1x512x512) (ix3 0 j r) ![0, o, 0] ![1, 64, 512] P v := by
  intro x hx
  obtain ⟨a, d, r', rfl⟩ : ∃ (a : Fin 1) (d : Fin 64) (r' : Fin 512), (x : S1x64x512.Idx) = ix3 a d r' := ⟨x 0, x 1, x 2, eq_ix3 (x : S1x64x512.Idx)⟩
  have h1 : j.val = o + d.val := hx 1
  have h2 : r.val = 0 + r'.val := hx 2
  obtain rfl : a = 0 := Subsingleton.elim _ _
  obtain rfl : r' = r := Fin.ext (by omega)
  exact hP _ h1

theorem out9_at (j : Fin 512) :
    out0_9 (F := Ideal) (bk0 m c t) (bk1 m c t) (bk2 m c t) (bk3 m c t) (bk4 m c t) (bk5 m c t) (bk6 m c t) (bk7 m c t) (ix3 0 j r)
      = rotAt (kerIn m c) (kerW m c) p s 512 (by omega) j * kScale := by
  unfold_out out0_9
  refine View.canon_eq_of_allAt _ _ _ (cover0_9 _ _ _ _ _ _ _ _ _) ?_
  rw [pay13_eq, pay14_eq]
  refine View.allAt_cons_unit _ _ _ _ _ (k_tile r j 448 _ _ fun d hd => (pay33_at _ _ _ d r).trans (hi_at m c t r p s h 384 (by omega) (by omega) d j hd)) ?_
  refine View.allAt_cons_unit _ _ _ _ _ (k_tile r j 384 _ _ fun d hd => (pay32_at _ _ _ d r).trans (lo_at m c t r p s h 384 (by omega) (by omega) d j hd)) ?_
  refine View.allAt_cons_unit _ _ _ _ _ (k_tile r j 320 _ _ fun d hd => (pay29_at _ _ _ d r).trans (hi_at m c t r p s h 256 (by omega) (by omega) d j hd)) ?_
  refine View.allAt_cons_unit _ _ _ _ _ (k_tile r j 256 _ _ fun d hd => (pay27_at _ _ _ d r).trans (lo_at m c t r p s h 256 (by omega) (by omega) d j hd)) ?_
  refine View.allAt_cons_unit _ _ _ _ _ (k_tile r j 192 _ _ fun d hd => (pay24_at _ _ _ d r).trans (hi_at m c t r p s h 128 (by omega) (by omega) d j hd)) ?_
  refine View.allAt_cons_unit _ _ _ _ _ (k_tile r j 128 _ _ fun d hd => (pay23_at _ _ _ d r).trans (lo_at m c t r p s h 128 (by omega) (by omega) d j hd)) ?_
  refine View.allAt_cons_unit _ _ _ _ _ (k_tile r j 64 _ _ fun d hd => (pay20_at _ _ _ _ d r).trans (hi_at m c t r p s h 0 (by omega) (by omega) d j hd)) ?_
  exact View.allAt_cons_unit _ _ _ _ _ (k_tile r j 0 _ _ fun d hd => (pay18_at _ _ _ _ d r).trans (lo_at m c t r p s h 0 (by omega) (by omega) d j hd)) (View.allAt_nil _ _)

end Blocks

end Cert.Proj

end
-- ==== Proof.ProjFin.lean ====
/- THE PROJECTION KERNEL'S SEVEN RESULT ARRAYS, whole: each grid point writes its block of each, and the blocks cover the
   arrays, so each array is the function of `ProjRow.lean` of the kernel's two arguments. -/
module

public import proofs.«01_k».proof.Proof.ProjVal

@[expose] public section

set_option maxRecDepth 16384

noncomputable section

open Idealize.ShloMosaic Idealize.ShloMosaic.TcCoe Idealize.SL.Sem
open Idealize.ShloMosaic.Pipeline (Dat)

namespace Cert.Proj

open Cert.Kernel3Ideal Cert.Kernel3Ideal.Gen

variable (m : (ℓ : Loc nD τ sig) → Buf (Elt Ideal) ℓ)

/-- A block's value, carried to the array index it is written at. -/
theorem put_dot (x : FVec Ideal ⟨3, ![2, 16384, 1024]⟩ .f32) (w : FVec Ideal ⟨2, ![1024, 3584]⟩ .f32) (p p' : Fin 2) (s s' : Fin 16384) (n n' : ℕ) (hn : n < 3584) (hn' : n' < 3584)
    (e1 : p.val = p'.val) (e2 : s.val = s'.val) (e3 : n = n') : dotAt x w p s n hn = dotAt x w p' s' n' hn' := by
  obtain rfl := Fin.ext e1
  obtain rfl := Fin.ext e2
  subst e3
  rfl

theorem put_rot (x : FVec Ideal ⟨3, ![2, 16384, 1024]⟩ .f32) (w : FVec Ideal ⟨2, ![1024, 3584]⟩ .f32) (p p' : Fin 2) (s s' : Fin 16384) (o : ℕ) (ho : o + 512 ≤ 3584) (j j' : Fin 512)
    (e1 : p.val = p'.val) (e2 : s.val = s'.val) (e3 : j.val = j'.val) : rotAt x w p s o ho j = rotAt x w p' s' o ho j' := by
  obtain rfl := Fin.ext e1
  obtain rfl := Fin.ext e2
  obtain rfl := Fin.ext e3
  rfl

/-- The sequence and the position of row `r` of point `t`. -/
def seqOf (t : Fin cfg0.N) : Fin 2 := ⟨t.val / 32, by have h : t.val < 64 := t.isLt; omega⟩

def posOf (t : Fin cfg0.N) (r : Fin 512) : Fin 16384 := ⟨512 * (t.val % 32) + r.val, by omega⟩

theorem isRow (t : Fin cfg0.N) (r : Fin 512) : IsRow t r (seqOf t) (posOf t r) := ⟨rfl, rfl⟩

theorem posOf_val (t : Fin cfg0.N) (r : Fin 512) : (posOf t r).val = t.val % 32 * 512 + r.val := by
  show 512 * (t.val % 32) + r.val = _
  omega

theorem final8 (c : Dev nD) : (dats m 0 c).arrAt 8 cfg0.N = rqOut (kerIn m c) (kerW m c) := by
  refine (dats m 0 c).arrAt_eq_of_covers 8 (rqOut (kerIn m c) (kerW m c)) (by decide +kernel) fun t hf y => ?_
  obtain ⟨a, r, j, rfl⟩ : ∃ (a : Fin 1) (r j : Fin 512), (y : S1x512x512.Idx) = ix3 a r j := ⟨y 0, y 1, y 2, eq_ix3 (y : S1x512x512.Idx)⟩
  obtain rfl : a = 0 := Subsingleton.elim _ _
  blk_simp
  rw [after0_8]
  refine (out8_at m c t r _ _ (isRow t r) j).trans (put_rot _ _ _ _ _ _ _ _ _ _ ?_ ?_ ?_) <;> blk_simp [idx t]
  all_goals first | rfl | exact posOf_val t r

theorem final9 (c : Dev nD) : (dats m 0 c).arrAt 9 cfg0.N = rkOut (kerIn m c) (kerW m c) := by
  refine (dats m 0 c).arrAt_eq_of_covers 9 (rkOut (kerIn m c) (kerW m c)) (by decide +kernel) fun t hf y => ?_
  obtain ⟨a, j, r, rfl⟩ : ∃ (a : Fin 1) (j r : Fin 512), (y : S1x512x512.Idx) = ix3 a j r := ⟨y 0, y 1, y 2, eq_ix3 (y : S1x512x512.Idx)⟩
  obtain rfl : a = 0 := Subsingleton.elim _ _
  blk_simp
  rw [after0_9]
  refine (out9_at m c t r _ _ (isRow t r) j).trans (congrArg (· * kScale) (put_rot _ _ _ _ _ _ _ _ _ _ ?_ ?_ ?_)) <;> blk_simp [idx t]
  all_goals first | rfl | exact posOf_val t r

theorem final10 (c : Dev nD) : (dats m 0 c).arrAt 10 cfg0.N = colsOut (kerIn m c) (kerW m c) 1024 (by omega) := by
  refine (dats m 0 c).arrAt_eq_of_covers 10 (colsOut (kerIn m c) (kerW m c) 1024 (by omega)) (by decide +kernel) fun t hf y => ?_
  obtain ⟨a, r, j, rfl⟩ : ∃ (a : Fin 1) (r j : Fin 512), (y : S1x512x512.Idx) = ix3 a r j := ⟨y 0, y 1, y 2, eq_ix3 (y : S1x512x512.Idx)⟩
  obtain rfl : a = 0 := Subsingleton.elim _ _
  blk_simp
  rw [after0_10]
  refine (out10_at m c t r _ _ (isRow t r) j).trans (put_dot _ _ _ _ _ _ _ _ _ _ ?_ ?_ (congrArg (1024 + ·) ?_)) <;> blk_simp [idx t]
  all_goals first | rfl | exact posOf_val t r

theorem final11 (c : Dev nD) : (dats m 0 c).arrAt 11 cfg0.N = colsOut (kerIn m c) (kerW m c) 1536 (by omega) := by
  refine (dats m 0 c).arrAt_eq_of_covers 11 (colsOut (kerIn m c) (kerW m c) 1536 (by omega)) (by decide +kernel) fun t hf y => ?_
  obtain ⟨a, r, j, rfl⟩ : ∃ (a : Fin 1) (r j : Fin 512), (y : S1x512x512.Idx) = ix3 a r j := ⟨y 0, y 1, y 2, eq_ix3 (y : S1x512x512.Idx)⟩
  obtain rfl : a = 0 := Subsingleton.elim _ _
  blk_simp
  rw [after0_11]
  refine (out11_at m c t r _ _ (isRow t r) j).trans (put_dot _ _ _ _ _ _ _ _ _ _ ?_ ?_ (congrArg (1536 + ·) ?_)) <;> blk_simp [idx t]
  all_goals first | rfl | exact posOf_val t r

theorem final12 (c : Dev nD) : (dats m 0 c).arrAt 12 cfg0.N = dqOut (kerIn m c) (kerW m c) := by
  refine (dats m 0 c).arrAt_eq_of_covers 12 (dqOut (kerIn m c) (kerW m c)) (by decide +kernel) fun t hf y => ?_
  obtain ⟨a, r, j, rfl⟩ : ∃ (a : Fin 1) (r j : Fin 512), (y : S1x512x512.Idx) = ix3 a r j := ⟨y 0, y 1, y 2, eq_ix3 (y : S1x512x512.Idx)⟩
  obtain rfl : a = 0 := Subsingleton.elim _ _
  blk_simp
  rw [after0_12]
  refine (out12_at m c t r _ _ (isRow t r) j).trans (congrArg (· * Ideal.ofBits .f32 0x3E38AA3B#32) (put_dot _ _ _ _ _ _ _ _ _ _ ?_ ?_ (congrArg (2048 + ·) ?_))) <;> blk_simp [idx t]
  all_goals first | rfl | exact posOf_val t r

theorem final13 (c : Dev nD) : (dats m 0 c).arrAt 13 cfg0.N = colsOut (kerIn m c) (kerW m c) 2560 (by omega) := by
  refine (dats m 0 c).arrAt_eq_of_covers 13 (colsOut (kerIn m c) (kerW m c) 2560 (by omega)) (by decide +kernel) fun t hf y => ?_
  obtain ⟨a, r, j, rfl⟩ : ∃ (a : Fin 1) (r j : Fin 512), (y : S1x512x512.Idx) = ix3 a r j := ⟨y 0, y 1, y 2, eq_ix3 (y : S1x512x512.Idx)⟩
  obtain rfl : a = 0 := Subsingleton.elim _ _
  blk_simp
  rw [after0_13]
  refine (out13_at m c t r _ _ (isRow t r) j).trans (put_dot _ _ _ _ _ _ _ _ _ _ ?_ ?_ (congrArg (2560 + ·) ?_)) <;> blk_simp [idx t]
  all_goals first | rfl | exact posOf_val t r

theorem final14 (c : Dev nD) : (dats m 0 c).arrAt 14 cfg0.N = dvOut (kerIn m c) (kerW m c) := by
  refine (dats m 0 c).arrAt_eq_of_covers 14 (dvOut (kerIn m c) (kerW m c)) (by decide +kernel) fun t hf y => ?_
  obtain ⟨a, g, b, d, r, rfl⟩ : ∃ (a : Fin 1) (g : Fin 4) (b : Fin 1) (d : Fin 128) (r : Fin 512), (y : S1x4x1x128x512.Idx) = ix5 a g b d r :=
    ⟨y 0, y 1, y 2, y 3, y 4, eq_ix5 (y : S1x4x1x128x512.Idx)⟩
  obtain rfl : a = 0 := Subsingleton.elim _ _
  obtain rfl : b = 0 := Subsingleton.elim _ _
  blk_simp
  rw [after0_14]
  have e0 : (((win0_14.blk t).view.emb (ix5 0 g 0 d r)) (0 : Fin 5)).val = t.val / 32 := by
    blk_simp [idx t]
    rfl
  have e1 : (((win0_14.blk t).view.emb (ix5 0 g 0 d r)) (1 : Fin 5)).val = g.val := by
    blk_simp [idx t]
  have e2 : (((win0_14.blk t).view.emb (ix5 0 g 0 d r)) (2 : Fin 5)).val = t.val % 32 := by
    blk_simp [idx t]
    rfl
  have e3 : (((win0_14.blk t).view.emb (ix5 0 g 0 d r)) (3 : Fin 5)).val = d.val := by
    blk_simp [idx t]
  have e4 : (((win0_14.blk t).view.emb (ix5 0 g 0 d r)) (4 : Fin 5)).val = r.val := by
    blk_simp [idx t]
  refine (out14_at m c t r _ _ (isRow t r) g d).trans ?_
  unfold dvOut
  refine put_dot _ _ _ _ _ _ _ _ _ _ e0.symm ?_ ?_
  · show 512 * (t.val % 32) + r.val = (((win0_14.blk t).view.emb (ix5 0 g 0 d r)) (2 : Fin 5)).val * 512 + (((win0_14.blk t).view.emb (ix5 0 g 0 d r)) (4 : Fin 5)).val
    rw [e2, e4]; omega
  · show 3072 + (g.val * 128 + d.val) = 3072 + ((((win0_14.blk t).view.emb (ix5 0 g 0 d r)) (1 : Fin 5)).val * 128 + (((win0_14.blk t).view.emb (ix5 0 g 0 d r)) (3 : Fin 5)).val)
    rw [e1, e3]

end Cert.Proj

end
-- ==== Proof.ProjRef.lean ====
/- WHAT THE REFERENCE OF THE PROJECTION COMPUTES: each of its seven results is the function of `ProjRow.lean` of its two
   argument arrays. -/
module

public import proofs.«01_k».proof.Proof.ProjRow
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem

namespace Cert.Proj

open Cert.Reference3Ideal Cert.Reference3Ideal.Gen Cert.Reference3Ideal.Value

variable (m : (ℓ : Loc nD τ sig) → Buf (Elt Ideal) ℓ) (c : Dev nD)

/-- The reference's input and packed weights. -/
abbrev refIn : FVec Ideal ⟨3, ![2, 16384, 1024]⟩ .f32 := m ((c.tc : Thread nD τ).loc main_arg0)

abbrev refW : FVec Ideal ⟨2, ![1024, 3584]⟩ .f32 := m ((c.tc : Thread nD τ).loc main_arg1)

/-- The four heads' columns `X` rotated, as the reference's program rotates them. -/
def refRot (X : FVec Ideal S2x16384x512 .f32) : FVec Ideal S2x16384x4x128 .f32 :=
  (concatenate S2x16384x4x128 3 [⟨S2x16384x4x64, (subf (mulf (extractStridedSlice S2x16384x4x64 ![0, 0, 0, 0] (shapeCast _ X shapeCasts_S2x16384x512_S2x16384x4x128) slices_S2x16384x4x128_S2x16384x4x64_0_0_0_0) (broadcastInDim S2x16384x4x64 ![0, 1, 2, 3] bcast_S1x16384x1x64_S2x16384x4x64_0_1_2_3 (broadcastInDim S1x16384x1x64 ![1, 3] bcast_S16384x64_S1x16384x1x64_1_3 (Host.cos (mulf (broadcastInDim S16384x64 ![0, 1] bcast_S16384x1_S16384x64_0_1 (broadcastInDim S16384x1 ![0] bcast_S16384_S16384x1_0 (sitofp .f32 (iotaInDim S16384 32 0)))) (broadcastInDim S16384x64 ![0, 1] bcast_S1x64_S16384x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))))))) (mulf (extractStridedSlice S2x16384x4x64 ![0, 0, 0, 64] (shapeCast _ X shapeCasts_S2x16384x512_S2x16384x4x128) slices_S2x16384x4x128_S2x16384x4x64_0_0_0_64) (broadcastInDim S2x16384x4x64 ![0, 1, 2, 3] bcast_S1x16384x1x64_S2x16384x4x64_0_1_2_3 (broadcastInDim S1x16384x1x64 ![1, 3] bcast_S16384x64_S1x16384x1x64_1_3 (Host.sin (mulf (broadcastInDim S16384x64 ![0, 1] bcast_S16384x1_S16384x64_0_1 (broadcastInDim S16384x1 ![0] bcast_S16384_S16384x1_0 (sitofp .f32 (iotaInDim S16384 32 0)))) (broadcastInDim S16384x64 ![0, 1] bcast_S1x64_S16384x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))))))))⟩, ⟨S2x16384x4x64, (addf (mulf (extractStridedSlice S2x16384x4x64 ![0, 0, 0, 0] (shapeCast _ X shapeCasts_S2x16384x512_S2x16384x4x128) slices_S2x16384x4x128_S2x16384x4x64_0_0_0_0) (broadcastInDim S2x16384x4x64 ![0, 1, 2, 3] bcast_S1x16384x1x64_S2x16384x4x64_0_1_2_3 (broadcastInDim S1x16384x1x64 ![1, 3] bcast_S16384x64_S1x16384x1x64_1_3 (Host.sin (mulf (broadcastInDim S16384x64 ![0, 1] bcast_S16384x1_S16384x64_0_1 (broadcastInDim S16384x1 ![0] bcast_S16384_S16384x1_0 (sitofp .f32 (iotaInDim S16384 32 0)))) (broadcastInDim S16384x64 ![0, 1] bcast_S1x64_S16384x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))))))) (mulf (extractStridedSlice S2x16384x4x64 ![0, 0, 0, 64] (shapeCast _ X shapeCasts_S2x16384x512_S2x16384x4x128) slices_S2x16384x4x128_S2x16384x4x64_0_0_0_64) (broadcastInDim S2x16384x4x64 ![0, 1, 2, 3] bcast_S1x16384x1x64_S2x16384x4x64_0_1_2_3 (broadcastInDim S1x16384x1x64 ![1, 3] bcast_S16384x64_S1x16384x1x64_1_3 (Host.cos (mulf (broadcastInDim S16384x64 ![0, 1] bcast_S16384x1_S16384x64_0_1 (broadcastInDim S16384x1 ![0] bcast_S16384_S16384x1_0 (sitofp .f32 (iotaInDim S16384 32 0)))) (broadcastInDim S16384x64 ![0, 1] bcast_S1x64_S16384x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))))))))⟩] concatenates_S2x16384x4x64_S2x16384x4x64_S2x16384x4x128_d3)

/-- Head `g`'s columns rotated: the two halves of the head mixed by the angle of the position and the half's column. -/
theorem refRot_at (X : FVec Ideal S2x16384x512 .f32) (p : Fin 2) (s : Fin 16384) (g : Fin 4) (d : Fin 128) :
    refRot X (ix4 p s g d) = if h : d.val < 64 then
        X (ix3 p s ⟨g.val * 128 + d.val, by omega⟩) * Ideal.cos (angAt s.val d.val) - X (ix3 p s ⟨g.val * 128 + (64 + d.val), by omega⟩) * Ideal.sin (angAt s.val d.val)
      else
        X (ix3 p s ⟨g.val * 128 + (d.val - 64), by omega⟩) * Ideal.sin (angAt s.val (d.val - 64)) + X (ix3 p s ⟨g.val * 128 + (64 + (d.val - 64)), by omega⟩) * Ideal.cos (angAt s.val (d.val - 64)) := by
  unfold angAt
  pointwise [refRot]

/-- The same at column `j` of the four heads, where `X` holds the columns of the products from `o` on. -/
theorem rot_col (X : FVec Ideal S2x16384x512 .f32) (p : Fin 2) (s : Fin 16384) (o : ℕ) (ho : o + 512 ≤ 3584)
    (hX : ∀ j : Fin 512, X (ix3 p s j) = dotAt (refIn m c) (refW m c) p s (o + j.val) (by omega)) (j : Fin 512) :
    refRot X (ix4 p s ⟨j.val / 128, by omega⟩ ⟨j.val % 128, by omega⟩) = rotAt (refIn m c) (refW m c) p s o ho j := by
  rw [refRot_at]
  unfold rotAt
  by_cases h : j.val % 128 < 64
  · rw [dif_pos h, dif_pos h, hX, hX]
    simp only [show j.val / 128 * 128 + j.val % 128 = j.val by omega, show j.val / 128 * 128 + (64 + j.val % 128) = j.val + 64 by omega]
  · rw [dif_neg h, dif_neg h, hX, hX]
    simp only [show j.val / 128 * 128 + (j.val % 128 - 64) = j.val - 64 by omega, show j.val / 128 * 128 + (64 + (j.val % 128 - 64)) = j.val by omega]

/-- The reference's products, as its program writes them. -/
def refDots : FVec Ideal S2x16384x3584 .f32 :=
  Host.dotGeneral (φ₁ := .f32) (φ₂ := .f32) dot_S2x16384x1024_S1024x3584_S2x16384x3584_2_0_01_1_n_n none (m ((c.tc : Thread nD τ).loc main_arg0)) (m ((c.tc : Thread nD τ).loc main_arg1))

theorem refDots_at (p : Fin 2) (s : Fin 16384) (n : Fin 3584) : refDots m c (ix3 p s n) = dotAt (refIn m c) (refW m c) p s n.val n.isLt := by
  unfold dotAt
  pointwise [refDots]

/-- The columns from `o` on. -/
theorem cols_at (Y : FVec Ideal S2x16384x3584 .f32) (o : ℕ) (hs : S2x16384x3584.Slices ![0, 0, o] S2x16384x512) (ho : o + 512 ≤ 3584) (p : Fin 2) (s : Fin 16384) (j : Fin 512) :
    extractStridedSlice S2x16384x512 ![0, 0, o] Y hs (ix3 p s j) = Y (ix3 p s ⟨o + j.val, by omega⟩) := by
  pointwise

theorem refRq_eq : res_main_v76 (F := Ideal) m c
      = truncf .bf16 (shapeCast S2x16384x512 (refRot (extractStridedSlice S2x16384x512 ![0, 0, 0] (refDots m c) slices_S2x16384x3584_S2x16384x512_0_0_0)) shapeCasts_S2x16384x4x128_S2x16384x512) bitsLt_bf16_f32 := by
  unfold res_main_v76 refRot refDots
  rfl

/-- Four heads' columns side by side, at a column. -/
theorem heads_at (Y : FVec Ideal S2x16384x4x128 .f32) (p : Fin 2) (s : Fin 16384) (j : Fin 512) :
    truncf .bf16 (shapeCast S2x16384x512 Y shapeCasts_S2x16384x4x128_S2x16384x512) bitsLt_bf16_f32 (ix3 p s j) = Y (ix4 p s ⟨j.val / 128, by omega⟩ ⟨j.val % 128, by omega⟩) := by
  pointwise

theorem refRq_at (p : Fin 2) (s : Fin 16384) (j : Fin 512) :
    res_main_v76 (F := Ideal) m c (ix3 p s j) = rotAt (refIn m c) (refW m c) p s 0 (by omega) j :=
  ((congrFun (refRq_eq m c) (ix3 p s j)).trans (heads_at _ p s j)).trans
    (rot_col m c _ p s 0 (by omega) (fun j => (cols_at (refDots m c) 0 _ (by omega) p s j).trans (refDots_at m c p s _)) j)

theorem refRk_eq : res_main_v78 (F := Ideal) m c
      = truncf .bf16 (transpose S2x512x16384 [0, 2, 1] (shapeCast S2x16384x512 (mulf (refRot (extractStridedSlice S2x16384x512 ![0, 0, 512] (refDots m c) slices_S2x16384x3584_S2x16384x512_0_0_512))
          (broadcastInDim S2x16384x4x128 ![] bcast_S_S2x16384x4x128 (constant S_ .f32 0x3DB504F3#32))) shapeCasts_S2x16384x4x128_S2x16384x512) transposes_S2x16384x512_S2x512x16384_0_2_1) bitsLt_bf16_f32 := by
  unfold res_main_v78 refRot refDots
  rfl

/-- Four heads' columns scaled, side by side and transposed, at a column. -/
theorem scaled_at (Y : FVec Ideal S2x16384x4x128 .f32) (p : Fin 2) (j : Fin 512) (s : Fin 16384) :
    truncf .bf16 (transpose S2x512x16384 [0, 2, 1] (shapeCast S2x16384x512 (mulf Y
          (broadcastInDim S2x16384x4x128 ![] bcast_S_S2x16384x4x128 (constant S_ .f32 0x3DB504F3#32))) shapeCasts_S2x16384x4x128_S2x16384x512) transposes_S2x16384x512_S2x512x16384_0_2_1) bitsLt_bf16_f32 (ix3 p j s)
      = Y (ix4 p s ⟨j.val / 128, by omega⟩ ⟨j.val % 128, by omega⟩) * Ideal.ofBits .f32 0x3DB504F3#32 := by
  pointwise

theorem refRk_at (p : Fin 2) (j : Fin 512) (s : Fin 16384) :
    res_main_v78 (F := Ideal) m c (ix3 p j s) = rotAt (refIn m c) (refW m c) p s 512 (by omega) j * Ideal.ofBits .f32 0x3DB504F3#32 :=
  ((congrFun (refRk_eq m c) (ix3 p j s)).trans (scaled_at _ p j s)).trans
    (congrArg (· * Ideal.ofBits .f32 0x3DB504F3#32) (rot_col m c _ p s 512 (by omega) (fun j => (cols_at (refDots m c) 512 _ (by omega) p s j).trans (refDots_at m c p s _)) j))

/-- The reference's result `main_v79`, as its program composes it. -/
def refRvArr : FVec Ideal S2x16384x512 .bf16 :=
  truncf .bf16 (extractStridedSlice S2x16384x512 ![0, 0, 1024] (refDots m c) slices_S2x16384x3584_S2x16384x512_0_0_1024) bitsLt_bf16_f32

theorem refRv_at (p : Fin 2) (s : Fin 16384) (j : Fin 512) :
    refRvArr m c (ix3 p s j) = dotAt (refIn m c) (refW m c) p s (1024 + j.val) (by omega) := by
  pointwise [refRvArr]
  rw [refDots_at]

/-- The reference's result `main_v4`, as its program composes it. -/
def refRgArr : FVec Ideal S2x16384x512 .f32 :=
  extractStridedSlice S2x16384x512 ![0, 0, 1536] (refDots m c) slices_S2x16384x3584_S2x16384x512_0_0_1536

theorem refRg_at (p : Fin 2) (s : Fin 16384) (j : Fin 512) :
    refRgArr m c (ix3 p s j) = dotAt (refIn m c) (refW m c) p s (1536 + j.val) (by omega) := by
  pointwise [refRgArr]
  rw [refDots_at]

/-- The reference's result `main_v80`, as its program composes it. -/
def refDqArr : FVec Ideal S2x16384x512 .bf16 :=
  truncf .bf16 (mulf (extractStridedSlice S2x16384x512 ![0, 0, 2048] (refDots m c) slices_S2x16384x3584_S2x16384x512_0_0_2048) (broadcastInDim S2x16384x512 ![] bcast_S_S2x16384x512 (constant S_ .f32 0x3E38AA3B#32))) bitsLt_bf16_f32

theorem refDq_at (p : Fin 2) (s : Fin 16384) (j : Fin 512) :
    refDqArr m c (ix3 p s j) = dotAt (refIn m c) (refW m c) p s (2048 + j.val) (by omega) * Ideal.ofBits .f32 0x3E38AA3B#32 := by
  pointwise [refDqArr]
  rw [refDots_at]

/-- The reference's result `main_v81`, as its program composes it. -/
def refDkArr : FVec Ideal S2x16384x512 .bf16 :=
  truncf .bf16 (extractStridedSlice S2x16384x512 ![0, 0, 2560] (refDots m c) slices_S2x16384x3584_S2x16384x512_0_0_2560) bitsLt_bf16_f32

theorem refDk_at (p : Fin 2) (s : Fin 16384) (j : Fin 512) :
    refDkArr m c (ix3 p s j) = dotAt (refIn m c) (refW m c) p s (2560 + j.val) (by omega) := by
  pointwise [refDkArr]
  rw [refDots_at]

/-- The reference's result `main_v84`, as its program composes it. -/
def refDvArr : FVec Ideal S2x4x32x128x512 .bf16 :=
  truncf .bf16 (transpose S2x4x32x128x512 [0, 3, 1, 4, 2] (shapeCast _ (extractStridedSlice S2x16384x512 ![0, 0, 3072] (refDots m c) slices_S2x16384x3584_S2x16384x512_0_0_3072) shapeCasts_S2x16384x512_S2x32x512x4x128) transposes_S2x32x512x4x128_S2x4x32x128x512_0_3_1_4_2) bitsLt_bf16_f32

theorem refDv_at (p : Fin 2) (h : Fin 4) (b : Fin 32) (d : Fin 128) (r : Fin 512) :
    refDvArr m c (ix5 p h b d r) = dotAt (refIn m c) (refW m c) p ⟨b.val * 512 + r.val, by omega⟩ (3072 + (h.val * 128 + d.val)) (by omega) := by
  pointwise [refDvArr]
  rw [refDots_at]

/-! The seven arrays, whole. -/

theorem refRq_all : res_main_v76 (F := Ideal) m c = rqOut (refIn m c) (refW m c) :=
  funext fun i => (congrArg (res_main_v76 (F := Ideal) m c) (eq_ix3 i)).trans (refRq_at m c (i 0) (i 1) (i 2))

theorem refRk_all : res_main_v78 (F := Ideal) m c = rkOut (refIn m c) (refW m c) :=
  funext fun i => (congrArg (res_main_v78 (F := Ideal) m c) (eq_ix3 i)).trans (refRk_at m c (i 0) (i 1) (i 2))

theorem refRv_all : refRvArr m c = colsOut (refIn m c) (refW m c) 1024 (by omega) :=
  funext fun i => (congrArg (refRvArr m c) (eq_ix3 i)).trans (refRv_at m c (i 0) (i 1) (i 2))

theorem refRg_all : refRgArr m c = colsOut (refIn m c) (refW m c) 1536 (by omega) :=
  funext fun i => (congrArg (refRgArr m c) (eq_ix3 i)).trans (refRg_at m c (i 0) (i 1) (i 2))

theorem refDq_all : refDqArr m c = dqOut (refIn m c) (refW m c) :=
  funext fun i => (congrArg (refDqArr m c) (eq_ix3 i)).trans (refDq_at m c (i 0) (i 1) (i 2))

theorem refDk_all : refDkArr m c = colsOut (refIn m c) (refW m c) 2560 (by omega) :=
  funext fun i => (congrArg (refDkArr m c) (eq_ix3 i)).trans (refDk_at m c (i 0) (i 1) (i 2))

theorem refDv_all : refDvArr m c = dvOut (refIn m c) (refW m c) :=
  funext fun i => (congrArg (refDvArr m c) (eq_ix5 i)).trans (refDv_at m c (i 0) (i 1) (i 2) (i 3) (i 4))

end Cert.Proj

end
-- ==== Proof.RetRow.lean ====
/- THE RETENTION ON EXTENDED REALS: four heads of 128 columns each; the 16384 positions are cut in 128 chunks of 128. Each
   head carries a 128 by 128 state from chunk to chunk; inside a chunk each row reads the earlier rows of the chunk, weighed
   by the head's decay, and the state. Each head's row is then brought to mean zero and variance one, scaled and gated. -/
module

public import Idealize.ShloMosaic.Lib.Pointwise
public import Idealize.ShloMosaic.Lib.DynamicIndex

@[expose] public section

noncomputable section

open Idealize.ShloMosaic Idealize.ShloMosaic.StableHlo

namespace Cert.Ret

/-- The logarithm of head `h`'s decay from one position to the next, and the decay over a whole chunk, as bits. -/
def lgB : Fin 4 → BitVec 32
  | 0 => 0xBD020AEC#32 | 1 => 0xBC8102B3#32 | 2 => 0xBC0080AC#32 | 3 => 0xBB80402B#32

def cdB : Fin 4 → BitVec 32
  | 0 => 0x3C8CC36A#32 | 1 => 0x3E08698E#32 | 2 => 0x3EBB9DB9#32 | 3 => 0x3F1B1EB1#32

def lg (h : Fin 4) : EReal := Ideal.ofBits .f32 (lgB h)

def cd (h : Fin 4) : EReal := Ideal.ofBits .f32 (cdB h)

/-- The decay from row `j` to the later row `i` of a chunk, zero where `i` is earlier. -/
def dIn (h : Fin 4) (i j : Fin 128) : EReal :=
  if j ≤ i then Ideal.exp (lg h * max ((((i.val : ℝ) - (j.val : ℝ) : ℝ)) : EReal) 0) else 0

/-- The decay from the chunk's start to its row `i`. -/
def qd (h : Fin 4) (i : Fin 128) : EReal := Ideal.exp (lg h * (((i.val : ℝ) : EReal) + Ideal.ofBits .f32 0x3F800000#32))

/-- The decay from the chunk's row `j` to its end. -/
def kd (h : Fin 4) (j : Fin 128) : EReal := Ideal.exp (lg h * (Ideal.ofBits .f32 0x42FE0000#32 - ((j.val : ℝ) : EReal)))

/-- A small position as a number. -/
theorem sitofp_pos (i : Fin 128) : FloatOps.sitofp (F := Ideal) .f32 (BitVec.ofNat 32 i.val) = ((i.val : ℝ) : EReal) := by
  show (((BitVec.ofNat 32 i.val).toInt : ℝ) : EReal) = _
  rw [toInt_ofNat_of_lt (by omega)]
  simp

/-- Row `i` of chunk `n`. -/
def pos (n : ℕ) (i : Fin 128) : Fin 16384 := ⟨(n * 128 + i.val) % 16384, Nat.mod_lt _ (by omega)⟩

/-- Column `d` of head `h`. -/
def col (h : Fin 4) (d : Fin 128) : Fin 512 := ⟨h.val * 128 + d.val, by omega⟩

abbrev X3 := FVec Ideal ⟨3, ![2, 16384, 512]⟩ .f32

variable (q k v g : X3) (gn : FVec Ideal ⟨1, ![512]⟩ .f32)

/-- The scaled key. -/
def ks (p : Fin 2) (s : Fin 16384) (j : Fin 512) : EReal := k (ix3 p s j) * Ideal.ofBits .f32 0x3DB504F3#32

/-- Head `h`'s state before chunk `n`. -/
def st (p : Fin 2) (h : Fin 4) : ℕ → Fin 128 → Fin 128 → EReal
  | 0, _, _ => 0
  | n + 1, d, e => st p h n d e * cd h + ∑ j : Fin 128, (ks k p (pos n j) (col h d) * kd h j) * v (ix3 p (pos n j) (col h e))

/-- Head `h`'s row `i` of chunk `n`, before the norm. -/
def yAt (p : Fin 2) (h : Fin 4) (n : ℕ) (i e : Fin 128) : EReal :=
  (∑ j : Fin 128, ((∑ d : Fin 128, q (ix3 p (pos n i) (col h d)) * ks k p (pos n j) (col h d)) * dIn h i j) * v (ix3 p (pos n j) (col h e)))
    + ∑ d : Fin 128, (q (ix3 p (pos n i) (col h d)) * qd h i) * st k v p h n d e

/-- A row's mean. -/
def mean (y : Fin 128 → EReal) : EReal := Ideal.div (∑ e : Fin 128, y e) (Ideal.ofBits .f32 0x43000000#32)

/-- A row brought to mean zero and variance one. -/
def unitRow (y : Fin 128 → EReal) (e : Fin 128) : EReal :=
  (y e - mean y) * Ideal.rsqrt (mean (fun e => (y e - mean y) * (y e - mean y)) + Ideal.ofBits .f32 0x3727C5AC#32)

/-- The result at chunk `n`, row `i`, head `h`, column `e`. -/
def outAt (p : Fin 2) (h : Fin 4) (n : ℕ) (i e : Fin 128) : EReal :=
  (unitRow (yAt q k v p h n i) e * gn (ix1 (col h e)))
    * (g (ix3 p (pos n i) (col h e)) * Ideal.logistic (g (ix3 p (pos n i) (col h e))))

/-- The retention's result. -/
def retOut : FVec Ideal ⟨3, ![2, 16384, 512]⟩ .bf16 := fun i =>
  outAt q k v g gn (i 0) ⟨(i 2).val / 128, by have : (i 2).val < 512 := (i 2).isLt; omega⟩ ((i 1).val / 128)
    ⟨(i 1).val % 128, by omega⟩ ⟨(i 2).val % 128, by omega⟩

end Cert.Ret
-- ==== Proof.RetBody.lean ====
/- THE RETENTION KERNEL'S BODY, by head and chunk: each grid point goes through sixteen chunks of 128 rows for each of four
   heads; one step carries a head's state over a chunk, one gives the chunk's rows of the result. -/
module

public import Idealize.ShloMosaic.Lib.WholeRead
public import proofs.«01_k».proof.Proof.RetRow
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Ret

open Cert.Kernel4Ideal Cert.Kernel4Ideal.Gen
open Idealize.ShloMosaic.Pipeline (Dat)

abbrev Mat := FVec Ideal S128x128 .f32

/-- The decays of head `h` inside a chunk, from its start, and to its end. -/
def dInV (h : Fin 4) : Mat :=
  select (cmpi .sge (iota .tc S128x128 32 [0] iota_S128x128_d0_w32) (iota .tc S128x128 32 [1] iota_S128x128_d1_w32))
    (exp (mulf (broadcast S128x128 (Scalar.ofBits .f32 (lgB h)))
      (maximumf (sitofp .f32 (subi (iota .tc S128x128 32 [0] iota_S128x128_d0_w32) (iota .tc S128x128 32 [1] iota_S128x128_d1_w32)))
        (broadcast S128x128 (Scalar.ofBits .f32 0x00000000#32)))))
    (broadcast S128x128 (Scalar.ofBits .f32 0x00000000#32))

def qdV (h : Fin 4) : Mat :=
  exp (mulf (broadcast S128x128 (Scalar.ofBits .f32 (lgB h)))
    (addf (sitofp .f32 (iota .tc S128x128 32 [0] iota_S128x128_d0_w32)) (broadcast S128x128 (Scalar.ofBits .f32 0x3F800000#32))))

def kdV (h : Fin 4) : Mat :=
  exp (mulf (broadcast S128x128 (Scalar.ofBits .f32 (lgB h)))
    (subf (broadcast S128x128 (Scalar.ofBits .f32 0x42FE0000#32)) (sitofp .f32 (iota .tc S128x128 32 [1] iota_S128x128_d1_w32))))

/-- A head's state after a chunk. -/
def stepV (h : Fin 4) (S : Mat) (kb vb : FVec Ideal S1x128x128 .bf16) : Mat :=
  addf (mulf S (broadcast S128x128 (Scalar.ofBits .f32 (cdB h))))
    (matmul dot_S128x128_S128x128_S128x128_1_0_0_1_n_n none
      (truncf .bf16 (mulf (extf .f32 (shapeCast S128x128 kb shapeCasts_S1x128x128_S128x128) bitsLt_bf16_f32) (kdV h)) bitsLt_bf16_f32)
      (shapeCast S128x128 vb shapeCasts_S1x128x128_S128x128 : FVec Ideal S128x128 .bf16) (constant S128x128 .f32 0x00000000#32))

/-- A chunk's rows before the norm. -/
def rowsV (h : Fin 4) (S : Mat) (qb kb vb : FVec Ideal S1x128x128 .bf16) : Mat :=
  addf
    (matmul dot_S128x128_S128x128_S128x128_1_0_0_1_n_n none
      (truncf .bf16 (mulf (matmul dot_S128x128_S128x128_S128x128_1_0_0_1_n_n none (shapeCast S128x128 qb shapeCasts_S1x128x128_S128x128 : FVec Ideal S128x128 .bf16)
        (shapeCast S128x128 kb shapeCasts_S1x128x128_S128x128 : FVec Ideal S128x128 .bf16) (constant S128x128 .f32 0x00000000#32)) (dInV h)) bitsLt_bf16_f32)
      (shapeCast S128x128 vb shapeCasts_S1x128x128_S128x128 : FVec Ideal S128x128 .bf16) (constant S128x128 .f32 0x00000000#32))
    (matmul dot_S128x128_S128x128_S128x128_1_0_0_1_n_n none
      (truncf .bf16 (mulf (extf .f32 (shapeCast S128x128 qb shapeCasts_S1x128x128_S128x128) bitsLt_bf16_f32) (qdV h)) bitsLt_bf16_f32)
      (truncf .bf16 S bitsLt_bf16_f32) (constant S128x128 .f32 0x00000000#32))

/-- The mean of each row, as a column. -/
def meanV (y : Mat) : FVec Ideal S128x1 .f32 :=
  divf (shapeCast S128x1 (multiReduction .add [1] S128 y 0x00000000#32 reduces_S128x128_S128 (.inl rfl) rfl) shapeCasts_S128_S128x1)
    (broadcast S128x1 (Scalar.ofBits .f32 0x43000000#32))

def centreV (y : Mat) : Mat := subf y (broadcastTo S128x128 (meanV y) broadcasts_S128x1_S128x128)

def unitV (y : Mat) : Mat :=
  mulf (centreV y) (broadcastTo S128x128 (rsqrt (addf (meanV (mulf (centreV y) (centreV y))) (broadcast S128x1 (Scalar.ofBits .f32 0x3727C5AC#32)))) broadcasts_S128x1_S128x128)

theorem slicesG (h : Fin 4) : S1x512.Slices ![0, h.val * 128] S1x128 :=
  ⟨rfl, fun a => by fin_cases a <;> simp <;> omega⟩

/-- A chunk's rows of the result, from the rows before the norm. -/
def gatedV (h : Fin 4) (y : Mat) (gnb : FVec Ideal S1x512 .f32) (gb : FVec Ideal S1x128x128 .f32) : FVec Ideal S1x128x128 .bf16 :=
  shapeCast S1x128x128 (truncf .bf16 (mulf
    (mulf (unitV y) (broadcastTo S128x128 (extractStridedSlice S1x128 ![0, h.val * 128] (shapeCast S1x512 gnb shapeCasts_S1x512_S1x512) (slicesG h)) broadcasts_S1x128_S128x128))
    (mulf (shapeCast S128x128 gb shapeCasts_S1x128x128_S128x128) (logistic (shapeCast S128x128 gb shapeCasts_S1x128x128_S128x128)))) bitsLt_bf16_f32) shapeCasts_S128x128_S1x128x128

section Loads

variable (arg2 : Memref sig .tc .vmem S1x2048x512 .bf16) (harg2 : arg2.IsWhole) (x0 : FVec Ideal S1x2048x512 .bf16)
variable (arg3 : Memref sig .tc .vmem S1x512x2048 .bf16) (harg3 : arg3.IsWhole) (x1 : FVec Ideal S1x512x2048 .bf16)
variable (arg5 : Memref sig .tc .vmem S1x2048x512 .f32) (harg5 : arg5.IsWhole) (x3 : FVec Ideal S1x2048x512 .f32)

theorem inbRow (h : Fin 4) (n : ℕ) : ∀ a, (![0, n * 128 % 2048, h.val * 128] : Fin 3 → ℕ) a + S1x128x128.size a ≤ S1x2048x512.size a := by
  intro a; fin_cases a <;> simp <;> omega

theorem inbCol (h : Fin 4) (n : ℕ) : ∀ a, (![0, h.val * 128, n * 128 % 2048] : Fin 3 → ℕ) a + S1x128x128.size a ≤ S1x512x2048.size a := by
  intro a; fin_cases a <;> simp <;> omega

/-- The loads of head `h`'s chunk `n`. -/
def rowLd (h : Fin 4) (n : ℕ) : FVec Ideal S1x128x128 .bf16 :=
  View.readAt (Elt Ideal) arg2.view (Rect.unit (s := S1x2048x512) ![0, n * 128 % 2048, h.val * 128] S1x128x128.size (inbRow h n)).toLoadRect (harg2.unread x0)

def colLd (h : Fin 4) (n : ℕ) : FVec Ideal S1x128x128 .bf16 :=
  View.readAt (Elt Ideal) arg3.view (Rect.unit (s := S1x512x2048) ![0, h.val * 128, n * 128 % 2048] S1x128x128.size (inbCol h n)).toLoadRect (harg3.unread x1)

def gateLd (h : Fin 4) (n : ℕ) : FVec Ideal S1x128x128 .f32 :=
  View.readAt (Elt Ideal) arg5.view (Rect.unit (s := S1x2048x512) ![0, n * 128 % 2048, h.val * 128] S1x128x128.size (inbRow h n)).toLoadRect (harg5.unread x3)

end Loads

theorem dInV_at (h : Fin 4) (i j : Fin 128) : dInV h (ix2 i j) = dIn h i j := by
  unfold dIn lg
  have hi := i.isLt
  have hj := j.isLt
  have hs : FloatOps.sitofp (F := Ideal) .f32 (IntOp.subi (BitVec.ofNat 32 i.val) (BitVec.ofNat 32 j.val)) = (((i.val : ℝ) - (j.val : ℝ) : ℝ) : EReal) := by
    show (((BitVec.ofNat 32 i.val - BitVec.ofNat 32 j.val).toInt : ℝ) : EReal) = _
    have e : (BitVec.ofNat 32 i.val - BitVec.ofNat 32 j.val).toInt = (i.val : Int) - j.val := by
      rw [BitVec.toInt_sub, toInt_ofNat_of_lt (by omega), toInt_ofNat_of_lt (by omega)]
      exact Int.bmod_eq_of_le (by omega) (by omega)
    rw [e]
    push_cast
    rfl
  have hc : IntOp.cmpi .sge (BitVec.ofNat 32 i.val) (BitVec.ofNat 32 j.val) = 1#1 ↔ j ≤ i := by
    rw [IntOp.cmpi_sge, toInt_ofNat_of_lt (by omega), toInt_ofNat_of_lt (by omega), Fin.le_def]
    omega
  pointwise [dInV]
  rw [hs]
  show (if IntOp.cmpi .sge (BitVec.ofNat 32 i.val) (BitVec.ofNat 32 j.val) = 1#1 then _ else _) = _
  rw [if_congr hc rfl rfl]

theorem qdV_at (h : Fin 4) (i j : Fin 128) : qdV h (ix2 i j) = qd h i := by
  have hs := sitofp_pos i
  unfold qd lg
  pointwise [qdV]
  rw [hs]

theorem kdV_at (h : Fin 4) (i j : Fin 128) : kdV h (ix2 i j) = kd h j := by
  have hs := sitofp_pos j
  unfold kd lg
  pointwise [kdV]
  rw [hs]

theorem stepV_at (h : Fin 4) (S : Mat) (kb vb : FVec Ideal S1x128x128 .bf16) (d e : Fin 128) :
    stepV h S kb vb (ix2 d e) = S (ix2 d e) * cd h + ∑ j : Fin 128, (kb (ix3 0 d j) * kd h j) * vb (ix3 0 j e) := by
  simp only [← kdV_at h d]
  unfold cd
  pointwise [stepV]

theorem rowsV_at (h : Fin 4) (S : Mat) (qb kb vb : FVec Ideal S1x128x128 .bf16) (i e : Fin 128) :
    rowsV h S qb kb vb (ix2 i e) = (∑ j : Fin 128, ((∑ d : Fin 128, qb (ix3 0 i d) * kb (ix3 0 d j)) * dIn h i j) * vb (ix3 0 j e))
      + ∑ d : Fin 128, (qb (ix3 0 i d) * qd h i) * S (ix2 d e) := by
  have hq := qdV_at h i
  simp only [← dInV_at]
  pointwise [rowsV]
  simp only [hq]

theorem meanV_at (y : Mat) (i : Fin 128) : meanV y (ix2 i 0) = mean (fun e => y (ix2 i e)) := by
  unfold mean
  pointwise [meanV]
theorem centreV_at (y : Mat) (i e : Fin 128) : centreV y (ix2 i e) = y (ix2 i e) - mean (fun e => y (ix2 i e)) := by
  rw [← meanV_at]
  pointwise [centreV]
theorem unitV_at (y : Mat) (i e : Fin 128) : unitV y (ix2 i e) = unitRow (fun e => y (ix2 i e)) e := by
  have hm := meanV_at (mulf (centreV y) (centreV y)) i
  unfold unitRow
  simp only [← centreV_at]
  pointwise [unitV]
  rw [hm]
  rfl

theorem gatedV_at (h : Fin 4) (y : Mat) (gnb : FVec Ideal S1x512 .f32) (gb : FVec Ideal S1x128x128 .f32) (i e : Fin 128) :
    gatedV h y gnb gb (ix3 0 i e) = (unitV y (ix2 i e) * gnb (ix2 0 (col h e))) * (gb (ix3 0 i e) * Ideal.logistic (gb (ix3 0 i e))) := by
  unfold col
  pointwise [gatedV]

section Point

variable (c : Dev nD) (i : grid0.Coords) (arg2 : Memref sig .tc .vmem S1x2048x512 .bf16) (harg2 : arg2.IsWhole) (x0 : FVec Ideal S1x2048x512 .bf16)
variable (arg3 : Memref sig .tc .vmem S1x512x2048 .bf16) (harg3 : arg3.IsWhole) (x1 : FVec Ideal S1x512x2048 .bf16)
variable (arg4 : Memref sig .tc .vmem S1x2048x512 .bf16) (harg4 : arg4.IsWhole) (x2 : FVec Ideal S1x2048x512 .bf16)
variable (arg5 : Memref sig .tc .vmem S1x2048x512 .f32) (harg5 : arg5.IsWhole) (x3 : FVec Ideal S1x2048x512 .f32)
variable (arg6 : Memref sig .tc .vmem S1x512 .f32) (harg6 : arg6.IsWhole) (x4 : FVec Ideal S1x512 .f32)
variable (arg7 : Memref sig .tc .vmem S1x2048x512 .bf16) (harg7 : arg7.IsWhole)
variable (arg8 : Memref sig .tc .vmem S4x128x128 .f32) (harg8 : arg8.IsWhole) (xs0 : FVec Ideal S4x128x128 .f32)

/-- Head `h`'s state before the point's chunk `n`, from the state `S` the point starts with. -/
def stV (h : Fin 4) (S : Mat) : ℕ → Mat
  | 0 => S
  | n + 1 => stepV h (stV h S n) (colLd arg3 harg3 x1 h n) (rowLd arg4 harg4 x2 h n)

theorem st_tile (S : Fin 4 → Mat) (h : Fin 4) (d e : Fin 128) (o : ℕ) (ho : o < 4) (P : Vec Ideal S1x128x128 .f32)
    (hP : P = shapeCast S1x128x128 (stV arg3 harg3 x1 arg4 harg4 x2 ⟨o, ho⟩ (S ⟨o, ho⟩) 16) shapeCasts_S128x128_S1x128x128) :
    View.TileAt (S := S4x128x128) (ix3 h d e) ![o, 0, 0] ![1, 128, 128] P (stV arg3 harg3 x1 arg4 harg4 x2 h (S h) 16 (ix2 d e)) := by
  intro x hx
  obtain ⟨a, r, j, rfl⟩ : ∃ (a : Fin 1) (r j : Fin 128), (x : S1x128x128.Idx) = ix3 a r j := ⟨x 0, x 1, x 2, eq_ix3 (x : S1x128x128.Idx)⟩
  have h0 : h.val = o + a.val := hx 0
  have h1 : d.val = 0 + r.val := hx 1
  have h2 : e.val = 0 + j.val := hx 2
  obtain rfl : a = 0 := Subsingleton.elim _ _
  obtain rfl : h = ⟨o, ho⟩ := Fin.ext (by simpa using h0)
  obtain rfl : r = d := Fin.ext (by omega)
  obtain rfl : j = e := Fin.ext (by omega)
  rw [hP]
  pointwise

/-- The states a later point starts with: those the point before left. -/
def S0 (h : Fin 4) : Mat := shapeCast S128x128 (View.readAt (Elt Ideal) arg8.view (Rect.unit (s := S4x128x128) ![h.val, 0, 0] S1x128x128.size (by intro a; fin_cases a <;> simp <;> omega)).toLoadRect (harg8.unread xs0)) shapeCasts_S1x128x128_S128x128

theorem soutB (hc0 : ¬cond0_0 i) (h : Fin 4) (d e : Fin 128) :
    sout0_B_0 (F := Ideal) c i arg2 harg2 arg3 harg3 arg4 harg4 arg5 harg5 arg6 harg6 arg7 harg7 arg8 harg8 hc0 x0 x1 x2 x3 x4 xs0 (ix3 h d e)
      = stV arg3 harg3 x1 arg4 harg4 x2 h (S0 arg8 harg8 xs0 h) 16 (ix2 d e) := by
  have hcov := scover0_B_0 (F := Ideal) c i arg2 harg2 arg3 harg3 arg4 harg4 arg5 harg5 arg6 harg6 arg7 harg7 arg8 harg8 hc0 x0 x1 x2 x3 x4 xs0 (ix3 h d e)
  unfold sout0_B_0
  rw [View.read_writes_apply_eq_canon _ _ _ _ hcov]
  refine View.canon_eq_of_allAt _ _ _ hcov ?_
  simp only [kernelRun0_B]
  iterate 4 refine View.allAt_cons_unit _ _ _ _ _ (st_tile arg3 harg3 x1 arg4 harg4 x2 (S0 arg8 harg8 xs0) h d e _ (by decide) _ (by rfl)) ?_
  exact View.allAt_nil _ _

/-- The result's rows of the point's chunk `n` and head `h`. -/
def pieceV (S : Fin 4 → Mat) (h : Fin 4) (n : ℕ) : FVec Ideal S1x128x128 .bf16 :=
  gatedV h (rowsV h (stV arg3 harg3 x1 arg4 harg4 x2 h (S h) n) (rowLd arg2 harg2 x0 h n) (colLd arg3 harg3 x1 h n) (rowLd arg4 harg4 x2 h n))
    (View.readAt (Elt Ideal) arg6.view (Rect.unit (s := S1x512) ![0, 0] S1x512.size inb_S1x512_S1x512_0_0).toLoadRect (harg6.unread x4)) (gateLd arg5 harg5 x3 h n)

theorem piece_tile (S : Fin 4 → Mat) (r : Fin 2048) (j : Fin 512) (h : Fin 4) (n : ℕ) (i e : Fin 128) (hr : r.val = n * 128 + i.val) (hj : j.val = h.val * 128 + e.val)
    (r0 c0 : ℕ) (hr0 : r0 % 128 = 0) (hc0 : c0 % 128 = 0) (hc : c0 / 128 < 4) (P : Vec Ideal S1x128x128 .bf16)
    (hP : P = pieceV arg2 harg2 x0 arg3 harg3 x1 arg4 harg4 x2 arg5 harg5 x3 arg6 harg6 x4 S ⟨c0 / 128, hc⟩ (r0 / 128)) :
    View.TileAt (S := S1x2048x512) (ix3 0 r j) ![0, r0, c0] ![1, 128, 128] P
      (pieceV arg2 harg2 x0 arg3 harg3 x1 arg4 harg4 x2 arg5 harg5 x3 arg6 harg6 x4 S h n (ix3 0 i e)) := by
  intro x hx
  obtain ⟨a, i', e', rfl⟩ : ∃ (a : Fin 1) (r j : Fin 128), (x : S1x128x128.Idx) = ix3 a r j := ⟨x 0, x 1, x 2, eq_ix3 (x : S1x128x128.Idx)⟩
  have h1 : r.val = r0 + i'.val := hx 1
  have h2 : j.val = c0 + e'.val := hx 2
  obtain rfl : a = 0 := Subsingleton.elim _ _
  obtain rfl : n = r0 / 128 := by omega
  obtain rfl : h = ⟨c0 / 128, hc⟩ := Fin.ext (by show h.val = c0 / 128; omega)
  obtain rfl : i' = i := Fin.ext (by omega)
  obtain rfl : e' = e := Fin.ext (by simp only at hj; omega)
  rw [hP]

theorem outB (hc0 : ¬cond0_0 i) (r : Fin 2048) (j : Fin 512) (h : Fin 4) (n : ℕ) (b e : Fin 128) (hr : r.val = n * 128 + b.val) (hj : j.val = h.val * 128 + e.val) :
    out0_B_5 (F := Ideal) c i arg2 harg2 arg3 harg3 arg4 harg4 arg5 harg5 arg6 harg6 arg7 harg7 arg8 harg8 hc0 x0 x1 x2 x3 x4 xs0 (ix3 0 r j)
      = pieceV arg2 harg2 x0 arg3 harg3 x1 arg4 harg4 x2 arg5 harg5 x3 arg6 harg6 x4 (S0 arg8 harg8 xs0) h n (ix3 0 b e) := by
  have hcov := cover0_B_5 (F := Ideal) c i arg2 harg2 arg3 harg3 arg4 harg4 arg5 harg5 arg6 harg6 arg7 harg7 arg8 harg8 hc0 x0 x1 x2 x3 x4 xs0 (ix3 0 r j)
  unfold out0_B_5
  rw [View.read_writes_apply_eq_canon _ _ _ _ hcov]
  refine View.canon_eq_of_allAt _ _ _ hcov ?_
  simp only [kernelRun0_B]
  iterate 64 refine View.allAt_cons_unit _ _ _ _ _ (piece_tile arg2 harg2 x0 arg3 harg3 x1 arg4 harg4 x2 arg5 harg5 x3 arg6 harg6 x4 (S0 arg8 harg8 xs0) r j h n b e hr hj _ _ (by decide) (by decide) (by decide) _ (by rfl)) ?_
  exact View.allAt_nil _ _

/-- The states a batch's first point starts with. -/
def SA (h : Fin 4) : Mat :=
  shapeCast S128x128 (match h with
    | 0 => kernelRun0_A.sl.v29 (F := Ideal) c arg8
    | 1 => kernelRun0_A.sl.v870 (F := Ideal) c arg3 harg3 arg4 harg4 arg8 x1 x2
    | 2 => kernelRun0_A.sl.v1711 (F := Ideal) c arg3 harg3 arg4 harg4 arg8 x1 x2
    | 3 => kernelRun0_A.sl.v2552 (F := Ideal) c arg3 harg3 arg4 harg4 arg8 x1 x2 : FVec Ideal S1x128x128 .f32) shapeCasts_S1x128x128_S128x128

theorem outA (hc0 : cond0_0 i) (r : Fin 2048) (j : Fin 512) (h : Fin 4) (n : ℕ) (b e : Fin 128) (hr : r.val = n * 128 + b.val) (hj : j.val = h.val * 128 + e.val) :
    out0_A_5 (F := Ideal) c i arg2 harg2 arg3 harg3 arg4 harg4 arg5 harg5 arg6 harg6 arg7 harg7 arg8 harg8 hc0 x0 x1 x2 x3 x4 (ix3 0 r j)
      = pieceV arg2 harg2 x0 arg3 harg3 x1 arg4 harg4 x2 arg5 harg5 x3 arg6 harg6 x4 (SA c arg3 harg3 x1 arg4 harg4 x2 arg8) h n (ix3 0 b e) := by
  have hcov := cover0_A_5 (F := Ideal) c i arg2 harg2 arg3 harg3 arg4 harg4 arg5 harg5 arg6 harg6 arg7 harg7 arg8 harg8 hc0 x0 x1 x2 x3 x4 (ix3 0 r j)
  unfold out0_A_5
  rw [View.read_writes_apply_eq_canon _ _ _ _ hcov]
  refine View.canon_eq_of_allAt _ _ _ hcov ?_
  simp only [kernelRun0_A]
  iterate 64 refine View.allAt_cons_unit _ _ _ _ _ (piece_tile arg2 harg2 x0 arg3 harg3 x1 arg4 harg4 x2 arg5 harg5 x3 arg6 harg6 x4 (SA c arg3 harg3 x1 arg4 harg4 x2 arg8) r j h n b e hr hj _ _ (by decide) (by decide) (by decide) _ (by rfl)) ?_
  exact View.allAt_nil _ _

end Point

/-- The later pieces alone decide an entry that one of them holds. -/
theorem canon_front {S : Shape} {e : EltTy} (L' : List (View.Piece (Elt Ideal) S e)) : ∀ (L : List (View.Piece (Elt Ideal) S e)) (y : S.Idx) (v : Elt Ideal e),
    (∃ p ∈ L, y ∈ p.1.set) → View.AllAt L y v → View.canon (L ++ L') y = v
  | [], _, _, hc, _ => by obtain ⟨p, hp, _⟩ := hc; exact absurd hp List.not_mem_nil
  | p :: L, y, v, hc, h => by
    show View.canon (p :: (L ++ L')) y = v
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine canon_front L' L y v ?_ fun q hq => h q (List.mem_cons_of_mem _ hq)
      obtain ⟨q, hq, hyq⟩ := hc
      rcases List.mem_cons.mp hq with rfl | hq'
      · exact absurd hyq hm
      · exact ⟨q, hq', hyq⟩

section PointA

variable (c : Dev nD) (i : grid0.Coords) (arg2 : Memref sig .tc .vmem S1x2048x512 .bf16) (harg2 : arg2.IsWhole) (x0 : FVec Ideal S1x2048x512 .bf16)
variable (arg3 : Memref sig .tc .vmem S1x512x2048 .bf16) (harg3 : arg3.IsWhole) (x1 : FVec Ideal S1x512x2048 .bf16)
variable (arg4 : Memref sig .tc .vmem S1x2048x512 .bf16) (harg4 : arg4.IsWhole) (x2 : FVec Ideal S1x2048x512 .bf16)
variable (arg5 : Memref sig .tc .vmem S1x2048x512 .f32) (harg5 : arg5.IsWhole) (x3 : FVec Ideal S1x2048x512 .f32)
variable (arg6 : Memref sig .tc .vmem S1x512 .f32) (harg6 : arg6.IsWhole) (x4 : FVec Ideal S1x512 .f32)
variable (arg7 : Memref sig .tc .vmem S1x2048x512 .bf16) (harg7 : arg7.IsWhole)
variable (arg8 : Memref sig .tc .vmem S4x128x128 .f32) (harg8 : arg8.IsWhole) (xs0 : FVec Ideal S4x128x128 .f32)

theorem soutA (hc0 : cond0_0 i) (h : Fin 4) (d e : Fin 128) :
    sout0_A_0 (F := Ideal) c i arg2 harg2 arg3 harg3 arg4 harg4 arg5 harg5 arg6 harg6 arg7 harg7 arg8 harg8 hc0 x0 x1 x2 x3 x4 (ix3 h d e)
      = stV arg3 harg3 x1 arg4 harg4 x2 h (SA c arg3 harg3 x1 arg4 harg4 x2 arg8 h) 16 (ix2 d e) := by
  unfold sout0_A_0
  rw [View.read_writes_junk_eq_canon]
  simp only [kernelRun0_A]
  refine canon_front [_] [_, _, _, _] _ _ ?_ ?_
  · exact View.cover_of_tiledL (s := S4x128x128) _ S1x128x128.size (by sl_kernel_rfl) _
  iterate 4 refine View.allAt_cons_unit _ _ _ _ _ (st_tile arg3 harg3 x1 arg4 harg4 x2 (SA c arg3 harg3 x1 arg4 harg4 x2 arg8) h d e _ (by decide) _ (by rfl)) ?_
  exact View.allAt_nil _ _

theorem SA_zero (h : Fin 4) (d e : Fin 128) : SA c arg3 harg3 x1 arg4 harg4 x2 arg8 h (ix2 d e) = 0 := by
  unfold SA kernelRun0_A.sl.v29 kernelRun0_A.sl.v870 kernelRun0_A.sl.v1711 kernelRun0_A.sl.v2552 kernelRun0_A.sl.HS0_4 kernelRun0_A.sl.HS0_3 kernelRun0_A.sl.HS0_2 kernelRun0_A.sl.HS0_1
  fin_cases h <;> (simp (decide := true) only [↓View.readCov_skip, View.readCov_fill]; pointwise [k0_pay1])

end PointA

section LoadsAt

variable (arg2 : Memref sig .tc .vmem S1x2048x512 .bf16) (harg2 : arg2.IsWhole) (x0 : FVec Ideal S1x2048x512 .bf16)
variable (arg3 : Memref sig .tc .vmem S1x512x2048 .bf16) (harg3 : arg3.IsWhole) (x1 : FVec Ideal S1x512x2048 .bf16)
variable (arg5 : Memref sig .tc .vmem S1x2048x512 .f32) (harg5 : arg5.IsWhole) (x3 : FVec Ideal S1x2048x512 .f32)
variable (arg6 : Memref sig .tc .vmem S1x512 .f32) (harg6 : arg6.IsWhole) (x4 : FVec Ideal S1x512 .f32)
variable (arg8 : Memref sig .tc .vmem S4x128x128 .f32) (harg8 : arg8.IsWhole) (xs0 : FVec Ideal S4x128x128 .f32)

/-- Row `a` of the point's chunk `n`. -/
def rowIn (n : ℕ) (a : Fin 128) : Fin 2048 := ⟨n * 128 % 2048 + a.val, by omega⟩

theorem rowLd_at (h : Fin 4) (n : ℕ) (a b : Fin 128) : rowLd arg2 harg2 x0 h n (ix3 0 a b) = x0 (ix3 0 (rowIn n a) (col h b)) :=
  (Memref.IsWhole.readAt_unread (Val := Elt Ideal) harg2 x0 _ _).trans (congrArg x0 (by funext k; fin_cases k <;> exact Fin.ext (by show _ + 1 * _ = _; simp [rowIn, col])))

theorem colLd_at (h : Fin 4) (n : ℕ) (a b : Fin 128) : colLd arg3 harg3 x1 h n (ix3 0 a b) = x1 (ix3 0 (col h a) (rowIn n b)) :=
  (Memref.IsWhole.readAt_unread (Val := Elt Ideal) harg3 x1 _ _).trans (congrArg x1 (by funext k; fin_cases k <;> exact Fin.ext (by show _ + 1 * _ = _; simp [rowIn, col])))

theorem gateLd_at (h : Fin 4) (n : ℕ) (a b : Fin 128) : gateLd arg5 harg5 x3 h n (ix3 0 a b) = x3 (ix3 0 (rowIn n a) (col h b)) :=
  (Memref.IsWhole.readAt_unread (Val := Elt Ideal) harg5 x3 _ _).trans (congrArg x3 (by funext k; fin_cases k <;> exact Fin.ext (by show _ + 1 * _ = _; simp [rowIn, col])))

theorem gnLd_at (j : Fin 512) : View.readAt (Elt Ideal) arg6.view (Rect.unit (s := S1x512) ![0, 0] S1x512.size inb_S1x512_S1x512_0_0).toLoadRect (harg6.unread x4) (ix2 0 j) = x4 (ix2 0 j) :=
  (Memref.IsWhole.readAt_unread (Val := Elt Ideal) harg6 x4 _ _).trans (congrArg x4 (by funext k; fin_cases k <;> exact Fin.ext (by show _ + 1 * _ = _; simp)))

theorem S0_at (h : Fin 4) (d e : Fin 128) : S0 arg8 harg8 xs0 h (ix2 d e) = xs0 (ix3 h d e) := by
  have hc : ∀ X : FVec Ideal S1x128x128 .f32, shapeCast S128x128 X shapeCasts_S1x128x128_S128x128 (ix2 d e) = X (ix3 0 d e) := by
    intro X
    pointwise
  exact (hc _).trans ((Memref.IsWhole.readAt_unread (Val := Elt Ideal) harg8 xs0 _ _).trans (congrArg xs0 (by funext k; fin_cases k <;> exact Fin.ext (by show _ + 1 * _ = _; simp))))

end LoadsAt

end Cert.Ret
-- ==== Proof.RetVal.lean ====
/- THE RETENTION KERNEL'S RESULT ARRAY: what each window's block holds, the state that each grid point leaves to the next,
   each point's block of the result, and the whole array, which is the function of `RetRow.lean` of the five arguments. -/
module

public import proofs.«01_k».proof.Proof.RetBody

@[expose] public section

set_option maxRecDepth 16384

noncomputable section

open Idealize.ShloMosaic Idealize.ShloMosaic.TcCoe Idealize.SL.Sem Idealize.ShloMosaic.Tactic
open Idealize.ShloMosaic.Pipeline (Dat)

namespace Cert.Ret

open Cert.Kernel4Ideal Cert.Kernel4Ideal.Gen

variable (m : (ℓ : Loc nD τ sig) → Buf (Elt Ideal) ℓ)

/-- The kernel's arguments. -/
abbrev kQ (c : Dev nD) : X3 := m ((c : Thread nD τ).loc main_arg0)
abbrev kK (c : Dev nD) : X3 := m ((c : Thread nD τ).loc main_arg1)
abbrev kV (c : Dev nD) : X3 := m ((c : Thread nD τ).loc main_arg2)
abbrev kG (c : Dev nD) : X3 := m ((c : Thread nD τ).loc main_arg3)
abbrev kGn (c : Dev nD) : FVec Ideal ⟨1, ![512]⟩ .f32 := m ((c : Thread nD τ).loc main_arg4)

/-- Where each window's block lies at grid point `t`. -/
theorem idx : ∀ t : Fin cfg0.N, win0_0.index t = ![t.val / 8, t.val % 8, 0] ∧ win0_1.index t = ![t.val / 8, 0, t.val % 8] ∧ win0_2.index t = ![t.val / 8, t.val % 8, 0]
    ∧ win0_3.index t = ![t.val / 8, t.val % 8, 0] ∧ win0_4.index t = ![0, 0] ∧ win0_5.index t = ![t.val / 8, t.val % 8, 0] ∧ t.val < 16 :=
  (by decide +kernel : ∀ t : Fin grid0.N, _)

/-- The batch of point `t`, and the position of its row `r`. -/
def batOf (t : Fin cfg0.N) : Fin 2 := ⟨t.val / 8, by have h : t.val < 16 := t.isLt; omega⟩

def posOf (t : Fin cfg0.N) (r : Fin 2048) : Fin 16384 := ⟨t.val % 8 * 2048 + r.val, by omega⟩

theorem blk0_at (c : Dev nD) (t : Fin cfg0.N) (r : Fin 2048) (j : Fin 512) : iblk m c 0 t (ix3 0 r j) = kQ m c (ix3 (batOf t) (posOf t r) j) := by
  blk_simp [iblk, idx t]
  entry_read
  pointwise
  blk_ext [idx t]
  all_goals rfl

theorem blk1_at (c : Dev nD) (t : Fin cfg0.N) (j : Fin 512) (r : Fin 2048) : iblk m c 1 t (ix3 0 j r) = ks (kK m c) (batOf t) (posOf t r) j := by
  have e : win0_1.index t = ![t.val / 8, 0, t.val % 8] := (idx t).2.1
  blk_simp [iblk, idx t]
  entry_read
  pointwise
  refine congrArg (fun i => kK m c i * Ideal.ofBits .f32 0x3DB504F3#32) ?_
  blk_ext [idx t]
  all_goals rfl

theorem blk2_at (c : Dev nD) (t : Fin cfg0.N) (r : Fin 2048) (j : Fin 512) : iblk m c 2 t (ix3 0 r j) = kV m c (ix3 (batOf t) (posOf t r) j) := by
  blk_simp [iblk, idx t]
  entry_read
  pointwise
  blk_ext [idx t]
  all_goals rfl

theorem blk3_at (c : Dev nD) (t : Fin cfg0.N) (r : Fin 2048) (j : Fin 512) : iblk m c 3 t (ix3 0 r j) = kG m c (ix3 (batOf t) (posOf t r) j) := by
  blk_simp [iblk, idx t]
  entry_read
  pointwise
  blk_ext [idx t]
  all_goals rfl

theorem blk4_at (c : Dev nD) (t : Fin cfg0.N) (j : Fin 512) : iblk m c 4 t (ix2 0 j) = kGn m c (ix1 j) := by
  blk_simp [iblk, idx t]
  entry_read
  pointwise
  blk_ext [idx t]

theorem posOf_row (t : Fin cfg0.N) (n : ℕ) (hn : n < 16) (a : Fin 128) : posOf t (rowIn n a) = pos (16 * (t.val % 8) + n) a :=
  Fin.ext (by show t.val % 8 * 2048 + (n * 128 % 2048 + a.val) = ((16 * (t.val % 8) + n) * 128 + a.val) % 16384; omega)

section AtPoint

variable (c : Dev nD) (t : Fin cfg0.N)
variable (arg2 : Memref sig .tc .vmem S1x2048x512 .bf16) (harg2 : arg2.IsWhole)
variable (arg3 : Memref sig .tc .vmem S1x512x2048 .bf16) (harg3 : arg3.IsWhole)
variable (arg4 : Memref sig .tc .vmem S1x2048x512 .bf16) (harg4 : arg4.IsWhole)
variable (arg5 : Memref sig .tc .vmem S1x2048x512 .f32) (harg5 : arg5.IsWhole)
variable (arg6 : Memref sig .tc .vmem S1x512 .f32) (harg6 : arg6.IsWhole)

/-- A point's state, chunk by chunk, from the state the point began with. -/
theorem stV_point (h : Fin 4) (S : Mat) (hS : ∀ d e, S (ix2 d e) = st (kK m c) (kV m c) (batOf t) h (16 * (t.val % 8)) d e) : ∀ (n : ℕ), n ≤ 16 → ∀ d e : Fin 128,
    stV arg3 harg3 (iblk m c 1 t) arg4 harg4 (iblk m c 2 t) h S n (ix2 d e) = st (kK m c) (kV m c) (batOf t) h (16 * (t.val % 8) + n) d e
  | 0, _, d, e => hS d e
  | n + 1, hn, d, e => by
    show stepV h (stV arg3 harg3 (iblk m c 1 t) arg4 harg4 (iblk m c 2 t) h S n) (colLd arg3 harg3 (iblk m c 1 t) h n) (rowLd arg4 harg4 (iblk m c 2 t) h n) (ix2 d e) = _
    rw [stepV_at, stV_point h S hS n (by omega)]
    simp only [colLd_at, rowLd_at, blk1_at, blk2_at, posOf_row t n (by omega)]
    rfl

/-- A point's block of the result. -/
theorem piece_point (S : Fin 4 → Mat) (hS : ∀ h d e, S h (ix2 d e) = st (kK m c) (kV m c) (batOf t) h (16 * (t.val % 8)) d e) (h : Fin 4) (n : ℕ) (hn : n < 16) (b e : Fin 128) :
    pieceV arg2 harg2 (iblk m c 0 t) arg3 harg3 (iblk m c 1 t) arg4 harg4 (iblk m c 2 t) arg5 harg5 (iblk m c 3 t) arg6 harg6 (iblk m c 4 t) S h n (ix3 0 b e)
      = outAt (kQ m c) (kK m c) (kV m c) (kG m c) (kGn m c) (batOf t) h (16 * (t.val % 8) + n) b e := by
  unfold pieceV
  rw [gatedV_at, unitV_at, gnLd_at, gateLd_at, blk4_at, blk3_at, posOf_row t n hn]
  simp only [rowsV_at, colLd_at, rowLd_at, blk0_at, blk1_at, blk2_at, posOf_row t n hn, stV_point m c t arg3 harg3 arg4 harg4 h (S h) (hS h) n (by omega)]
  rfl

end AtPoint

/-- The state a point leaves. -/
theorem carried (c : Dev nD) (h : Fin 4) : ∀ (n : ℕ) (hn : n < cfg0.N) (d e : Fin 128),
    (outsAt0 m c n hn).2 (ix3 h d e) = st (kK m c) (kV m c) (batOf ⟨n, hn⟩) h (16 * (n % 8) + 16) d e := by
  intro n
  induction n with
  | zero =>
    intro hn d e
    rw [outsAt0_A m c ⟨0, hn⟩ rfl]
    dsimp only
    rw [soutA]
    exact stV_point m c ⟨0, hn⟩ _ _ _ _ h _ (fun d e => SA_zero ..) 16 le_rfl d e
  | succ n ih =>
    intro hn d e
    by_cases h0 : (n + 1) % 8 = 0
    · rw [outsAt0_A m c ⟨n + 1, hn⟩ h0]
      dsimp only
      rw [soutA]
      refine stV_point m c ⟨n + 1, hn⟩ _ _ _ _ h _ (fun d e => (SA_zero ..).trans ?_) 16 le_rfl d e
      show _ = st _ _ _ h (16 * ((n + 1) % 8)) d e
      rw [h0]
      rfl
    · rw [outsAt0_B m c ⟨n + 1, hn⟩ h0]
      dsimp only
      rw [soutB]
      refine stV_point m c ⟨n + 1, hn⟩ _ _ _ _ h _ (fun d e => ?_) 16 le_rfl d e
      rw [S0_at]
      refine (ih (by omega) d e).trans ?_
      have e1 : batOf ⟨n, by omega⟩ = batOf ⟨n + 1, hn⟩ := Fin.ext (by show n / 8 = (n + 1) / 8; omega)
      have e2 : 16 * (n % 8) + 16 = 16 * ((n + 1) % 8) := by omega
      rw [e1, e2]

/-- A point's block of the result, at row `n*128+b` and column `h*128+e`. -/
theorem out_point (c : Dev nD) (t : Fin cfg0.N) (r : Fin 2048) (j : Fin 512) (h : Fin 4) (n : ℕ) (hn : n < 16) (b e : Fin 128) (hr : r.val = n * 128 + b.val) (hj : j.val = h.val * 128 + e.val) :
    (outsAt0 m c t.val t.isLt).1 (ix3 0 r j) = outAt (kQ m c) (kK m c) (kV m c) (kG m c) (kGn m c) (batOf t) h (16 * (t.val % 8) + n) b e := by
  by_cases h0 : t.val % 8 = 0
  · rw [outsAt0_A m c t h0]
    dsimp only
    rw [outA _ _ _ _ _ _ _ _ _ _ _ _ _ _ _ _ _ _ _ _ _ _ r j h n b e hr hj]
    refine piece_point m c t _ _ _ _ _ _ _ _ _ _ _ (fun h d e => (SA_zero ..).trans ?_) h n hn b e
    rw [h0]
    rfl
  · rw [outsAt0_B m c t h0]
    dsimp only
    rw [outB _ _ _ _ _ _ _ _ _ _ _ _ _ _ _ _ _ _ _ _ _ _ _ r j h n b e hr hj]
    refine piece_point m c t _ _ _ _ _ _ _ _ _ _ _ (fun h d e => ?_) h n hn b e
    rw [S0_at]
    refine (carried m c h (t.val - 1) _ d e).trans ?_
    have e1 : batOf ⟨t.val - 1, Nat.lt_of_le_of_lt (Nat.sub_le _ _) t.isLt⟩ = batOf t := Fin.ext (by show (t.val - 1) / 8 = t.val / 8; omega)
    have e2 : 16 * ((t.val - 1) % 8) + 16 = 16 * (t.val % 8) := by omega
    rw [e1, e2]

theorem final5 (c : Dev nD) : (dats m 0 c).arrAt 5 cfg0.N = retOut (kQ m c) (kK m c) (kV m c) (kG m c) (kGn m c) := by
  refine (dats m 0 c).arrAt_eq_of_covers 5 (retOut (kQ m c) (kK m c) (kV m c) (kG m c) (kGn m c)) (by decide +kernel) fun t hf y => ?_
  obtain ⟨a, r, j, rfl⟩ : ∃ (a : Fin 1) (r : Fin 2048) (j : Fin 512), (y : S1x2048x512.Idx) = ix3 a r j := ⟨y 0, y 1, y 2, eq_ix3 (y : S1x2048x512.Idx)⟩
  obtain rfl : a = 0 := Subsingleton.elim _ _
  blk_simp
  rw [after0_5]
  have e0 : (((win0_5.blk t).view.emb (ix3 0 r j)) (0 : Fin 3)).val = t.val / 8 := by
    blk_simp [idx t]
    rfl
  have e1 : (((win0_5.blk t).view.emb (ix3 0 r j)) (1 : Fin 3)).val = t.val % 8 * 2048 + r.val := by
    blk_simp [idx t]
  have e2 : (((win0_5.blk t).view.emb (ix3 0 r j)) (2 : Fin 3)).val = j.val := by
    blk_simp [idx t]
  refine (out_point m c t r j ⟨j.val / 128, by omega⟩ (r.val / 128) (by omega) ⟨r.val % 128, by omega⟩ ⟨j.val % 128, by omega⟩ (by show _ = _ / 128 * 128 + _ % 128; omega) (by show _ = _ / 128 * 128 + _ % 128; omega)).trans ?_
  have put : ∀ (p p' : Fin 2) (h h' : Fin 4) (n n' : ℕ) (i i' e e' : Fin 128), p.val = p'.val → h.val = h'.val → n = n' → i.val = i'.val → e.val = e'.val →
      outAt (kQ m c) (kK m c) (kV m c) (kG m c) (kGn m c) p h n i e = outAt (kQ m c) (kK m c) (kV m c) (kG m c) (kGn m c) p' h' n' i' e' := by
    intro p p' h h' n n' i i' e e' a1 a2 a3 a4 a5
    obtain rfl := Fin.ext a1
    obtain rfl := Fin.ext a2
    obtain rfl := Fin.ext a4
    obtain rfl := Fin.ext a5
    rw [a3]
  refine put _ _ _ _ _ _ _ _ _ _ e0.symm ?_ ?_ ?_ ?_
  · show j.val / 128 = (((win0_5.blk t).view.emb (ix3 0 r j)) (2 : Fin 3)).val / 128
    rw [e2]
  · show _ = (((win0_5.blk t).view.emb (ix3 0 r j)) (1 : Fin 3)).val / 128
    rw [e1]; omega
  · show r.val % 128 = (((win0_5.blk t).view.emb (ix3 0 r j)) (1 : Fin 3)).val % 128
    rw [e1]; omega
  · show j.val % 128 = (((win0_5.blk t).view.emb (ix3 0 r j)) (2 : Fin 3)).val % 128
    rw [e2]

end Cert.Ret

end
-- ==== Proof.RetRef.lean ====
/- WHAT THE REFERENCE OF THE RETENTION COMPUTES: its result is the function of `RetRow.lean` of its five argument arrays. -/
module

public import proofs.«01_k».proof.Proof.RetRow
public import proofs.«01_k».proof.Proof.Gen.Reference4Ideal.Run
public import Idealize.ShloMosaic.Lib.Pipeline.ValueKit
public import Idealize.ShloMosaic.Lib.DynamicIndex

@[expose] public section

set_option maxRecDepth 16384

noncomputable section

open Idealize.ShloMosaic Idealize.ShloMosaic.TcCoe Idealize.SL.Sem Idealize.ShloMosaic.StableHlo

namespace Cert.Ret

open Cert.Reference4Ideal Cert.Reference4Ideal.Gen Cert.Reference4Ideal.Value

variable (m : (ℓ : Loc nD τ sig) → Buf (Elt Ideal) ℓ) (c : Dev nD)

/-- The reference's arguments. -/
abbrev rQ : X3 := m ((c.tc : Thread nD τ).loc main_arg0)
abbrev rK : X3 := m ((c.tc : Thread nD τ).loc main_arg1)
abbrev rV : X3 := m ((c.tc : Thread nD τ).loc main_arg2)
abbrev rG : X3 := m ((c.tc : Thread nD τ).loc main_arg3)
abbrev rGn : FVec Ideal ⟨1, ![512]⟩ .f32 := m ((c.tc : Thread nD τ).loc main_arg4)

/-- The contents at the loop's entry. -/
abbrev E0 : Valuation τ sig (Elt Ideal) := entryContents preI m c

theorem E0_q : E0 m c (Proc.devRef .tc main_v48_0)
    = transpose S128x2x4x128x128 [1, 0, 3, 2, 4] (shapeCast S2x128x128x4x128 (shapeCast S2x16384x4x128 (rQ m c) shapeCasts_S2x16384x512_S2x16384x4x128) shapeCasts_S2x16384x4x128_S2x128x128x4x128) transposes_S2x128x128x4x128_S128x2x4x128x128_1_0_3_2_4 := by
  simp only [entryContents, preI, afterL_cons, afterL_nil, hostOps0, hostOps0_1, hostOps0_2]
  after_results_entrywise []

theorem E0_st : E0 m c (Proc.devRef .tc main_v48_8) = broadcastInDim S2x4x128x128 ![] bcast_S_S2x4x128x128 (constant (F := Ideal) S_ .f32 0x00000000#32) := by
  simp only [entryContents, preI, afterL_cons, afterL_nil, hostOps0, hostOps0_1, hostOps0_2]
  after_results_entrywise []

/-- A chunk's rows of an array cut in chunks. -/
theorem chunk_at (X : FVec Ideal S128x2x4x128x128 .f32) (s : Fin 5 → Int) (n : Fin 128) (hs : s = ![(n.val : Int), 0, 0, 0, 0])
    (p : Fin 2) (h : Fin 4) (i d : Fin 128) :
    shapeCast S2x4x128x128 (Host.dynamicSlice S1x2x4x128x128 X s sliceFits_S128x2x4x128x128_S1x2x4x128x128) shapeCasts_S1x2x4x128x128_S2x4x128x128 (ix4 p h i d)
      = X (ix5 n p h i d) := by
  subst hs
  rw [Host.dynamicSlice_eq_extractStridedSlice S1x2x4x128x128 X _ ![n.val, 0, 0, 0, 0] _ ⟨rfl, fun a => by fin_cases a <;> simp <;> omega⟩ (fun a => by fin_cases a <;> simp)]
  pointwise

/-- The start of chunk `n`, as a trip's counter gives it. -/
theorem start_eq (ctr : Vec Ideal S_ .i32) (n : Fin 128) (hc : ctr = fun _ => BitVec.ofNat 32 n.val) :
    (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt)
      = ![(n.val : Int), 0, 0, 0, 0] := by
  subst hc
  funext k
  fin_cases k
  · exact toInt_ofNat_of_lt (by omega)
  all_goals rfl

/-- Writing chunk `n` of an array cut in chunks. -/
theorem put_at (X : FVec Ideal S128x2x4x128x128 .f32) (Y : FVec Ideal S2x4x128x128 .f32) (s : Fin 5 → Int) (n : Fin 128) (hs : s = ![(n.val : Int), 0, 0, 0, 0])
    (n' : Fin 128) (p : Fin 2) (h : Fin 4) (i d : Fin 128) :
    Host.dynamicUpdateSlice X (broadcastInDim S1x2x4x128x128 ![1, 2, 3, 4] bcast_S2x4x128x128_S1x2x4x128x128_1_2_3_4 Y) s updateFits_S128x2x4x128x128_S1x2x4x128x128 (ix5 n' p h i d)
      = if n' = n then Y (ix4 p h i d) else X (ix5 n' p h i d) := by
  subst hs
  have hcl : ∀ a : Fin 5, Host.clampedStart S128x2x4x128x128 S1x2x4x128x128 rfl ![(n.val : Int), 0, 0, 0, 0] a = (![n.val, 0, 0, 0, 0] : Fin 5 → ℕ) a := fun a =>
    Host.clampedStart_of_le (s := S128x2x4x128x128) (t := S1x2x4x128x128) rfl _ a _ (by fin_cases a <;> rfl) (by fin_cases a <;> simp <;> omega)
  rw [Host.dynamicUpdateSlice_apply]
  by_cases hn : n' = n
  · subst hn
    rw [dif_pos (fun (a : Fin 5) => by rw [hcl a]; fin_cases a <;> simp <;> omega), if_pos rfl]
    pointwise
    simp only [hcl]
    rfl
  · rw [dif_neg (fun hall => hn (by have := hall (0 : Fin 5); rw [hcl 0] at this; simp at this; omega)), if_neg hn]

/-- The head's decay logarithm, read off the reference's table. -/
theorem lit0_at (h : Fin 4) : Ideal.ofBits .f32 (lit0 (S4.rowMajor (ix1 h))) = lg h := by
  fin_cases h <;> rfl

theorem lit1_at (h : Fin 4) : Ideal.ofBits .f32 (lit1 (S4.rowMajor (ix1 h))) = cd h := by
  fin_cases h <;> rfl

/-- The differences of two rows' positions, as the reference makes them. -/
def refDelta : FVec Ideal S128x128 .f32 :=
  subf (broadcastInDim S128x128 ![0, 1] bcast_S128x1_S128x128_0_1 (broadcastInDim S128x1 ![0] bcast_S128_S128x1_0 (sitofp .f32 (iotaInDim S128 32 0))))
    (broadcastInDim S128x128 ![0, 1] bcast_S1x128_S128x128_0_1 (broadcastInDim S1x128 ![1] bcast_S128_S1x128_1 (sitofp .f32 (iotaInDim S128 32 0))))

/-- The decays inside a chunk, as the reference makes them. -/
def refDIn : FVec Ideal S4x128x128 .f32 :=
  select (broadcastInDim S4x128x128 ![0, 1, 2] bcast_S1x128x128_S4x128x128_0_1_2
      (cmpf .oge (broadcastInDim S1x128x128 ![1, 2] bcast_S128x128_S1x128x128_1_2 refDelta) (broadcastInDim S1x128x128 ![] bcast_S_S1x128x128 (constant S_ .f32 0#32))))
    (Host.exp (mulf
      (broadcastInDim S4x128x128 ![0, 1, 2] bcast_S4x1x1_S4x128x128_0_1_2 (broadcastInDim S4x1x1 ![0] bcast_S4_S4x1x1_0 fun i => FloatOps.ofBits .f32 (lit0 (S4.rowMajor i))))
      (broadcastInDim S4x128x128 ![0, 1, 2] bcast_S1x128x128_S4x128x128_0_1_2 (broadcastInDim S1x128x128 ![1, 2] bcast_S128x128_S1x128x128_1_2
        (maximumf refDelta (broadcastInDim S128x128 ![] bcast_S_S128x128 (constant S_ .f32 0#32)))))))
    (broadcastInDim S4x128x128 ![] bcast_S_S4x128x128 (constant S_ .f32 0#32))

theorem E0_dIn : E0 m c (Proc.devRef .tc main_v48_3) = refDIn := by
  simp only [entryContents, preI, afterL_cons, afterL_nil, hostOps0, hostOps0_1, hostOps0_2]
  after_results_simp_entrywise
  rfl

theorem delta_at (i j : Fin 128) : refDelta (ix2 i j) = (((i.val : ℝ) - (j.val : ℝ) : ℝ) : EReal) := by
  pointwise [refDelta]
  rw [EReal.coe_sub, ← sitofp_pos, ← sitofp_pos]

theorem dIn_at (h : Fin 4) (i j : Fin 128) : refDIn (ix3 h i j) = dIn h i j := by
  have hl := lit0_at h
  have hc : (0 ≤ refDelta (ix2 i j)) ↔ j ≤ i := by
    rw [delta_at, EReal.coe_nonneg, sub_nonneg, Nat.cast_le, Fin.le_def]
  pointwise [refDIn]
  rw [hl, if_congr hc rfl rfl, delta_at]
  rfl

/-- The decays from a chunk's start, as the reference makes them. -/
def refQd : FVec Ideal S4x128 .f32 :=
  Host.exp (mulf
    (broadcastInDim S4x128 ![0, 1] bcast_S4x1_S4x128_0_1 (broadcastInDim S4x1 ![0] bcast_S4_S4x1_0 fun i => FloatOps.ofBits .f32 (lit0 (S4.rowMajor i))))
    (broadcastInDim S4x128 ![0, 1] bcast_S1x128_S4x128_0_1 (broadcastInDim S1x128 ![1] bcast_S128_S1x128_1
      (addf (sitofp .f32 (iotaInDim S128 32 0)) (broadcastInDim S128 ![] bcast_S_S128 (constant S_ .f32 0x3F800000#32))))))

theorem E0_qd : E0 m c (Proc.devRef .tc main_v48_4) = refQd := by
  simp only [entryContents, preI, afterL_cons, afterL_nil, hostOps0, hostOps0_1, hostOps0_2]
  after_results_simp_entrywise
  rfl

theorem qd_at (h : Fin 4) (i : Fin 128) : refQd (ix2 h i) = qd h i := by
  have hl := lit0_at h
  have hs := sitofp_pos i
  unfold qd
  pointwise [refQd]
  rw [hl, hs]

/-- The decays to a chunk's end, as the reference makes them. -/
def refKd : FVec Ideal S4x128 .f32 :=
  Host.exp (mulf
    (broadcastInDim S4x128 ![0, 1] bcast_S4x1_S4x128_0_1 (broadcastInDim S4x1 ![0] bcast_S4_S4x1_0 fun i => FloatOps.ofBits .f32 (lit0 (S4.rowMajor i))))
    (broadcastInDim S4x128 ![0, 1] bcast_S1x128_S4x128_0_1 (broadcastInDim S1x128 ![1] bcast_S128_S1x128_1
      (subf (broadcastInDim S128 ![] bcast_S_S128 (constant S_ .f32 0x42FE0000#32)) (sitofp .f32 (iotaInDim S128 32 0))))))

theorem E0_kd : E0 m c (Proc.devRef .tc main_v48_6) = refKd := by
  simp only [entryContents, preI, afterL_cons, afterL_nil, hostOps0, hostOps0_1, hostOps0_2]
  after_results_simp_entrywise
  rfl

theorem kd_at (h : Fin 4) (i : Fin 128) : refKd (ix2 h i) = kd h i := by
  have hl := lit0_at h
  have hs := sitofp_pos i
  unfold kd
  pointwise [refKd]
  rw [hl, hs]

theorem E0_cd : E0 m c (Proc.devRef .tc main_v48_5) = (fun i => FloatOps.ofBits .f32 (lit1 (S4.rowMajor i)) : FVec Ideal S4 .f32) := by
  simp only [entryContents, preI, afterL_cons, afterL_nil, hostOps0, hostOps0_1, hostOps0_2]
  after_results_simp_entrywise
  rfl

theorem E0_k : E0 m c (Proc.devRef .tc main_v48_1)
    = transpose S128x2x4x128x128 [1, 0, 3, 2, 4] (shapeCast S2x128x128x4x128 (mulf (shapeCast S2x16384x4x128 (rK m c) shapeCasts_S2x16384x512_S2x16384x4x128)
        (broadcastInDim S2x16384x4x128 ![] bcast_S_S2x16384x4x128 (constant (F := Ideal) S_ .f32 0x3DB504F3#32))) shapeCasts_S2x16384x4x128_S2x128x128x4x128) transposes_S2x128x128x4x128_S128x2x4x128x128_1_0_3_2_4 := by
  simp only [entryContents, preI, afterL_cons, afterL_nil, hostOps0, hostOps0_1, hostOps0_2]
  after_results_simp_entrywise
  rfl

theorem E0_v : E0 m c (Proc.devRef .tc main_v48_2)
    = transpose S128x2x4x128x128 [1, 0, 3, 2, 4] (shapeCast S2x128x128x4x128 (shapeCast S2x16384x4x128 (rV m c) shapeCasts_S2x16384x512_S2x16384x4x128) shapeCasts_S2x16384x4x128_S2x128x128x4x128) transposes_S2x128x128x4x128_S128x2x4x128x128_1_0_3_2_4 := by
  simp only [entryContents, preI, afterL_cons, afterL_nil, hostOps0, hostOps0_1, hostOps0_2]
  after_results_simp_entrywise
  rfl

/-- The rows of a chunk and a head, of the array as given. -/
theorem cut_at (X : X3) (n : Fin 128) (p : Fin 2) (h : Fin 4) (i d : Fin 128) :
    transpose S128x2x4x128x128 [1, 0, 3, 2, 4] (shapeCast S2x128x128x4x128 (shapeCast S2x16384x4x128 X shapeCasts_S2x16384x512_S2x16384x4x128) shapeCasts_S2x16384x4x128_S2x128x128x4x128) transposes_S2x128x128x4x128_S128x2x4x128x128_1_0_3_2_4 (ix5 n p h i d)
      = X (ix3 p (pos n.val i) (col h d)) := by
  have e : (⟨n.val * 128 + i.val, by omega⟩ : Fin 16384) = pos n.val i := Fin.ext (Nat.mod_eq_of_lt (by omega)).symm
  rw [← e]
  unfold col
  pointwise

theorem kcut_at (X : X3) (n : Fin 128) (p : Fin 2) (h : Fin 4) (i d : Fin 128) :
    transpose S128x2x4x128x128 [1, 0, 3, 2, 4] (shapeCast S2x128x128x4x128 (mulf (shapeCast S2x16384x4x128 X shapeCasts_S2x16384x512_S2x16384x4x128)
        (broadcastInDim S2x16384x4x128 ![] bcast_S_S2x16384x4x128 (constant (F := Ideal) S_ .f32 0x3DB504F3#32))) shapeCasts_S2x16384x4x128_S2x128x128x4x128) transposes_S2x128x128x4x128_S128x2x4x128x128_1_0_3_2_4 (ix5 n p h i d)
      = ks X p (pos n.val i) (col h d) := by
  have e : (⟨n.val * 128 + i.val, by omega⟩ : Fin 16384) = pos n.val i := Fin.ext (Nat.mod_eq_of_lt (by omega)).symm
  rw [← e]
  unfold ks col
  pointwise

/-- A chunk of the array as given, read at a trip's counter. -/
theorem res_at (X : X3) (ctr : Vec Ideal S_ .i32) (n : Fin 128) (hc : ctr = fun _ => BitVec.ofNat 32 n.val) (A : FVec Ideal S128x2x4x128x128 .f32)
    (p : Fin 2) (h : Fin 4) (i d : Fin 128) :
    shapeCast S2x4x128x128 (Host.dynamicSlice S1x2x4x128x128 A (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S128x2x4x128x128_S1x2x4x128x128) shapeCasts_S1x2x4x128x128_S2x4x128x128 (ix4 p h i d)
      = A (ix5 n p h i d) :=
  chunk_at A _ n (start_eq ctr n hc) p h i d

/-- What the loop carries before trip `k`. -/
structure Inv (k : ℕ) (W : Valuation τ sig (Elt Ideal)) : Prop where
  q : W (Proc.devRef .tc main_v48_0) = E0 m c (Proc.devRef .tc main_v48_0)
  k' : W (Proc.devRef .tc main_v48_1) = E0 m c (Proc.devRef .tc main_v48_1)
  v : W (Proc.devRef .tc main_v48_2) = E0 m c (Proc.devRef .tc main_v48_2)
  dI : W (Proc.devRef .tc main_v48_3) = E0 m c (Proc.devRef .tc main_v48_3)
  qD : W (Proc.devRef .tc main_v48_4) = E0 m c (Proc.devRef .tc main_v48_4)
  cD : W (Proc.devRef .tc main_v48_5) = E0 m c (Proc.devRef .tc main_v48_5)
  kD : W (Proc.devRef .tc main_v48_6) = E0 m c (Proc.devRef .tc main_v48_6)
  ctr : W (Proc.devRef .tc main_v48_7) = fun _ => BitVec.ofNat 32 k
  state : ∀ (p : Fin 2) (h : Fin 4) (d e : Fin 128), W (Proc.devRef .tc main_v48_8) (ix4 p h d e) = st (rK m c) (rV m c) p h k d e
  rows : ∀ (n : Fin 128) (p : Fin 2) (h : Fin 4) (i e : Fin 128), n.val < k →
    W (Proc.devRef .tc main_v48_9) (ix5 n p h i e) = yAt (rQ m c) (rK m c) (rV m c) p h n.val i e

theorem inv_zero : Inv m c 0 (E0 m c) where
  q := rfl
  k' := rfl
  v := rfl
  dI := rfl
  qD := rfl
  cD := rfl
  kD := rfl
  ctr := by
    simp only [entryContents, preI, afterL_cons, afterL_nil, hostOps0, hostOps0_1, hostOps0_2]
    after_results_simp_entrywise
    rfl
  state := fun p h d e => by
    rw [E0_st]
    pointwise
    rfl
  rows := fun n p h i e hn => absurd hn (Nat.not_lt_zero _)

section Trip

variable (k : ℕ) (W : Valuation τ sig (Elt Ideal)) (H : Inv m c k W) (hk : k < 128)
include H hk

theorem trip_q (p : Fin 2) (h : Fin 4) (i d : Fin 128) : res_main_while0b_v76 W (ix4 p h i d) = rQ m c (ix3 p (pos k i) (col h d)) := by
  unfold res_main_while0b_v76
  refine (chunk_at _ _ ⟨k, hk⟩ (start_eq _ ⟨k, hk⟩ H.ctr) p h i d).trans ?_
  rw [H.q, E0_q]
  exact cut_at _ ⟨k, hk⟩ p h i d

theorem trip_k (p : Fin 2) (h : Fin 4) (i d : Fin 128) : res_main_while0b_v77 W (ix4 p h i d) = ks (rK m c) p (pos k i) (col h d) := by
  unfold res_main_while0b_v77
  refine (chunk_at _ _ ⟨k, hk⟩ (start_eq _ ⟨k, hk⟩ H.ctr) p h i d).trans ?_
  rw [H.k', E0_k]
  exact kcut_at _ ⟨k, hk⟩ p h i d

theorem trip_v (p : Fin 2) (h : Fin 4) (i d : Fin 128) : res_main_while0b_v78 W (ix4 p h i d) = rV m c (ix3 p (pos k i) (col h d)) := by
  unfold res_main_while0b_v78
  refine (chunk_at _ _ ⟨k, hk⟩ (start_eq _ ⟨k, hk⟩ H.ctr) p h i d).trans ?_
  rw [H.v, E0_v]
  exact cut_at _ ⟨k, hk⟩ p h i d

end Trip

/-- One trip's state and rows, as functions of the chunk's rows and the tables. -/
def stepState (S : FVec Ideal S2x4x128x128 .f32) (cD : FVec Ideal S4 .f32) (kD : FVec Ideal S4x128 .f32) (kc vc : FVec Ideal S2x4x128x128 .f32) : FVec Ideal S2x4x128x128 .f32 :=
  addf (mulf S (broadcastInDim S2x4x128x128 ![0, 1, 2, 3] bcast_S1x4x1x1_S2x4x128x128_0_1_2_3 (broadcastInDim S1x4x1x1 ![1] bcast_S4_S1x4x1x1_1 cD)))
    (Host.dotGeneral dot_S2x4x128x128_S2x4x128x128_S2x4x128x128_2_2_3_3_01_01 none
      (mulf kc (broadcastInDim S2x4x128x128 ![0, 1, 2, 3] bcast_S1x4x128x1_S2x4x128x128_0_1_2_3 (broadcastInDim S1x4x128x1 ![1, 2] bcast_S4x128_S1x4x128x1_1_2 kD))) vc)

def stepRows (S : FVec Ideal S2x4x128x128 .f32) (dI : FVec Ideal S4x128x128 .f32) (qD : FVec Ideal S4x128 .f32) (qc kc vc : FVec Ideal S2x4x128x128 .f32) : FVec Ideal S2x4x128x128 .f32 :=
  addf (Host.dotGeneral dot_S2x4x128x128_S2x4x128x128_S2x4x128x128_3_2_2_3_01_01 none
      (mulf (Host.dotGeneral dot_S2x4x128x128_S2x4x128x128_S2x4x128x128_3_3_2_2_01_01 none qc kc)
        (broadcastInDim S2x4x128x128 ![0, 1, 2, 3] bcast_S1x4x128x128_S2x4x128x128_0_1_2_3 (broadcastInDim S1x4x128x128 ![1, 2, 3] bcast_S4x128x128_S1x4x128x128_1_2_3 dI))) vc)
    (Host.dotGeneral dot_S2x4x128x128_S2x4x128x128_S2x4x128x128_3_2_2_3_01_01 none
      (mulf qc (broadcastInDim S2x4x128x128 ![0, 1, 2, 3] bcast_S1x4x128x1_S2x4x128x128_0_1_2_3 (broadcastInDim S1x4x128x1 ![1, 2] bcast_S4x128_S1x4x128x1_1_2 qD))) S)

theorem stepState_at (S : FVec Ideal S2x4x128x128 .f32) (cD : FVec Ideal S4 .f32) (kD : FVec Ideal S4x128 .f32) (kc vc : FVec Ideal S2x4x128x128 .f32) (p : Fin 2) (h : Fin 4) (d e : Fin 128) :
    stepState S cD kD kc vc (ix4 p h d e) = S (ix4 p h d e) * cD (ix1 h) + ∑ j : Fin 128, (kc (ix4 p h j d) * kD (ix2 h j)) * vc (ix4 p h j e) := by
  pointwise [stepState]

theorem stepRows_at (S : FVec Ideal S2x4x128x128 .f32) (dI : FVec Ideal S4x128x128 .f32) (qD : FVec Ideal S4x128 .f32) (qc kc vc : FVec Ideal S2x4x128x128 .f32) (p : Fin 2) (h : Fin 4) (i e : Fin 128) :
    stepRows S dI qD qc kc vc (ix4 p h i e) = (∑ j : Fin 128, ((∑ d : Fin 128, qc (ix4 p h i d) * kc (ix4 p h j d)) * dI (ix3 h i j)) * vc (ix4 p h j e))
      + ∑ d : Fin 128, (qc (ix4 p h i d) * qD (ix2 h i)) * S (ix4 p h d e) := by
  pointwise [stepRows]

theorem inv_succ (k : ℕ) (W : Valuation τ sig (Elt Ideal)) (H : Inv m c k W) (hk : k < 128) : Inv m c (k + 1) (STEP W) where
  q := (STEP_main_v48_0 W).trans H.q
  k' := (STEP_main_v48_1 W).trans H.k'
  v := (STEP_main_v48_2 W).trans H.v
  dI := (STEP_main_v48_3 W).trans H.dI
  qD := (STEP_main_v48_4 W).trans H.qD
  cD := (STEP_main_v48_5 W).trans H.cD
  kD := (STEP_main_v48_6 W).trans H.kD
  ctr := by
    rw [STEP_main_v48_7]
    unfold step_main_v48_7
    rw [H.ctr]
    funext x
    show BitVec.ofNat 32 k + 1#32 = BitVec.ofNat 32 (k + 1)
    rw [BitVec.ofNat_add]
  state := fun p h d e => by
    rw [STEP_main_v48_8]
    show stepState (W (Proc.devRef .tc main_v48_8)) (W (Proc.devRef .tc main_v48_5)) (W (Proc.devRef .tc main_v48_6)) (res_main_while0b_v77 W) (res_main_while0b_v78 W) (ix4 p h d e) = _
    rw [stepState_at, H.state, H.cD, H.kD, E0_cd, E0_kd]
    simp only [trip_k m c k W H hk, trip_v m c k W H hk, kd_at]
    exact congrArg (fun z => _ * z + _) (lit1_at h)
  rows := fun n p h i e hn => by
    rw [STEP_main_v48_9]
    show Host.dynamicUpdateSlice (W (Proc.devRef .tc main_v48_9)) (broadcastInDim S1x2x4x128x128 ![1, 2, 3, 4] bcast_S2x4x128x128_S1x2x4x128x128_1_2_3_4
      (stepRows (W (Proc.devRef .tc main_v48_8)) (W (Proc.devRef .tc main_v48_3)) (W (Proc.devRef .tc main_v48_4)) (res_main_while0b_v76 W) (res_main_while0b_v77 W) (res_main_while0b_v78 W))) _ updateFits_S128x2x4x128x128_S1x2x4x128x128 (ix5 n p h i e) = _
    refine (put_at _ _ _ ⟨k, hk⟩ (start_eq _ ⟨k, hk⟩ H.ctr) n p h i e).trans ?_
    by_cases hnk : n = ⟨k, hk⟩
    · rw [if_pos hnk, stepRows_at, H.dI, H.qD, E0_dIn, E0_qd]
      simp only [trip_q m c k W H hk, trip_k m c k W H hk, trip_v m c k W H hk, dIn_at, qd_at, H.state]
      subst hnk
      rfl
    · rw [if_neg hnk]
      exact H.rows n p h i e (by have : n.val ≠ k := fun e => hnk (Fin.ext e); omega)

theorem inv_all : ∀ k, k ≤ 128 → Inv m c k (STEP^[k] (E0 m c))
  | 0, _ => inv_zero m c
  | k + 1, hk => by
    rw [Function.iterate_succ_apply']
    exact inv_succ m c k _ (inv_all k (by omega)) (by omega)

/-- The rows' norm, as the reference makes it. -/
def refMean (Y : FVec Ideal S2x16384x4x128 .f32) : FVec Ideal S2x16384x4x1 .f32 :=
  Host.divf (broadcastInDim S2x16384x4x1 ![0, 1, 2] bcast_S2x16384x4_S2x16384x4x1_0_1_2 (Host.reduceAdd Y (constant S_ .f32 0x00000000#32) reducesTo_S2x16384x4x128_S2x16384x4_d3 h_S_))
    (broadcastInDim S2x16384x4x1 ![] bcast_S_S2x16384x4x1 (constant S_ .f32 0x43000000#32))

def refCentre (Y : FVec Ideal S2x16384x4x128 .f32) : FVec Ideal S2x16384x4x128 .f32 :=
  subf Y (broadcastInDim S2x16384x4x128 ![0, 1, 2, 3] bcast_S2x16384x4x1_S2x16384x4x128_0_1_2_3 (refMean Y))

def refUnit (Y : FVec Ideal S2x16384x4x128 .f32) : FVec Ideal S2x16384x4x128 .f32 :=
  mulf (refCentre Y) (broadcastInDim S2x16384x4x128 ![0, 1, 2, 3] bcast_S2x16384x4x1_S2x16384x4x128_0_1_2_3
    (Host.rsqrt (addf (refMean (mulf (refCentre Y) (refCentre Y))) (broadcastInDim S2x16384x4x1 ![] bcast_S_S2x16384x4x1 (constant S_ .f32 0x3727C5AC#32)))))

def refGate (U : FVec Ideal S2x16384x4x128 .f32) (g : X3) (gn : FVec Ideal ⟨1, ![512]⟩ .f32) : FVec Ideal ⟨3, ![2, 16384, 512]⟩ .bf16 :=
  truncf .bf16 (mulf (mulf (shapeCast S2x16384x512 U shapeCasts_S2x16384x4x128_S2x16384x512)
      (broadcastInDim S2x16384x512 ![0, 1, 2] bcast_S1x1x512_S2x16384x512_0_1_2 (broadcastInDim S1x1x512 ![2] bcast_S512_S1x1x512_2 gn)))
    (mulf g (Host.divf (broadcastInDim S2x16384x512 ![] bcast_S_S2x16384x512 (constant S_ .f32 0x3F800000#32))
      (addf (broadcastInDim S2x16384x512 ![] bcast_S_S2x16384x512 (constant S_ .f32 0x3F800000#32)) (Host.exp (Host.negf g)))))) bitsLt_bf16_f32

def refCat (O : FVec Ideal S128x2x4x128x128 .f32) : FVec Ideal S2x16384x4x128 .f32 :=
  shapeCast S2x16384x4x128 (transpose S2x128x128x4x128 [1, 0, 3, 2, 4] O transposes_S128x2x4x128x128_S2x128x128x4x128_1_0_3_2_4) shapeCasts_S2x128x128x4x128_S2x16384x4x128

theorem refOut_split (W : Valuation τ sig (Elt Ideal)) : out_main_v75 W
    = refGate (refUnit (refCat (W (Proc.devRef .tc main_v48_9)))) (W (Proc.devRef .tc main_arg3)) (W (Proc.devRef .tc main_arg4)) := rfl

theorem refMean_at (Y : FVec Ideal S2x16384x4x128 .f32) (p : Fin 2) (s : Fin 16384) (h : Fin 4) :
    refMean Y (ix4 p s h 0) = mean (fun e => Y (ix4 p s h e)) := by
  unfold mean
  pointwise [refMean]

theorem refCentre_at (Y : FVec Ideal S2x16384x4x128 .f32) (p : Fin 2) (s : Fin 16384) (h : Fin 4) (e : Fin 128) :
    refCentre Y (ix4 p s h e) = Y (ix4 p s h e) - mean (fun e => Y (ix4 p s h e)) := by
  rw [← refMean_at]
  pointwise [refCentre]

theorem refUnit_at (Y : FVec Ideal S2x16384x4x128 .f32) (p : Fin 2) (s : Fin 16384) (h : Fin 4) (e : Fin 128) :
    refUnit Y (ix4 p s h e) = unitRow (fun e => Y (ix4 p s h e)) e := by
  have hm := refMean_at (mulf (refCentre Y) (refCentre Y)) p s h
  unfold unitRow
  simp only [← refCentre_at]
  pointwise [refUnit]
  rw [hm]
  rfl

theorem refCat_at (O : FVec Ideal S128x2x4x128x128 .f32) (p : Fin 2) (s : Fin 16384) (h : Fin 4) (e : Fin 128) :
    refCat O (ix4 p s h e) = O (ix5 ⟨s.val / 128, by omega⟩ p h ⟨s.val % 128, by omega⟩ e) := by
  pointwise [refCat]

theorem refGate_at (U : FVec Ideal S2x16384x4x128 .f32) (g : X3) (gn : FVec Ideal ⟨1, ![512]⟩ .f32) (p : Fin 2) (s : Fin 16384) (j : Fin 512) :
    refGate U g gn (ix3 p s j) = (U (ix4 p s ⟨j.val / 128, by omega⟩ ⟨j.val % 128, by omega⟩) * gn (ix1 j)) * (g (ix3 p s j) * Ideal.logistic (g (ix3 p s j))) := by
  pointwise [refGate]
  rfl

theorem refOut_all : out_main_v75 (STEP^[128] (E0 m c)) = retOut (rQ m c) (rK m c) (rV m c) (rG m c) (rGn m c) := by
  rw [refOut_split]
  funext x
  obtain ⟨p, s, j, rfl⟩ : ∃ (p : Fin 2) (s : Fin 16384) (j : Fin 512), x = ix3 p s j := ⟨x 0, x 1, x 2, eq_ix3 x⟩
  rw [refGate_at, refUnit_at]
  simp only [refCat_at]
  rw [iter_main_arg3 m c 128, iter_main_arg4 m c 128]
  simp only [(inv_all m c 128 le_rfl).rows _ _ _ _ _ (Fin.isLt _)]
  have es : pos (s.val / 128) ⟨s.val % 128, by omega⟩ = s := Fin.ext (by show (s.val / 128 * 128 + s.val % 128) % 16384 = s.val; omega)
  have ej : col ⟨j.val / 128, by omega⟩ ⟨j.val % 128, by omega⟩ = j := Fin.ext (by show j.val / 128 * 128 + j.val % 128 = j.val; omega)
  show _ = outAt (rQ m c) (rK m c) (rV m c) (rG m c) (rGn m c) p ⟨j.val / 128, _⟩ (s.val / 128) ⟨s.val % 128, _⟩ ⟨j.val % 128, _⟩
  unfold outAt
  rw [es, ej]

end Cert.Ret
-- ==== Proof.lean ====
module

public import proofs.«01_k».proof.Defs
public import proofs.«01_k».proof.Proof.Gen.Kernel
public import proofs.«01_k».proof.Proof.DiffFrame
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.MixVal
public import proofs.«01_k».proof.Proof.MixRef
public import proofs.«01_k».proof.Proof.ProjFin
public import proofs.«01_k».proof.Proof.ProjRef
public import Idealize.ShloMosaic.Adequacy
public import Idealize.ShloMosaic.Init
public import Idealize.ShloMosaic.Lib.Quiescent
public import proofs.«01_k».proof.Proof.RetVal
public import proofs.«01_k».proof.Proof.RetRef

@[expose] public section

set_option maxRecDepth 65536

noncomputable section

namespace Cert.Proof

open Idealize.ShloMosaic Idealize.SL.Sem

/-- The two programs of the differential attention have one text, so their bodies' tables are one. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => exact rfl
  | ⟨_ + 1, h⟩, _ => exact absurd h (Nat.not_lt.2 (Nat.le_add_left _ _))

theorem tables_eq : Cert.Kernel.defs (F := Bits) = Cert.KernelIdeal.defs (F := Bits) := by
  unfold Cert.Kernel.defs Cert.KernelIdeal.defs
  rw [bodies_eq]; rfl

/-- The differential attention's frame over the machine's floats: the run over any floats, at these. -/
theorem quiescent_Kernel : quiescent_Kernel := fun m ρ _ => by
  rw [tables_eq]
  exact (θ_run Cert.KernelIdeal.defs _ _).mono (fun _ h => h) (Cert.KernelIdeal.Diff.frame (F := Bits) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- On memories that agree on the twelve arguments, the reference's result array is the kernel's. -/
theorem tail_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (h9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (h10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10))
    (h11 : m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) :
    Cert.Mix.refOut (StableHlo.launchContents m' c) = Cert.Mix.kerOut m c := by
  funext i
  refine (congrArg (Cert.Mix.refOut (StableHlo.launchContents m' c)) (eq_ix2 i)).trans ((Cert.Mix.refOut_at (StableHlo.launchContents m' c) (i 0) (i 1)).trans ?_)
  unfold Cert.Mix.kerOut Cert.Mix.kerTail Cert.Mix.kerX Cert.Mix.refX
  rw [← h0, ← h1, ← h2, ← h3, ← h4, ← h5, ← h6, ← h7, ← h8, ← h9, ← h10, ← h11]

/-- Kernel and reference compute the same function over the extended reals. -/
theorem algebraic_Kernel2Ideal_Reference2Ideal : algebraic_Kernel2Ideal_Reference2Ideal := by
  intro m ρ m' ρ' _ hagree
  refine ⟨fun c => Cert.Mix.kerOut m c, ?_, ?_⟩
  · refine (θ_run Cert.Kernel2Ideal.defs _ _).mono (fun _ h c => ⟨(h c).1.trans (Cert.Mix.final m c), (h c).2⟩) (Cert.Kernel2Ideal.Value.run_blocks (F := Ideal) m ρ)
  · refine (θ_run Cert.Reference2Ideal.defs _ _).mono (fun _ h c => ⟨(h c).1.trans ?_, (h c).2⟩) (Cert.Reference2Ideal.Value.run (F := Ideal) m' ρ')
    obtain ⟨h0, h1, h2, h3, h4, h5, h6, h7, h8, h9, h10, h11⟩ := hagree c
    exact tail_eq m m' c h0 h1 h2 h3 h4 h5 h6 h7 h8 h9 h10 h11

theorem quiescent_Reference3Ideal : quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

/-- Kernel and reference of the projections compute the same seven functions over the extended reals. -/
theorem algebraic_Kernel3Ideal_Reference3Ideal : algebraic_Kernel3Ideal_Reference3Ideal := by
  intro m ρ m' ρ' _ hagree
  refine ⟨fun c => Cert.Proj.rqOut (Cert.Proj.kerIn m c) (Cert.Proj.kerW m c), fun c => Cert.Proj.rkOut (Cert.Proj.kerIn m c) (Cert.Proj.kerW m c),
    fun c => Cert.Proj.colsOut (Cert.Proj.kerIn m c) (Cert.Proj.kerW m c) 1024 (by omega), fun c => Cert.Proj.colsOut (Cert.Proj.kerIn m c) (Cert.Proj.kerW m c) 1536 (by omega),
    fun c => Cert.Proj.dqOut (Cert.Proj.kerIn m c) (Cert.Proj.kerW m c), fun c => Cert.Proj.colsOut (Cert.Proj.kerIn m c) (Cert.Proj.kerW m c) 2560 (by omega),
    fun c => Cert.Proj.dvOut (Cert.Proj.kerIn m c) (Cert.Proj.kerW m c), ?_, ?_⟩
  · refine (θ_run Cert.Kernel3Ideal.defs _ _).mono (fun _ h c => ?_) (Cert.Kernel3Ideal.Value.run_blocks (F := Ideal) m ρ)
    obtain ⟨h0, h1, h2, h3, h4, h5, h6, hargs⟩ := h c
    exact ⟨h0.trans (Cert.Proj.final8 m c), h1.trans (Cert.Proj.final9 m c), h2.trans (Cert.Proj.final10 m c), h3.trans (Cert.Proj.final11 m c),
      h4.trans (Cert.Proj.final12 m c), h5.trans (Cert.Proj.final13 m c), h6.trans (Cert.Proj.final14 m c), hargs⟩
  · refine (θ_run Cert.Reference3Ideal.defs _ _).mono (fun _ h c => ?_) (Cert.Reference3Ideal.Value.run (F := Ideal) m' ρ')
    have ex : Cert.Proj.refIn m' c = Cert.Proj.kerIn m c := (hagree c).1
    have ew : Cert.Proj.refW m' c = Cert.Proj.kerW m c := (hagree c).2
    beta_reduce
    rw [← ex, ← ew]
    obtain ⟨h0, h1, h2, h3, h4, h5, h6, hargs⟩ := h c
    exact ⟨h0.trans (Cert.Proj.refRq_all m' c), h1.trans (Cert.Proj.refRk_all m' c), h2.trans (Cert.Proj.refRv_all m' c), h3.trans (Cert.Proj.refRg_all m' c),
      h4.trans (Cert.Proj.refDq_all m' c), h5.trans (Cert.Proj.refDk_all m' c), h6.trans (Cert.Proj.refDv_all m' c), hargs⟩

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference of the retention compute the same function over the extended reals. -/
theorem algebraic_Kernel4Ideal_Reference4Ideal : algebraic_Kernel4Ideal_Reference4Ideal := by
  intro m ρ m' ρ' _ hagree
  refine ⟨fun c => Cert.Ret.retOut (Cert.Ret.kQ m c) (Cert.Ret.kK m c) (Cert.Ret.kV m c) (Cert.Ret.kG m c) (Cert.Ret.kGn m c), ?_, ?_⟩
  · exact (θ_run Cert.Kernel4Ideal.defs _ _).mono (fun _ h c => ⟨(h c).1.trans (Cert.Ret.final5 m c), (h c).2⟩) (Cert.Kernel4Ideal.Value.run_blocks (F := Ideal) m ρ)
  · refine (θ_run Cert.Reference4Ideal.defs _ _).mono (fun _ h c => ?_) (Cert.Reference4Ideal.Value.run (F := Ideal) m' ρ')
    have e0 : Cert.Ret.rQ m' c = Cert.Ret.kQ m c := (hagree c).1
    have e1 : Cert.Ret.rK m' c = Cert.Ret.kK m c := (hagree c).2.1
    have e2 : Cert.Ret.rV m' c = Cert.Ret.kV m c := (hagree c).2.2.1
    have e3 : Cert.Ret.rG m' c = Cert.Ret.kG m c := (hagree c).2.2.2.1
    have e4 : Cert.Ret.rGn m' c = Cert.Ret.kGn m c := (hagree c).2.2.2.2
    beta_reduce
    rw [← e0, ← e1, ← e2, ← e3, ← e4]
    exact ⟨(h c).1.trans (Cert.Ret.refOut_all m' c), (h c).2⟩

theorem claim : Cert.Claim := ⟨Cert.Kernel.Gen.facts, Cert.KernelIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  quiescent_Kernel, fun m ρ _ => Cert.KernelIdeal.Diff.frame m ρ,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  (trivial : preserves_Kernel_KernelIdeal), (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal⟩

end Cert.Proof

end
